-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v118_0)) (v1 : (c : Dev Cert.Kernel2Ideal.nD) → Buf (Elt Ideal) ((c.tc : Thread Cert.Kernel2Ideal.nD Cert.Kernel2Ideal.τ).loc Cert.Kernel2Ideal.main_v118_1)) (v2 : (c : Dev Cert.Kernel2Ideal.nD) → Buf (Elt Ideal) ((c.tc : Thread Cert.Kernel2Ideal.nD Cert.Kernel2Ideal.τ).loc Cert.Kernel2Ideal.main_v118_2)) (v3 : (c : Dev Cert.Kernel2Ideal.nD) → Buf (Elt Ideal) ((c.tc : Thread Cert.Kernel2Ideal.nD Cert.Kernel2Ideal.τ).loc Cert.Kernel2Ideal.main_v118_3)) (v4 : (c : Dev Cert.Kernel2Ideal.nD) → Buf (Elt Ideal) ((c.tc : Thread Cert.Kernel2Ideal.nD Cert.Kernel2Ideal.τ).loc Cert.Kernel2Ideal.main_v118_5)) (v5 : (c : Dev Cert.Kernel2Ideal.nD) → Buf (Elt Ideal) ((c.tc : Thread Cert.Kernel2Ideal.nD Cert.Kernel2Ideal.τ).loc Cert.Kernel2Ideal.main_v118_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v118_0) = v0 c
          ∧ r.2.mem ((c.tc : Thread Cert.Kernel2Ideal.nD Cert.Kernel2Ideal.τ).loc Cert.Kernel2Ideal.main_v118_1) = v1 c
          ∧ r.2.mem ((c.tc : Thread Cert.Kernel2Ideal.nD Cert.Kernel2Ideal.τ).loc Cert.Kernel2Ideal.main_v118_2) = v2 c
          ∧ r.2.mem ((c.tc : Thread Cert.Kernel2Ideal.nD Cert.Kernel2Ideal.τ).loc Cert.Kernel2Ideal.main_v118_3) = v3 c
          ∧ r.2.mem ((c.tc : Thread Cert.Kernel2Ideal.nD Cert.Kernel2Ideal.τ).loc Cert.Kernel2Ideal.main_v118_5) = v4 c
          ∧ r.2.mem ((c.tc : Thread Cert.Kernel2Ideal.nD Cert.Kernel2Ideal.τ).loc Cert.Kernel2Ideal.main_v118_6) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_v153) = v1 c
          ∧ r.2.mem ((c.tc : Thread Cert.Reference2Ideal.nD Cert.Reference2Ideal.τ).loc Cert.Reference2Ideal.main_v156) = v2 c
          ∧ r.2.mem ((c.tc : Thread Cert.Reference2Ideal.nD Cert.Reference2Ideal.τ).loc Cert.Reference2Ideal.main_v157) = v3 c
          ∧ r.2.mem ((c.tc : Thread Cert.Reference2Ideal.nD Cert.Reference2Ideal.τ).loc Cert.Reference2Ideal.main_v164) = v4 c
          ∧ r.2.mem ((c.tc : Thread Cert.Reference2Ideal.nD Cert.Reference2Ideal.τ).loc Cert.Reference2Ideal.main_v171) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S8x4096x1024 : Shape := ⟨3, ![8, 4096, 1024]⟩
abbrev S8x4x4096x128 : Shape := ⟨4, ![8, 4, 4096, 128]⟩
abbrev S32x8x256x256 : Shape := ⟨4, ![32, 8, 256, 256]⟩
abbrev S8x4096x512 : Shape := ⟨3, ![8, 4096, 512]⟩
abbrev S16x6144 : Shape := ⟨2, ![16, 6144]⟩
abbrev S1x512 : Shape := ⟨2, ![1, 512]⟩
abbrev S1x1024 : Shape := ⟨2, ![1, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S256x256 : Shape := ⟨2, ![256, 256]⟩
abbrev S16x1x6144 : Shape := ⟨3, ![16, 1, 6144]⟩
abbrev S512 : Shape := ⟨1, ![512]⟩
abbrev S1x512x1024 : Shape := ⟨3, ![1, 512, 1024]⟩
abbrev S1x4x512x128 : Shape := ⟨4, ![1, 4, 512, 128]⟩
abbrev S32x1x32x256 : Shape := ⟨4, ![32, 1, 32, 256]⟩
abbrev S1x512x512 : Shape := ⟨3, ![1, 512, 512]⟩
abbrev S1x1x6144 : Shape := ⟨3, ![1, 1, 6144]⟩
abbrev S512x2816 : Shape := ⟨2, ![512, 2816]⟩
abbrev S2x256x512 : Shape := ⟨3, ![2, 256, 512]⟩
abbrev S1x1x1024 : Shape := ⟨3, ![1, 1, 1024]⟩
abbrev S1x128 : Shape := ⟨2, ![1, 128]⟩
abbrev S1x1x16x128 : Shape := ⟨4, ![1, 1, 16, 128]⟩
abbrev S16x128 : Shape := ⟨2, ![16, 128]⟩
abbrev S1x16x128 : Shape := ⟨3, ![1, 16, 128]⟩
abbrev S1x256x512 : Shape := ⟨3, ![1, 256, 512]⟩
abbrev S256x512 : Shape := ⟨2, ![256, 512]⟩
abbrev S256x1024 : Shape := ⟨2, ![256, 1024]⟩
abbrev S1x1x256x128 : Shape := ⟨4, ![1, 1, 256, 128]⟩
abbrev S256x128 : Shape := ⟨2, ![256, 128]⟩
abbrev S1x256x1024 : Shape := ⟨3, ![1, 256, 1024]⟩
abbrev S256 : Shape := ⟨1, ![256]⟩
abbrev S256x1 : Shape := ⟨2, ![256, 1]⟩
abbrev S1024x256 : Shape := ⟨2, ![1024, 256]⟩
abbrev S256x2816 : Shape := ⟨2, ![256, 2816]⟩

abbrev nBuf : Space → Nat
  | .hbm => 24
  | .vmem => 30
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x128, .bf16⟩
  | .hbm, ⟨2, _⟩ => ⟨S32x8x256x256, .bf16⟩
  | .hbm, ⟨3, _⟩ => ⟨S8x4096x512, .bf16⟩
  | .hbm, ⟨4, _⟩ => ⟨S8x4096x1024, .bf16⟩
  | .hbm, ⟨5, _⟩ => ⟨S8x4096x1024, .bf16⟩
  | .hbm, ⟨6, _⟩ => ⟨S16x6144, .f32⟩
  | .hbm, ⟨7, _⟩ => ⟨S1x512, .f32⟩
  | .hbm, ⟨8, _⟩ => ⟨S1x1024, .f32⟩
  | .hbm, ⟨9, _⟩ => ⟨S1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S1024x5632, .bf16⟩
  | .hbm, ⟨15, _⟩ => ⟨S2816x1024, .bf16⟩
  | .hbm, ⟨16, _⟩ => ⟨S256x256, .bf16⟩
  | .hbm, ⟨17, _⟩ => ⟨S16x1x6144, .f32⟩
  | .hbm, ⟨18, _⟩ => ⟨S512, .f32⟩
  | .hbm, ⟨19, _⟩ => ⟨S1x512, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x4x512x128, .bf16⟩
  | .local _ .vmem, ⟨3, _⟩ => ⟨S1x4x512x128, .bf16⟩
  | .local _ .vmem, ⟨4, _⟩ => ⟨S32x1x32x256, .bf16⟩
  | .local _ .vmem, ⟨5, _⟩ => ⟨S32x1x32x256, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x1x6144, .f32⟩
  | .local _ .vmem, ⟨13, _⟩ => ⟨S1x1x6144, .f32⟩
  | .local _ .vmem, ⟨14, _⟩ => ⟨S1x512, .f32⟩
  | .local _ .vmem, ⟨15, _⟩ => ⟨S1x1024, .f32⟩
  | .local _ .vmem, ⟨16, _⟩ => ⟨S1x1024, .f32⟩
  | .local _ .vmem, ⟨17, _⟩ => ⟨S256x256, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S1024x1024, .bf16⟩
  | .local _ .vmem, ⟨22, _⟩ => ⟨S1024x5632, .bf16⟩
  | .local _ .vmem, ⟨23, _⟩ => ⟨S2816x1024, .bf16⟩
  | .local _ .vmem, ⟨24, _⟩ => ⟨S1x512x1024, .f32⟩
  | .local _ .vmem, ⟨25, _⟩ => ⟨S1x512x1024, .f32⟩
  | .local _ .vmem, ⟨26, _⟩ => ⟨S512x1024, .f32⟩
  | .local _ .vmem, ⟨27, _⟩ => ⟨S512x1024, .bf16⟩
  | .local _ .vmem, ⟨28, _⟩ => ⟨S512x2816, .bf16⟩
  | .local _ .vmem, ⟨29, _⟩ => ⟨S2x256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg17_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S32x1x32x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x6144 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x5632 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S2816x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S1x512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8x4096x1024 : Shape := ⟨3, ![8, 4096, 1024]⟩
abbrev S8x4x4096x128 : Shape := ⟨4, ![8, 4, 4096, 128]⟩
abbrev S32x8x256x256 : Shape := ⟨4, ![32, 8, 256, 256]⟩
abbrev S8x4096x512 : Shape := ⟨3, ![8, 4096, 512]⟩
abbrev S16x6144 : Shape := ⟨2, ![16, 6144]⟩
abbrev S1x512 : Shape := ⟨2, ![1, 512]⟩
abbrev S1x1024 : Shape := ⟨2, ![1, 1024]⟩
abbrev S1024 : Shape := ⟨1, ![1024]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S8x4096x4x128 : Shape := ⟨4, ![8, 4096, 4, 128]⟩
abbrev S32x8x256x16x16 : Shape := ⟨5, ![32, 8, 256, 16, 16]⟩
abbrev S8x256x16x32x16 : Shape := ⟨5, ![8, 256, 16, 32, 16]⟩
abbrev S8x6144 : Shape := ⟨2, ![8, 6144]⟩
abbrev S8x1x6144 : Shape := ⟨3, ![8, 1, 6144]⟩
abbrev S8x1x1024 : Shape := ⟨3, ![8, 1, 1024]⟩
abbrev S512 : Shape := ⟨1, ![512]⟩
abbrev S1x1x512 : Shape := ⟨3, ![1, 1, 512]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩

abbrev nBuf : Space → Nat
  | .hbm => 140
  | .vmem => 0
  | .smem => 0
  | _ => 0

abbrev hbmTy0_0 (i : Nat) : BufTy := match i % 128 with
  | 0 => ⟨S8x4096x1024, .f32⟩
  | 1 => ⟨S8x4x4096x128, .bf16⟩
  | 2 => ⟨S32x8x256x256, .bf16⟩
  | 3 => ⟨S8x4096x512, .bf16⟩
  | 4 => ⟨S8x4096x1024, .bf16⟩
  | 5 => ⟨S8x4096x1024, .bf16⟩
  | 6 => ⟨S16x6144, .f32⟩
  | 7 => ⟨S1x512, .f32⟩
  | 8 => ⟨S1x1024, .f32⟩
  | 9 => ⟨S1024, .f32⟩
  | 10 => ⟨S512x1024, .bf16⟩
  | 11 => ⟨S512x1024, .bf16⟩
  | 12 => ⟨S512x1024, .bf16⟩
  | 13 => ⟨S1024x1024, .bf16⟩
  | 14 => ⟨S1024x5632, .bf16⟩
  | 15 => ⟨S2816x1024, .bf16⟩
  | 16 => ⟨S8x4x4096x128, .f32⟩
  | 17 => ⟨S8x4096x4x128, .f32⟩
  | 18 => ⟨S8x4096x512, .f32⟩
  | 19 => ⟨S32x8x256x256, .f32⟩
  | 20 => ⟨S32x8x256x16x16, .f32⟩
  | 21 => ⟨S8x256x16x32x16, .f32⟩
  | 22 => ⟨S8x4096x512, .f32⟩
  | 23 => ⟨S8x6144, .f32⟩
  | 24 => ⟨S8x1x6144, .f32⟩
  | 25 => ⟨S8x1x1024, .f32⟩
  | 26 => ⟨S8x1x1024, .f32⟩
  | 27 => ⟨S8x1x1024, .f32⟩
  | 28 => ⟨S8x1x1024, .f32⟩
  | 29 => ⟨S8x1x1024, .f32⟩
  | 30 => ⟨S8x1x1024, .f32⟩
  | 31 => ⟨S512, .f32⟩
  | 32 => ⟨S8x4096x512, .f32⟩
  | 33 => ⟨S1x1x512, .f32⟩
  | 34 => ⟨S8x4096x512, .f32⟩
  | 35 => ⟨S8x4096x512, .f32⟩
  | 36 => ⟨S8x4096x512, .f32⟩
  | 37 => ⟨S8x4096x512, .f32⟩
  | 38 => ⟨S8x4096x512, .f32⟩
  | 39 => ⟨S_, .f32⟩
  | 40 => ⟨S8x4096x512, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S8x4096x512, .f32⟩
  | 47 => ⟨S_, .f32⟩
  | 48 => ⟨S8x4096x512, .f32⟩
  | 49 => ⟨S8x4096x512, .f32⟩
  | 50 => ⟨S_, .f32⟩
  | 51 => ⟨S8x4096x512, .f32⟩
  | 52 => ⟨S8x4096x512, .f32⟩
  | 53 => ⟨S8x4096x512, .f32⟩
  | 54 => ⟨S512x1024, .f32⟩
  | 55 => ⟨S8x4096x1024, .f32⟩
  | 56 => ⟨S8x4096x512, .f32⟩
  | 57 => ⟨S8x4096x512, .f32⟩
  | 58 => ⟨S8x4096x512, .f32⟩
  | 59 => ⟨S8x4096x512, .f32⟩
  | 60 => ⟨S_, .f32⟩
  | 61 => ⟨S8x4096x512, .f32⟩
  | 62 => ⟨S8x4096x512, .f32⟩
  | 63 => ⟨S_, .f32⟩
  | 64 => ⟨S8x4096x512, .f32⟩
  | 65 => ⟨S8x4096x512, .f32⟩
  | 66 => ⟨S8x4096x512, .f32⟩
  | 67 => ⟨S8x4096x1024, .f32⟩
  | 68 => ⟨S512x1024, .f32⟩
  | 69 => ⟨S8x4096x1024, .f32⟩
  | 70 => ⟨S8x4096x1024, .f32⟩
  | 71 => ⟨S8x4096x1024, .f32⟩
  | 72 => ⟨S512x1024, .f32⟩
  | 73 => ⟨S8x4096x1024, .f32⟩
  | 74 => ⟨S8x4096x1024, .f32⟩
  | 75 => ⟨S8x4096x1024, .f32⟩
  | 76 => ⟨S1024x1024, .f32⟩
  | 77 => ⟨S8x4096x1024, .f32⟩
  | 78 => ⟨S8x4096x1024, .f32⟩
  | 79 => ⟨S8x4096x1024, .f32⟩
  | 80 => ⟨S8x4096x1024, .f32⟩
  | 81 => ⟨S1024, .f32⟩
  | 82 => ⟨S8x4096x1024, .f32⟩
  | 83 => ⟨S_, .f32⟩
  | 84 => ⟨S8x4096, .f32⟩
  | 85 => ⟨S8x4096x1, .f32⟩
  | 86 => ⟨S_, .f32⟩
  | 87 => ⟨S8x4096x1, .f32⟩
  | 88 => ⟨S8x4096x1, .f32⟩
  | 89 => ⟨S_, .f32⟩
  | 90 => ⟨S8x4096x1, .f32⟩
  | 91 => ⟨S8x4096x1, .f32⟩
  | 92 => ⟨S8x4096x1, .f32⟩
  | 93 => ⟨S8x4096x1024, .f32⟩
  | 94 => ⟨S8x4096x1024, .f32⟩
  | 95 => ⟨S1x1x1024, .f32⟩
  | 96 => ⟨S8x4096x1024, .f32⟩
  | 97 => ⟨S8x4096x1024, .f32⟩
  | 98 => ⟨S_, .f32⟩
  | 99 => ⟨S8x1x1024, .f32⟩
  | 100 => ⟨S8x1x1024, .f32⟩
  | 101 => ⟨S8x4096x1024, .f32⟩
  | 102 => ⟨S8x4096x1024, .f32⟩
  | 103 => ⟨S8x4096x1024, .f32⟩
  | 104 => ⟨S8x4096x1024, .f32⟩
  | 105 => ⟨S1024x5632, .f32⟩
  | 106 => ⟨S8x4096x5632, .f32⟩
  | 107 => ⟨S8x4096x2816, .f32⟩
  | 108 => ⟨S8x4096x2816, .f32⟩
  | 109 => ⟨S8x4096x2816, .f32⟩
  | 110 => ⟨S8x4096x2816, .f32⟩
  | 111 => ⟨S_, .f32⟩
  | 112 => ⟨S8x4096x2816, .f32⟩
  | 113 => ⟨S8x4096x2816, .f32⟩
  | 114 => ⟨S_, .f32⟩
  | 115 => ⟨S8x4096x2816, .f32⟩
  | 116 => ⟨S8x4096x2816, .f32⟩
  | 117 => ⟨S8x4096x2816, .f32⟩
  | 118 => ⟨S8x4096x2816, .f32⟩
  | 119 => ⟨S2816x1024, .f32⟩
  | 120 => ⟨S8x4096x1024, .f32⟩
  | 121 => ⟨S8x4096x1024, .f32⟩
  | 122 => ⟨S8x4096x1024, .f32⟩
  | 123 => ⟨S8x4096x1024, .f32⟩
  | 124 => ⟨S8x4096x1024, .f32⟩
  | 125 => ⟨S_, .f32⟩
  | 126 => ⟨S8x4096, .f32⟩
  | 127 => ⟨S8x4096x1, .f32⟩
  | _ => ⟨S8x4096x1024, .f32⟩

abbrev hbmTy0_1 (i : Nat) : BufTy := match i % 128 with
  | 0 => ⟨S_, .f32⟩
  | 1 => ⟨S8x4096x1, .f32⟩
  | 2 => ⟨S8x4096x1, .f32⟩
  | 3 => ⟨S_, .f32⟩
  | 4 => ⟨S8x4096x1, .f32⟩
  | 5 => ⟨S8x4096x1, .f32⟩
  | 6 => ⟨S8x4096x1, .f32⟩
  | 7 => ⟨S8x4096x1024, .f32⟩
  | 8 => ⟨S8x4096x1024, .f32⟩
  | 9 => ⟨S1x1x1024, .f32⟩
  | 10 => ⟨S8x4096x1024, .f32⟩
  | 11 => ⟨S8x4096x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_1 : Ref sig .tc := ⟨.hbm, 47, rfl⟩
abbrev main_v29 : Ref sig .tc := ⟨.hbm, 48, rfl⟩
abbrev main_v30 : Ref sig .tc := ⟨.hbm, 49, rfl⟩
abbrev main_cst_2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_3 : Ref sig .tc := ⟨.hbm, 60, rfl⟩
abbrev main_v40 : Ref sig .tc := ⟨.hbm, 61, rfl⟩
abbrev main_v41 : Ref sig .tc := ⟨.hbm, 62, rfl⟩
abbrev main_cst_4 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_cst_6 : Ref sig .tc := ⟨.hbm, 86, rfl⟩
abbrev main_v63 : Ref sig .tc := ⟨.hbm, 87, rfl⟩
abbrev main_v64 : Ref sig .tc := ⟨.hbm, 88, rfl⟩
abbrev main_cst_7 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_8 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_call0_v0 : Ref sig .tc := ⟨.hbm, 109, rfl⟩
abbrev main_call0_v1 : Ref sig .tc := ⟨.hbm, 110, rfl⟩
abbrev main_call0_cst : Ref sig .tc := ⟨.hbm, 111, rfl⟩
abbrev main_call0_v2 : Ref sig .tc := ⟨.hbm, 112, rfl⟩
abbrev main_call0_v3 : Ref sig .tc := ⟨.hbm, 113, rfl⟩
abbrev main_call0_cst_0 : Ref sig .tc := ⟨.hbm, 114, rfl⟩
abbrev main_call0_v4 : Ref sig .tc := ⟨.hbm, 115, rfl⟩
abbrev main_call0_v5 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_9 : Ref sig .tc := ⟨.hbm, 125, rfl⟩
abbrev main_v91 : Ref sig .tc := ⟨.hbm, 126, rfl⟩
abbrev main_v92 : Ref sig .tc := ⟨.hbm, 127, rfl⟩
abbrev main_cst_10 : Ref sig .tc := ⟨.hbm, 128, rfl⟩
abbrev main_v93 : Ref sig .tc := ⟨.hbm, 129, rfl⟩
abbrev main_v94 : Ref sig .tc := ⟨.hbm, 130, rfl⟩
abbrev main_cst_11 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩

abbrev nD : Nat := 1
abbrev τ : Topo := Topo.v7x

variable {F : FTy → Type} [FloatOps F]
-- ==== Kernel2.lean ====
abbrev S8x4096x1024 : Shape := ⟨3, ![8, 4096, 1024]⟩
abbrev S16x6144 : Shape := ⟨2, ![16, 6144]⟩
abbrev S1x1024 : Shape := ⟨2, ![1, 1024]⟩
abbrev S1x1024x4096 : Shape := ⟨3, ![1, 1024, 4096]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S16 : Shape := ⟨1, ![16]⟩
abbrev S_ : Shape := ⟨0, ![]⟩
abbrev S512 : Shape := ⟨1, ![512]⟩
abbrev S3584 : Shape := ⟨1, ![3584]⟩
abbrev S4096 : Shape := ⟨1, ![4096]⟩
abbrev S1024x4096 : Shape := ⟨2, ![1024, 4096]⟩
abbrev S1x4096 : Shape := ⟨2, ![1, 4096]⟩
abbrev S1024 : Shape := ⟨1, ![1024]⟩
abbrev S256x16x16 : Shape := ⟨3, ![256, 16, 16]⟩
abbrev S256x256 : Shape := ⟨2, ![256, 256]⟩
abbrev S512x1024 : Shape := ⟨2, ![512, 1024]⟩
abbrev S1024x1024 : Shape := ⟨2, ![1024, 1024]⟩
abbrev S1024x5632 : Shape := ⟨2, ![1024, 5632]⟩
abbrev S2816x1024 : Shape := ⟨2, ![2816, 1024]⟩
abbrev S2x32x64 : Shape := ⟨3, ![2, 32, 64]⟩
abbrev S2x32 : Shape := ⟨2, ![2, 32]⟩
abbrev S2x32x64x16 : Shape := ⟨4, ![2, 32, 64, 16]⟩
abbrev S2x32x16x64 : Shape := ⟨4, ![2, 32, 16, 64]⟩
abbrev S32x2 : Shape := ⟨2, ![32, 2]⟩
abbrev S32x2x64 : Shape := ⟨3, ![32, 2, 64]⟩
abbrev S32x128 : Shape := ⟨2, ![32, 128]⟩
abbrev S32x1x128 : Shape := ⟨3, ![32, 1, 128]⟩
abbrev S32x3x128 : Shape := ⟨3, ![32, 3, 128]⟩
abbrev S32x125x128 : Shape := ⟨3, ![32, 125, 128]⟩
abbrev S32x128x128 : Shape := ⟨3, ![32, 128, 128]⟩
abbrev S32x2x64x16 : Shape := ⟨4, ![32, 2, 64, 16]⟩
abbrev S32x128x16 : Shape := ⟨3, ![32, 128, 16]⟩
abbrev S32x128x32 : Shape := ⟨3, ![32, 128, 32]⟩
abbrev S128x16x16 : Shape := ⟨3, ![128, 16, 16]⟩
abbrev S128x256 : Shape := ⟨2, ![128, 256]⟩
abbrev S16x16x16 : Shape := ⟨3, ![16, 16, 16]⟩
abbrev S16x256 : Shape := ⟨2, ![16, 256]⟩
abbrev S1x128x256 : Shape := ⟨3, ![1, 128, 256]⟩
abbrev S4x128x256 : Shape := ⟨3, ![4, 128, 256]⟩
abbrev S16x1x6144 : Shape := ⟨3, ![16, 1, 6144]⟩
abbrev S64x64 : Shape := ⟨2, ![64, 64]⟩
abbrev S2x2x32 : Shape := ⟨3, ![2, 2, 32]⟩
abbrev S128 : Shape := ⟨1, ![128]⟩
abbrev S4x2x16 : Shape := ⟨3, ![4, 2, 16]⟩
abbrev S1x128 : Shape := ⟨2, ![1, 128]⟩
abbrev S4096x1 : Shape := ⟨2, ![4096, 1]⟩
abbrev S4096x128 : Shape := ⟨2, ![4096, 128]⟩
abbrev S8x16 : Shape := ⟨2, ![8, 16]⟩
abbrev S8x4x4096x128 : Shape := ⟨4, ![8, 4, 4096, 128]⟩
abbrev S8x16x512x256 : Shape := ⟨4, ![8, 16, 512, 256]⟩
abbrev S8x4096x512 : Shape := ⟨3, ![8, 4096, 512]⟩
abbrev S32x8x256x256 : Shape := ⟨4, ![32, 8, 256, 256]⟩
abbrev S32x256x256 : Shape := ⟨3, ![32, 256, 256]⟩
abbrev S32x8x256 : Shape := ⟨3, ![32, 8, 256]⟩
abbrev S1x1x6144 : Shape := ⟨3, ![1, 1, 6144]⟩
abbrev S1024x128 : Shape := ⟨2, ![1024, 128]⟩
abbrev S16x1024 : Shape := ⟨2, ![16, 1024]⟩
abbrev S32x1024 : Shape := ⟨2, ![32, 1024]⟩
abbrev S32x5632 : Shape := ⟨2, ![32, 5632]⟩
abbrev S176x1024 : Shape := ⟨2, ![176, 1024]⟩
abbrev S1x128x128 : Shape := ⟨3, ![1, 128, 128]⟩
abbrev S1x128x32 : Shape := ⟨3, ![1, 128, 32]⟩
abbrev S1x4x1024x128 : Shape := ⟨4, ![1, 4, 1024, 128]⟩
abbrev S1x4x512x256 : Shape := ⟨4, ![1, 4, 512, 256]⟩
abbrev S1x1024x512 : Shape := ⟨3, ![1, 1024, 512]⟩
abbrev S32x1x64x256 : Shape := ⟨4, ![32, 1, 64, 256]⟩
abbrev S1x256x256 : Shape := ⟨3, ![1, 256, 256]⟩
abbrev S1x8x256 : Shape := ⟨3, ![1, 8, 256]⟩
abbrev S1x1x128 : Shape := ⟨3, ![1, 1, 128]⟩
abbrev S24x128 : Shape := ⟨2, ![24, 128]⟩
abbrev S8x128 : Shape := ⟨2, ![8, 128]⟩
abbrev S96x128 : Shape := ⟨2, ![96, 128]⟩
abbrev S128x128 : Shape := ⟨2, ![128, 128]⟩
abbrev S128x1 : Shape := ⟨2, ![128, 1]⟩
abbrev S1x128x16 : Shape := ⟨3, ![1, 128, 16]⟩
abbrev S128x16 : Shape := ⟨2, ![128, 16]⟩
abbrev S64x256 : Shape := ⟨2, ![64, 256]⟩
abbrev S256x128 : Shape := ⟨2, ![256, 128]⟩
abbrev S256x384 : Shape := ⟨2, ![256, 384]⟩
abbrev S384x256 : Shape := ⟨2, ![384, 256]⟩
abbrev S16x128 : Shape := ⟨2, ![16, 128]⟩
abbrev S1x16x128 : Shape := ⟨3, ![1, 16, 128]⟩
abbrev S1x256 : Shape := ⟨2, ![1, 256]⟩
abbrev S8x256 : Shape := ⟨2, ![8, 256]⟩
abbrev S1x1x1024 : Shape := ⟨3, ![1, 1, 1024]⟩
abbrev S512x1 : Shape := ⟨2, ![512, 1]⟩
abbrev S512x128 : Shape := ⟨2, ![512, 128]⟩
abbrev S1024x512 : Shape := ⟨2, ![1024, 512]⟩
abbrev S512x512 : Shape := ⟨2, ![512, 512]⟩
abbrev S1x1x512x128 : Shape := ⟨4, ![1, 1, 512, 128]⟩
abbrev S128x512 : Shape := ⟨2, ![128, 512]⟩
abbrev S1x1x128x256 : Shape := ⟨4, ![1, 1, 128, 256]⟩
abbrev S1x512x512 : Shape := ⟨3, ![1, 512, 512]⟩
abbrev S256x512 : Shape := ⟨2, ![256, 512]⟩
abbrev S1x1x16x128 : Shape := ⟨4, ![1, 1, 16, 128]⟩

abbrev nBuf : Space → Nat
  | .hbm => 197
  | .vmem => 67
  | .smem => 0
  | _ => 0

abbrev hbmTy0_0 (i : Nat) : BufTy := match i % 128 with
  | 0 => ⟨S8x4096x1024, .f32⟩
  | 1 => ⟨S16x6144, .f32⟩
  | 2 => ⟨S1x1024, .f32⟩
  | 3 => ⟨S1x1024x4096, .f32⟩
  | 4 => ⟨S1x512x1024, .f32⟩
  | 5 => ⟨S1x512x1024, .f32⟩
  | 6 => ⟨S1x512x1024, .f32⟩
  | 7 => ⟨S1x1024x1024, .f32⟩
  | 8 => ⟨S1x1024x5632, .f32⟩
  | 9 => ⟨S1x2816x1024, .f32⟩
  | 10 => ⟨S1x2x32x64, .f32⟩
  | 11 => ⟨S1x2x32x64, .f32⟩
  | 12 => ⟨S1x2x32, .f32⟩
  | 13 => ⟨S1x2x32x64x16, .f32⟩
  | 14 => ⟨S1x2x32x64x16, .f32⟩
  | 15 => ⟨S1x2x32x16x64, .f32⟩
  | 16 => ⟨S1x2x32x16x64, .f32⟩
  | 17 => ⟨S16, .f32⟩
  | 18 => ⟨S_, .f32⟩
  | 19 => ⟨S512, .f32⟩
  | 20 => ⟨S_, .f32⟩
  | 21 => ⟨S3584, .f32⟩
  | 22 => ⟨S4096, .f32⟩
  | 23 => ⟨S1024x4096, .f32⟩
  | 24 => ⟨S1x4096, .f32⟩
  | 25 => ⟨S1024x4096, .f32⟩
  | 26 => ⟨S1024x4096, .f32⟩
  | 27 => ⟨S1024x4096, .bf16⟩
  | 28 => ⟨S1024, .f32⟩
  | 29 => ⟨S1x1024, .f32⟩
  | 30 => ⟨S256x16x16, .i32⟩
  | 31 => ⟨S256x16x16, .i32⟩
  | 32 => ⟨S_, .i32⟩
  | 33 => ⟨S256x16x16, .i32⟩
  | 34 => ⟨S256x16x16, .i32⟩
  | 35 => ⟨S256x16x16, .i32⟩
  | 36 => ⟨S256x256, .i32⟩
  | 37 => ⟨S256x256, .i32⟩
  | 38 => ⟨S256x256, .i1⟩
  | 39 => ⟨S_, .f32⟩
  | 40 => ⟨S_, .f32⟩
  | 41 => ⟨S256x256, .f32⟩
  | 42 => ⟨S256x256, .f32⟩
  | 43 => ⟨S256x256, .f32⟩
  | 44 => ⟨S256x256, .bf16⟩
  | 45 => ⟨S512x1024, .f32⟩
  | 46 => ⟨S512x1024, .f32⟩
  | 47 => ⟨S512x1024, .f32⟩
  | 48 => ⟨S1024x1024, .f32⟩
  | 49 => ⟨S1024x5632, .f32⟩
  | 50 => ⟨S2816x1024, .f32⟩
  | 51 => ⟨S2x32x64, .f32⟩
  | 52 => ⟨S2x32x64, .f32⟩
  | 53 => ⟨S2x32, .f32⟩
  | 54 => ⟨S2x32x64x16, .f32⟩
  | 55 => ⟨S2x32x64x16, .f32⟩
  | 56 => ⟨S2x32x16x64, .f32⟩
  | 57 => ⟨S2x32x16x64, .f32⟩
  | 58 => ⟨S32x2, .f32⟩
  | 59 => ⟨S32x2x64, .f32⟩
  | 60 => ⟨S32x128, .f32⟩
  | 61 => ⟨S32x2x64, .f32⟩
  | 62 => ⟨S32x128, .f32⟩
  | 63 => ⟨S32x2x64, .f32⟩
  | 64 => ⟨S32x128, .f32⟩
  | 65 => ⟨S32x1x128, .f32⟩
  | 66 => ⟨S32x1x128, .f32⟩
  | 67 => ⟨S32x1x128, .f32⟩
  | 68 => ⟨S32x3x128, .f32⟩
  | 69 => ⟨S_, .f32⟩
  | 70 => ⟨S32x125x128, .f32⟩
  | 71 => ⟨S32x128x128, .f32⟩
  | 72 => ⟨S32x2x64x16, .f32⟩
  | 73 => ⟨S32x128x16, .f32⟩
  | 74 => ⟨S32x2x64x16, .f32⟩
  | 75 => ⟨S32x128x16, .f32⟩
  | 76 => ⟨S32x128x32, .f32⟩
  | 77 => ⟨S32x2x64x16, .f32⟩
  | 78 => ⟨S32x128x16, .f32⟩
  | 79 => ⟨S32x2x64x16, .f32⟩
  | 80 => ⟨S32x128x16, .f32⟩
  | 81 => ⟨S32x128x32, .f32⟩
  | 82 => ⟨S128x16x16, .i32⟩
  | 83 => ⟨S128x256, .i32⟩
  | 84 => ⟨S128x256, .i32⟩
  | 85 => ⟨S16x16x16, .i32⟩
  | 86 => ⟨S16x256, .i32⟩
  | 87 => ⟨S16x256, .i32⟩
  | 88 => ⟨S16x256, .i1⟩
  | 89 => ⟨S_, .f32⟩
  | 90 => ⟨S_, .f32⟩
  | 91 => ⟨S16x256, .f32⟩
  | 92 => ⟨S16x256, .f32⟩
  | 93 => ⟨S16x256, .f32⟩
  | 94 => ⟨S16x256, .bf16⟩
  | 95 => ⟨S128x256, .i1⟩
  | 96 => ⟨S_, .f32⟩
  | 97 => ⟨S_, .f32⟩
  | 98 => ⟨S128x256, .f32⟩
  | 99 => ⟨S128x256, .f32⟩
  | 100 => ⟨S128x256, .f32⟩
  | 101 => ⟨S128x256, .bf16⟩
  | 102 => ⟨S_, .i32⟩
  | 103 => ⟨S128x256, .i32⟩
  | 104 => ⟨S128x256, .i32⟩
  | 105 => ⟨S128x256, .i1⟩
  | 106 => ⟨S_, .f32⟩
  | 107 => ⟨S_, .f32⟩
  | 108 => ⟨S128x256, .f32⟩
  | 109 => ⟨S128x256, .f32⟩
  | 110 => ⟨S128x256, .f32⟩
  | 111 => ⟨S128x256, .bf16⟩
  | 112 => ⟨S_, .i32⟩
  | 113 => ⟨S128x256, .i32⟩
  | 114 => ⟨S128x256, .i32⟩
  | 115 => ⟨S128x256, .i1⟩
  | 116 => ⟨S_, .f32⟩
  | 117 => ⟨S_, .f32⟩
  | 118 => ⟨S128x256, .f32⟩
  | 119 => ⟨S128x256, .f32⟩
  | 120 => ⟨S128x256, .f32⟩
  | 121 => ⟨S128x256, .bf16⟩
  | 122 => ⟨S_, .i32⟩
  | 123 => ⟨S128x256, .i32⟩
  | 124 => ⟨S128x256, .i32⟩
  | 125 => ⟨S128x256, .i1⟩
  | 126 => ⟨S_, .f32⟩
  | 127 => ⟨S_, .f32⟩
  | _ => ⟨S8x4096x1024, .f32⟩

abbrev hbmTy0_1 (i : Nat) : BufTy := match i % 128 with
  | 0 => ⟨S128x256, .f32⟩
  | 1 => ⟨S128x256, .f32⟩
  | 2 => ⟨S128x256, .f32⟩
  | 3 => ⟨S128x256, .bf16⟩
  | 4 => ⟨S1x128x256, .bf16⟩
  | 5 => ⟨S1x128x256, .bf16⟩
  | 6 => ⟨S1x128x256, .bf16⟩
  | 7 => ⟨S1x128x256, .bf16⟩
  | 8 => ⟨S4x128x256, .bf16⟩
  | 9 => ⟨S16x1x6144, .f32⟩
  | 10 => ⟨S64x64, .i32⟩
  | 11 => ⟨S4096, .i32⟩
  | 12 => ⟨S64x64, .i32⟩
  | 13 => ⟨S4096, .i32⟩
  | 14 => ⟨S2x2x32, .i32⟩
  | 15 => ⟨S128, .i32⟩
  | 16 => ⟨S_, .i32⟩
  | 17 => ⟨S128, .i32⟩
  | 18 => ⟨S128, .i1⟩
  | 19 => ⟨S4x2x16, .i32⟩
  | 20 => ⟨S128, .i32⟩
  | 21 => ⟨S_, .i32⟩
  | 22 => ⟨S128, .i32⟩
  | 23 => ⟨S128, .i1⟩
  | 24 => ⟨S1x128, .i1⟩
  | 25 => ⟨S4096x1, .i32⟩
  | 26 => ⟨S4096x1, .i32⟩
  | 27 => ⟨S4096x128, .i1⟩
  | 28 => ⟨S4096x128, .i32⟩
  | 29 => ⟨S4096x128, .i32⟩
  | 30 => ⟨S4096x128, .i32⟩
  | 31 => ⟨S4096x128, .f32⟩
  | 32 => ⟨S8x16, .f32⟩
  | 33 => ⟨S128, .f32⟩
  | 34 => ⟨S1x128, .f32⟩
  | 35 => ⟨S4096x128, .f32⟩
  | 36 => ⟨S4096x128, .f32⟩
  | 37 => ⟨S4096x128, .f32⟩
  | 38 => ⟨S4096x128, .f32⟩
  | 39 => ⟨S1x128, .i1⟩
  | 40 => ⟨S4096x128, .f32⟩
  | 41 => ⟨S_, .f32⟩
  | 42 => ⟨S_, .f32⟩
  | 43 => ⟨S4096x128, .i1⟩
  | 44 => ⟨S4096x128, .f32⟩
  | 45 => ⟨S4096x128, .f32⟩
  | 46 => ⟨S1x128, .i1⟩
  | 47 => ⟨S_, .f32⟩
  | 48 => ⟨S_, .f32⟩
  | 49 => ⟨S4096x128, .i1⟩
  | 50 => ⟨S4096x128, .f32⟩
  | 51 => ⟨S4096x128, .f32⟩
  | 52 => ⟨S8x4x4096x128, .bf16⟩
  | 53 => ⟨S8x16x512x256, .bf16⟩
  | 54 => ⟨S8x4x4096x128, .bf16⟩
  | 55 => ⟨S8x4096x512, .bf16⟩
  | 56 => ⟨S32x8x256x256, .bf16⟩
  | 57 => ⟨S8x4096x1024, .bf16⟩
  | 58 => ⟨S8x4096x1024, .bf16⟩
  | 59 => ⟨S512x1024, .bf16⟩
  | 60 => ⟨S512x1024, .bf16⟩
  | 61 => ⟨S512x1024, .bf16⟩
  | 62 => ⟨S1024x1024, .bf16⟩
  | 63 => ⟨S1024x5632, .bf16⟩
  | 64 => ⟨S2816x1024, .bf16⟩
  | 65 => ⟨S32x256x256, .bf16⟩
  | 66 => ⟨S32x256x256, .bf16⟩
  | 67 => ⟨S32x256x256, .bf16⟩
  | 68 => ⟨S32x8x256, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x1024x1024, .f32⟩
  | .local _ .vmem, ⟨1, _⟩ => ⟨S1x1024x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1024, .f32⟩
  | .local _ .vmem, ⟨5, _⟩ => ⟨S1024x4096, .bf16⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S256x256, .bf16⟩
  | .local _ .vmem, ⟨13, _⟩ => ⟨S16x1024, .f32⟩
  | .local _ .vmem, ⟨14, _⟩ => ⟨S16x1024, .f32⟩
  | .local _ .vmem, ⟨15, _⟩ => ⟨S16x1024, .f32⟩
  | .local _ .vmem, ⟨16, _⟩ => ⟨S16x1024, .f32⟩
  | .local _ .vmem, ⟨17, _⟩ => ⟨S16x1024, .f32⟩
  | .local _ .vmem, ⟨18, _⟩ => ⟨S16x1024, .f32⟩
  | .local _ .vmem, ⟨19, _⟩ => ⟨S32x1024, .f32⟩
  | .local _ .vmem, ⟨20, _⟩ => ⟨S32x1024, .f32⟩
  | .local _ .vmem, ⟨21, _⟩ => ⟨S32x5632, .f32⟩
  | .local _ .vmem, ⟨22, _⟩ => ⟨S32x5632, .f32⟩
  | .local _ .vmem, ⟨23, _⟩ => ⟨S176x1024, .f32⟩
  | .local _ .vmem, ⟨24, _⟩ => ⟨S176x1024, .f32⟩
  | .local _ .vmem, ⟨25, _⟩ => ⟨S1x128x128, .f32⟩
  | .local _ .vmem, ⟨26, _⟩ => ⟨S1x128x128, .f32⟩
  | .local _ .vmem, ⟨27, _⟩ => ⟨S1x128x32, .f32⟩
  | .local _ .vmem, ⟨28, _⟩ => ⟨S1x128x32, .f32⟩
  | .local _ .vmem, ⟨29, _⟩ => ⟨S1x128x32, .f32⟩
  | .local _ .vmem, ⟨30, _⟩ => ⟨S1x128x32, .f32⟩
  | .local _ .vmem, ⟨31, _⟩ => ⟨S16x256, .bf16⟩
  | .local _ .vmem, ⟨32, _⟩ => ⟨S4x128x256, .bf16⟩
  | .local _ .vmem, ⟨33, _⟩ => ⟨S1x4x1024x128, .bf16⟩
  | .local _ .vmem, ⟨34, _⟩ => ⟨S1x4x1024x128, .bf16⟩
  | .local _ .vmem, ⟨35, _⟩ => ⟨S1x4x512x256, .bf16⟩
  | .local _ .vmem, ⟨36, _⟩ => ⟨S1x4x512x256, .bf16⟩
  | .local _ .vmem, ⟨37, _⟩ => ⟨S1x4x1024x128, .bf16⟩
  | .local _ .vmem, ⟨38, _⟩ => ⟨S1x4x1024x128, .bf16⟩
  | .local _ .vmem, ⟨39, _⟩ => ⟨S1x1024x512, .bf16⟩
  | .local _ .vmem, ⟨40, _⟩ => ⟨S1x1024x512, .bf16⟩
  | .local _ .vmem, ⟨41, _⟩ => ⟨S32x1x64x256, .bf16⟩
  | .local _ .vmem, ⟨42, _⟩ => ⟨S32x1x64x256, .bf16⟩
  | .local _ .vmem, ⟨43, _⟩ => ⟨S1x1024x1024, .bf16⟩
  | .local _ .vmem, ⟨44, _⟩ => ⟨S1x1024x1024, .bf16⟩
  | .local _ .vmem, ⟨45, _⟩ => ⟨S1x1024x1024, .bf16⟩
  | .local _ .vmem, ⟨46, _⟩ => ⟨S1x1024x1024, .bf16⟩
  | .local _ .vmem, ⟨47, _⟩ => ⟨S16x1024, .bf16⟩
  | .local _ .vmem, ⟨48, _⟩ => ⟨S16x1024, .bf16⟩
  | .local _ .vmem, ⟨49, _⟩ => ⟨S16x1024, .bf16⟩
  | .local _ .vmem, ⟨50, _⟩ => ⟨S16x1024, .bf16⟩
  | .local _ .vmem, ⟨51, _⟩ => ⟨S16x1024, .bf16⟩
  | .local _ .vmem, ⟨52, _⟩ => ⟨S16x1024, .bf16⟩
  | .local _ .vmem, ⟨53, _⟩ => ⟨S32x1024, .bf16⟩
  | .local _ .vmem, ⟨54, _⟩ => ⟨S32x1024, .bf16⟩
  | .local _ .vmem, ⟨55, _⟩ => ⟨S32x5632, .bf16⟩
  | .local _ .vmem, ⟨56, _⟩ => ⟨S32x5632, .bf16⟩
  | .local _ .vmem, ⟨57, _⟩ => ⟨S176x1024, .bf16⟩
  | .local _ .vmem, ⟨58, _⟩ => ⟨S176x1024, .bf16⟩
  | .local _ .vmem, ⟨59, _⟩ => ⟨S1x256x256, .bf16⟩
  | .local _ .vmem, ⟨60, _⟩ => ⟨S1x256x256, .bf16⟩
  | .local _ .vmem, ⟨61, _⟩ => ⟨S1x256x256, .bf16⟩
  | .local _ .vmem, ⟨62, _⟩ => ⟨S1x256x256, .bf16⟩
  | .local _ .vmem, ⟨63, _⟩ => ⟨S1x256x256, .bf16⟩
  | .local _ .vmem, ⟨64, _⟩ => ⟨S1x256x256, .bf16⟩
  | .local _ .vmem, ⟨65, _⟩ => ⟨S1x8x256, .f32⟩
  | .local _ .vmem, ⟨66, _⟩ => ⟨S1x8x256, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_cst_0 : Ref sig .tc := ⟨.hbm, 18, rfl⟩
abbrev main_v0 : Ref sig .tc := ⟨.hbm, 19, rfl⟩
abbrev main_cst_1 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_c : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_2 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_4 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_5 : Ref sig .tc := ⟨.hbm, 89, rfl⟩
abbrev main_cst_6 : Ref sig .tc := ⟨.hbm, 90, rfl⟩
abbrev main_call1_v0 : Ref sig .tc := ⟨.hbm, 91, rfl⟩
abbrev main_call1_v1 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_7 : Ref sig .tc := ⟨.hbm, 96, rfl⟩
abbrev main_cst_8 : Ref sig .tc := ⟨.hbm, 97, rfl⟩
abbrev main_call2_v0 : Ref sig .tc := ⟨.hbm, 98, rfl⟩
abbrev main_call2_v1 : Ref sig .tc := ⟨.hbm, 99, rfl⟩
abbrev main_v66 : Ref sig .tc := ⟨.hbm, 100, rfl⟩
abbrev main_v67 : Ref sig .tc := ⟨.hbm, 101, rfl⟩
abbrev main_c_9 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_cst_11 : Ref sig .tc := ⟨.hbm, 107, rfl⟩
abbrev main_call3_v0 : Ref sig .tc := ⟨.hbm, 108, rfl⟩
abbrev main_call3_v1 : Ref sig .tc := ⟨.hbm, 109, rfl⟩
abbrev main_v71 : Ref sig .tc := ⟨.hbm, 110, rfl⟩
abbrev main_v72 : Ref sig .tc := ⟨.hbm, 111, rfl⟩
abbrev main_c_12 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_13 : Ref sig .tc := ⟨.hbm, 116, rfl⟩
abbrev main_cst_14 : Ref sig .tc := ⟨.hbm, 117, rfl⟩
abbrev main_call4_v0 : Ref sig .tc := ⟨.hbm, 118, rfl⟩
abbrev main_call4_v1 : Ref sig .tc := ⟨.hbm, 119, rfl⟩
abbrev main_v76 : Ref sig .tc := ⟨.hbm, 120, rfl⟩
abbrev main_v77 : Ref sig .tc := ⟨.hbm, 121, rfl⟩
abbrev main_c_15 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_cst_16 : Ref sig .tc := ⟨.hbm, 126, rfl⟩
abbrev main_cst_17 : Ref sig .tc := ⟨.hbm, 127, rfl⟩
abbrev main_call5_v0 : Ref sig .tc := ⟨.hbm, 128, rfl⟩
abbrev main_call5_v1 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_c_18 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_c_19 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_call6_v0 : Ref sig .tc := ⟨.hbm, 155, rfl⟩
abbrev main_call6_v1 : Ref sig .tc := ⟨.hbm, 156, rfl⟩
abbrev main_call6_v2 : Ref sig .tc := ⟨.hbm, 157, rfl⟩
abbrev main_v104 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_cst_20 : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_v115 : Ref sig .tc := ⟨.hbm, 173, rfl⟩
abbrev main_v116 : Ref sig .tc := ⟨.hbm, 174, rfl⟩
abbrev main_cst_21 : Ref sig .tc := ⟨.hbm, 175, rfl⟩
abbrev main_call8_v0 : Ref sig .tc := ⟨.hbm, 176, rfl⟩
abbrev main_call8_v1 : Ref sig .tc := ⟨.hbm, 177, rfl⟩
abbrev main_call8_v2 : Ref sig .tc := ⟨.hbm, 178, rfl⟩
abbrev main_v117 : Ref sig .tc := ⟨.hbm, 179, rfl⟩
abbrev main_v118_0 : Ref sig .tc := ⟨.hbm, 180, rfl⟩
abbrev main_v118_1 : Ref sig .tc := ⟨.hbm, 181, rfl⟩
abbrev main_v118_2 : Ref sig .tc := ⟨.hbm, 182, rfl⟩
abbrev main_v118_3 : Ref sig .tc := ⟨.hbm, 183, rfl⟩
abbrev main_v118_4 : Ref sig .tc := ⟨.hbm, 184, rfl⟩
abbrev main_v118_5 : Ref sig .tc := ⟨.hbm, 185, rfl⟩
abbrev main_v118_6 : Ref sig .tc := ⟨.hbm, 186, rfl⟩
abbrev main_v118_7 : Ref sig .tc := ⟨.hbm, 187, rfl⟩
abbrev main_v118_8 : Ref sig .tc := ⟨.hbm, 188, rfl⟩
abbrev main_v118_9 : Ref sig .tc := ⟨.hbm, 189, rfl⟩
abbrev main_v118_10 : Ref sig .tc := ⟨.hbm, 190, rfl⟩
abbrev main_v118_11 : Ref sig .tc := ⟨.hbm, 191, rfl⟩
abbrev main_v118_12 : Ref sig .tc := ⟨.hbm, 192, rfl⟩
abbrev main_v118_13 : Ref sig .tc := ⟨.hbm, 193, rfl⟩
abbrev main_v118_14 : Ref sig .tc := ⟨.hbm, 194, rfl⟩
abbrev main_v118_15 : Ref sig .tc := ⟨.hbm, 195, rfl⟩
abbrev main_v118_16 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg21_1 : Ref sig .tc := ⟨.vmem, 38, rfl⟩
abbrev cc0_stg22_0 : Ref sig .tc := ⟨.vmem, 39, rfl⟩
abbrev cc0_stg22_1 : Ref sig .tc := ⟨.vmem, 40, rfl⟩
abbrev cc0_stg23_0 : Ref sig .tc := ⟨.vmem, 41, rfl⟩
abbrev cc0_stg23_1 : Ref sig .tc := ⟨.vmem, 42, rfl⟩
abbrev cc0_stg24_0 : Ref sig .tc := ⟨.vmem, 43, rfl⟩
abbrev cc0_stg24_1 : Ref sig .tc := ⟨.vmem, 44, rfl⟩
abbrev cc0_stg25_0 : Ref sig .tc := ⟨.vmem, 45, rfl⟩
abbrev cc0_stg25_1 : Ref sig .tc := ⟨.vmem, 46, rfl⟩
abbrev cc0_stg26_0 : Ref sig .tc := ⟨.vmem, 47, rfl⟩
abbrev cc0_stg26_1 : Ref sig .tc := ⟨.vmem, 48, rfl⟩
abbrev cc0_stg27_0 : Ref sig .tc := ⟨.vmem, 49, rfl⟩
abbrev cc0_stg27_1 : Ref sig .tc := ⟨.vmem, 50, rfl⟩
abbrev cc0_stg28_0 : Ref sig .tc := ⟨.vmem, 51, rfl⟩
abbrev cc0_stg28_1 : Ref sig .tc := ⟨.vmem, 52, rfl⟩
abbrev cc0_stg29_0 : Ref sig .tc := ⟨.vmem, 53, rfl⟩
abbrev cc0_stg29_1 : Ref sig .tc := ⟨.vmem, 54, rfl⟩
abbrev cc0_stg30_0 : Ref sig .tc := ⟨.vmem, 55, rfl⟩
abbrev cc0_stg30_1 : Ref sig .tc := ⟨.vmem, 56, rfl⟩
abbrev cc0_stg31_0 : Ref sig .tc := ⟨.vmem, 57, rfl⟩
abbrev cc0_stg31_1 : Ref sig .tc := ⟨.vmem, 58, rfl⟩
abbrev cc0_stg32_0 : Ref sig .tc := ⟨.vmem, 59, rfl⟩
abbrev cc0_stg32_1 : Ref sig .tc := ⟨.vmem, 60, rfl⟩
abbrev cc0_stg33_0 : Ref sig .tc := ⟨.vmem, 61, rfl⟩
abbrev cc0_stg33_1 : Ref sig .tc := ⟨.vmem, 62, rfl⟩
abbrev cc0_stg34_0 : Ref sig .tc := ⟨.vmem, 63, rfl⟩
abbrev cc0_stg34_1 : Ref sig .tc := ⟨.vmem, 64, rfl⟩
abbrev cc0_stg35_0 : Ref sig .tc := ⟨.vmem, 65, rfl⟩
abbrev cc0_stg35_1 : Ref sig .tc := ⟨.vmem, 66, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem18_0 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem21_1 : DmaSem sig := 38
abbrev cc0_sem22_0 : DmaSem sig := 39
abbrev cc0_sem22_1 : DmaSem sig := 40
abbrev cc0_sem23_0 : DmaSem sig := 41
abbrev cc0_sem23_1 : DmaSem sig := 42
abbrev cc0_sem24_0 : DmaSem sig := 43
abbrev cc0_sem24_1 : DmaSem sig := 44
abbrev cc0_sem25_0 : DmaSem sig := 45
abbrev cc0_sem25_1 : DmaSem sig := 46
abbrev cc0_sem26_0 : DmaSem sig := 47
abbrev cc0_sem26_1 : DmaSem sig := 48
abbrev cc0_sem27_0 : DmaSem sig := 49
abbrev cc0_sem27_1 : DmaSem sig := 50
abbrev cc0_sem28_0 : DmaSem sig := 51
abbrev cc0_sem28_1 : DmaSem sig := 52
abbrev cc0_sem29_0 : DmaSem sig := 53
abbrev cc0_sem29_1 : DmaSem sig := 54
abbrev cc0_sem30_0 : DmaSem sig := 55
abbrev cc0_sem30_1 : DmaSem sig := 56
abbrev cc0_sem31_0 : DmaSem sig := 57
abbrev cc0_sem31_1 : DmaSem sig := 58
abbrev cc0_sem32_0 : DmaSem sig := 59
abbrev cc0_sem32_1 : DmaSem sig := 60
abbrev cc0_sem33_0 : DmaSem sig := 61
abbrev cc0_sem33_1 : DmaSem sig := 62
abbrev cc0_sem34_0 : DmaSem sig := 63
abbrev cc0_sem34_1 : DmaSem sig := 64
abbrev cc0_sem35_0 : DmaSem sig := 65
abbrev cc0_sem35_1 : DmaSem sig := 66

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_14 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_23 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, arg0.toNat, c0_i32_0.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_26 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_27 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_28 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_29 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_30 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  ![v18.toNat, c0_i32_5.toNat]

def cc0_transform_31 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let v2 : BitVec 32 := Scalar.divsi v1 c2_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi v1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  ![v18.toNat, c0_i32_4.toNat]

def cc0_transform_32 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_33 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_34 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_35 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S16x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S32x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S32x5632 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S176x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x32 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x128x32 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 1 → Memref sig .tc .vmem S16x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S4x128x256 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S1x4x1024x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x4x512x256 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x4x1024x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1024x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S32x1x64x256 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x1024x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x1024x1024 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S16x1024 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S16x1024 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S16x1024 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S32x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S32x5632 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S176x1024 .bf16 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x256x256 .bf16 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]

abbrev stage0_33 : Fin 2 → Memref sig .tc .vmem S1x256x256 .bf16 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true, true]

abbrev stage0_34 : Fin 2 → Memref sig .tc .vmem S1x256x256 .bf16 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true, true]

abbrev stage0_35 : Fin 2 → Memref sig .tc .vmem S1x8x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true, true]
-- ==== Reference2Ideal.lean ====
abbrev S8x4096x1024 : Shape := ⟨3, ![8, 4096, 1024]⟩
abbrev S16x6144 : Shape := ⟨2, ![16, 6144]⟩
abbrev S1x1024 : Shape := ⟨2, ![1, 1024]⟩
abbrev S1x1024x4096 : Shape := ⟨3, ![1, 1024, 4096]⟩
abbrev S1x512x1024 : Shape := ⟨3, ![1, 512, 1024]⟩
abbrev S1x1024x1024 : Shape := ⟨3, ![1, 1024, 1024]⟩
abbrev S1x1024x5632 : Shape := ⟨3, ![1, 1024, 5632]⟩
abbrev S1x2816x1024 : Shape := ⟨3, ![1, 2816, 1024]⟩
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S1x2x32x16x64 : Shape := ⟨5, ![1, 2, 32, 16, 64]⟩
abbrev S16 : Shape := ⟨1, ![16]⟩
abbrev S8x6144 : Shape := ⟨2, ![8, 6144]⟩
abbrev S8x1x6144 : Shape := ⟨3, ![8, 1, 6144]⟩
abbrev S8x1x1024 : Shape := ⟨3, ![8, 1, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S1024x4096 : Shape := ⟨2, ![1024, 4096]⟩
abbrev S8x4096x4096 : Shape := ⟨3, ![8, 4096, 4096]⟩
abbrev S8x4096x512 : Shape := ⟨3, ![8, 4096, 512]⟩
abbrev S8x4096x8x64 : Shape := ⟨4, ![8, 4096, 8, 64]⟩
abbrev S8x4096x8x32 : Shape := ⟨4, ![8, 4096, 8, 32]⟩
abbrev S64x64 : Shape := ⟨2, ![64, 64]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S8x4096x8x16 : Shape := ⟨4, ![8, 4096, 8, 16]⟩
abbrev S8x4096x4x128 : Shape := ⟨4, ![8, 4096, 4, 128]⟩
abbrev S8x4x4096x128 : Shape := ⟨4, ![8, 4, 4096, 128]⟩
abbrev S8x16x256x512 : Shape := ⟨4, ![8, 16, 256, 512]⟩
abbrev S8x16x512x256 : Shape := ⟨4, ![8, 16, 512, 256]⟩

abbrev nBuf : Space → Nat
  | .hbm => 199
  | .vmem => 0
  | .smem => 0
  | _ => 0

abbrev hbmTy0_0 (i : Nat) : BufTy := match i % 128 with
  | 0 => ⟨S8x4096x1024, .f32⟩
  | 1 => ⟨S16x6144, .f32⟩
  | 2 => ⟨S1x1024, .f32⟩
  | 3 => ⟨S1x1024x4096, .f32⟩
  | 4 => ⟨S1x512x1024, .f32⟩
  | 5 => ⟨S1x512x1024, .f32⟩
  | 6 => ⟨S1x512x1024, .f32⟩
  | 7 => ⟨S1x1024x1024, .f32⟩
  | 8 => ⟨S1x1024x5632, .f32⟩
  | 9 => ⟨S1x2816x1024, .f32⟩
  | 10 => ⟨S1x2x32x64, .f32⟩
  | 11 => ⟨S1x2x32x64, .f32⟩
  | 12 => ⟨S1x2x32, .f32⟩
  | 13 => ⟨S1x2x32x64x16, .f32⟩
  | 14 => ⟨S1x2x32x64x16, .f32⟩
  | 15 => ⟨S1x2x32x16x64, .f32⟩
  | 16 => ⟨S1x2x32x16x64, .f32⟩
  | 17 => ⟨S16, .f32⟩
  | 18 => ⟨S8x6144, .f32⟩
  | 19 => ⟨S8x1x6144, .f32⟩
  | 20 => ⟨S8x1x1024, .f32⟩
  | 21 => ⟨S8x1x1024, .f32⟩
  | 22 => ⟨S8x1x1024, .f32⟩
  | 23 => ⟨S8x1x1024, .f32⟩
  | 24 => ⟨S8x1x1024, .f32⟩
  | 25 => ⟨S8x1x1024, .f32⟩
  | 26 => ⟨S1024, .f32⟩
  | 27 => ⟨S8x4096x1024, .f32⟩
  | 28 => ⟨S_, .f32⟩
  | 29 => ⟨S8x4096, .f32⟩
  | 30 => ⟨S8x4096x1, .f32⟩
  | 31 => ⟨S_, .f32⟩
  | 32 => ⟨S8x4096x1, .f32⟩
  | 33 => ⟨S8x4096x1, .f32⟩
  | 34 => ⟨S_, .f32⟩
  | 35 => ⟨S8x4096x1, .f32⟩
  | 36 => ⟨S8x4096x1, .f32⟩
  | 37 => ⟨S8x4096x1, .f32⟩
  | 38 => ⟨S8x4096x1024, .f32⟩
  | 39 => ⟨S8x4096x1024, .f32⟩
  | 40 => ⟨S1x1x1024, .f32⟩
  | 41 => ⟨S8x4096x1024, .f32⟩
  | 42 => ⟨S8x4096x1024, .f32⟩
  | 43 => ⟨S_, .f32⟩
  | 44 => ⟨S8x1x1024, .f32⟩
  | 45 => ⟨S8x1x1024, .f32⟩
  | 46 => ⟨S8x4096x1024, .f32⟩
  | 47 => ⟨S8x4096x1024, .f32⟩
  | 48 => ⟨S8x4096x1024, .f32⟩
  | 49 => ⟨S8x4096x1024, .f32⟩
  | 50 => ⟨S1024x4096, .f32⟩
  | 51 => ⟨S8x4096x4096, .f32⟩
  | 52 => ⟨S8x4096x512, .f32⟩
  | 53 => ⟨S8x4096x512, .f32⟩
  | 54 => ⟨S8x4096x512, .f32⟩
  | 55 => ⟨S8x4096x512, .f32⟩
  | 56 => ⟨S8x4096x1024, .f32⟩
  | 57 => ⟨S8x4096x1024, .f32⟩
  | 58 => ⟨S8x4096x8x64, .f32⟩
  | 59 => ⟨S8x4096x8x32, .f32⟩
  | 60 => ⟨S64x64, .i32⟩
  | 61 => ⟨S4096, .i32⟩
  | 62 => ⟨S4096, .f32⟩
  | 63 => ⟨S4096x1, .f32⟩
  | 64 => ⟨S1x16, .f32⟩
  | 65 => ⟨S4096x16, .f32⟩
  | 66 => ⟨S4096x16, .f32⟩
  | 67 => ⟨S4096x16, .f32⟩
  | 68 => ⟨S4096x16, .f32⟩
  | 69 => ⟨S1x4096x1x16, .f32⟩
  | 70 => ⟨S4096x16, .f32⟩
  | 71 => ⟨S1x4096x1x16, .f32⟩
  | 72 => ⟨S8x4096x8x16, .f32⟩
  | 73 => ⟨S8x4096x8x16, .f32⟩
  | 74 => ⟨S8x4096x8x16, .f32⟩
  | 75 => ⟨S8x4096x8x16, .f32⟩
  | 76 => ⟨S8x4096x8x16, .f32⟩
  | 77 => ⟨S8x4096x8x16, .f32⟩
  | 78 => ⟨S8x4096x8x16, .f32⟩
  | 79 => ⟨S8x4096x8x16, .f32⟩
  | 80 => ⟨S8x4096x8x16, .f32⟩
  | 81 => ⟨S8x4096x8x16, .f32⟩
  | 82 => ⟨S8x4096x8x16, .f32⟩
  | 83 => ⟨S8x4096x8x16, .f32⟩
  | 84 => ⟨S8x4096x8x32, .f32⟩
  | 85 => ⟨S8x4096x8x32, .f32⟩
  | 86 => ⟨S64x64, .i32⟩
  | 87 => ⟨S4096, .i32⟩
  | 88 => ⟨S4096, .f32⟩
  | 89 => ⟨S4096x1, .f32⟩
  | 90 => ⟨S1x16, .f32⟩
  | 91 => ⟨S4096x16, .f32⟩
  | 92 => ⟨S4096x16, .f32⟩
  | 93 => ⟨S4096x16, .f32⟩
  | 94 => ⟨S4096x16, .f32⟩
  | 95 => ⟨S1x4096x1x16, .f32⟩
  | 96 => ⟨S4096x16, .f32⟩
  | 97 => ⟨S1x4096x1x16, .f32⟩
  | 98 => ⟨S8x4096x8x16, .f32⟩
  | 99 => ⟨S8x4096x8x16, .f32⟩
  | 100 => ⟨S8x4096x8x16, .f32⟩
  | 101 => ⟨S8x4096x8x16, .f32⟩
  | 102 => ⟨S8x4096x8x16, .f32⟩
  | 103 => ⟨S8x4096x8x16, .f32⟩
  | 104 => ⟨S8x4096x8x16, .f32⟩
  | 105 => ⟨S8x4096x8x16, .f32⟩
  | 106 => ⟨S8x4096x8x16, .f32⟩
  | 107 => ⟨S8x4096x8x16, .f32⟩
  | 108 => ⟨S8x4096x8x16, .f32⟩
  | 109 => ⟨S8x4096x8x16, .f32⟩
  | 110 => ⟨S8x4096x8x32, .f32⟩
  | 111 => ⟨S8x4096x8x64, .f32⟩
  | 112 => ⟨S8x4096x512, .f32⟩
  | 113 => ⟨S_, .f32⟩
  | 114 => ⟨S8x4096x512, .f32⟩
  | 115 => ⟨S8x4096x512, .f32⟩
  | 116 => ⟨S8x4096x4x128, .f32⟩
  | 117 => ⟨S8x4x4096x128, .f32⟩
  | 118 => ⟨S8x4x4096x128, .bf16⟩
  | 119 => ⟨S8x4096x8x64, .f32⟩
  | 120 => ⟨S8x4096x8x32, .f32⟩
  | 121 => ⟨S64x64, .i32⟩
  | 122 => ⟨S4096, .i32⟩
  | 123 => ⟨S4096, .f32⟩
  | 124 => ⟨S4096x1, .f32⟩
  | 125 => ⟨S1x16, .f32⟩
  | 126 => ⟨S4096x16, .f32⟩
  | 127 => ⟨S4096x16, .f32⟩
  | _ => ⟨S8x4096x1024, .f32⟩

abbrev hbmTy0_1 (i : Nat) : BufTy := match i % 128 with
  | 0 => ⟨S4096x16, .f32⟩
  | 1 => ⟨S4096x16, .f32⟩
  | 2 => ⟨S1x4096x1x16, .f32⟩
  | 3 => ⟨S4096x16, .f32⟩
  | 4 => ⟨S1x4096x1x16, .f32⟩
  | 5 => ⟨S8x4096x8x16, .f32⟩
  | 6 => ⟨S8x4096x8x16, .f32⟩
  | 7 => ⟨S8x4096x8x16, .f32⟩
  | 8 => ⟨S8x4096x8x16, .f32⟩
  | 9 => ⟨S8x4096x8x16, .f32⟩
  | 10 => ⟨S8x4096x8x16, .f32⟩
  | 11 => ⟨S8x4096x8x16, .f32⟩
  | 12 => ⟨S8x4096x8x16, .f32⟩
  | 13 => ⟨S8x4096x8x16, .f32⟩
  | 14 => ⟨S8x4096x8x16, .f32⟩
  | 15 => ⟨S8x4096x8x16, .f32⟩
  | 16 => ⟨S8x4096x8x16, .f32⟩
  | 17 => ⟨S8x4096x8x32, .f32⟩
  | 18 => ⟨S8x4096x8x32, .f32⟩
  | 19 => ⟨S64x64, .i32⟩
  | 20 => ⟨S4096, .i32⟩
  | 21 => ⟨S4096, .f32⟩
  | 22 => ⟨S4096x1, .f32⟩
  | 23 => ⟨S1x16, .f32⟩
  | 24 => ⟨S4096x16, .f32⟩
  | 25 => ⟨S4096x16, .f32⟩
  | 26 => ⟨S4096x16, .f32⟩
  | 27 => ⟨S4096x16, .f32⟩
  | 28 => ⟨S1x4096x1x16, .f32⟩
  | 29 => ⟨S4096x16, .f32⟩
  | 30 => ⟨S1x4096x1x16, .f32⟩
  | 31 => ⟨S8x4096x8x16, .f32⟩
  | 32 => ⟨S8x4096x8x16, .f32⟩
  | 33 => ⟨S8x4096x8x16, .f32⟩
  | 34 => ⟨S8x4096x8x16, .f32⟩
  | 35 => ⟨S8x4096x8x16, .f32⟩
  | 36 => ⟨S8x4096x8x16, .f32⟩
  | 37 => ⟨S8x4096x8x16, .f32⟩
  | 38 => ⟨S8x4096x8x16, .f32⟩
  | 39 => ⟨S8x4096x8x16, .f32⟩
  | 40 => ⟨S8x4096x8x16, .f32⟩
  | 41 => ⟨S8x4096x8x16, .f32⟩
  | 42 => ⟨S8x4096x8x16, .f32⟩
  | 43 => ⟨S8x4096x8x32, .f32⟩
  | 44 => ⟨S8x4096x8x64, .f32⟩
  | 45 => ⟨S8x4096x512, .f32⟩
  | 46 => ⟨S8x16x256x512, .f32⟩
  | 47 => ⟨S8x16x512x256, .f32⟩
  | 48 => ⟨S8x16x512x256, .bf16⟩
  | 49 => ⟨S8x4096x4x128, .f32⟩
  | 50 => ⟨S8x4x4096x128, .f32⟩
  | 51 => ⟨S8x4x4096x128, .bf16⟩
  | 52 => ⟨S8x4096x512, .bf16⟩
  | 53 => ⟨S8x4096x1024, .f32⟩
  | 54 => ⟨S8x4096x1024, .f32⟩
  | 55 => ⟨S_, .f32⟩
  | 56 => ⟨S8x4096x1024, .f32⟩
  | 57 => ⟨S8x4096x1024, .f32⟩
  | 58 => ⟨S_, .f32⟩
  | 59 => ⟨S8x4096x1024, .f32⟩
  | 60 => ⟨S8x4096x1024, .f32⟩
  | 61 => ⟨S8x4096x1024, .bf16⟩
  | 62 => ⟨S8x4096x1024, .f32⟩
  | 63 => ⟨S8x4096x1024, .f32⟩
  | 64 => ⟨S_, .f32⟩
  | 65 => ⟨S8x4096x1024, .f32⟩
  | 66 => ⟨S8x4096x1024, .f32⟩
  | 67 => ⟨S_, .f32⟩
  | 68 => ⟨S8x4096x1024, .f32⟩
  | 69 => ⟨S8x4096x1024, .f32⟩
  | 70 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_4 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_cst_5 : Ref sig .tc := ⟨.hbm, 183, rfl⟩
abbrev main_v160 : Ref sig .tc := ⟨.hbm, 184, rfl⟩
abbrev main_v161 : Ref sig .tc := ⟨.hbm, 185, rfl⟩
abbrev main_cst_6 : Ref sig .tc := ⟨.hbm, 186, rfl⟩
abbrev main_v162 : Ref sig .tc := ⟨.hbm, 187, rfl⟩
abbrev main_v163 : Ref sig .tc := ⟨.hbm, 188, rfl⟩
abbrev main_v164 : Ref sig .tc := ⟨.hbm, 189, rfl⟩
abbrev main_v165 : Ref sig .tc := ⟨.hbm, 190, rfl⟩
abbrev main_v166 : Ref sig .tc := ⟨.hbm, 191, rfl⟩
abbrev main_cst_7 : Ref sig .tc := ⟨.hbm, 192, rfl⟩
abbrev main_v167 : Ref sig .tc := ⟨.hbm, 193, rfl⟩
abbrev main_v168 : Ref sig .tc := ⟨.hbm, 194, rfl⟩
abbrev main_cst_8 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩

abbrev nD : Nat := 1
abbrev τ : Topo := Topo.v7x

variable {F : FTy → Type} [FloatOps F]
-- ==== Proof.Row.lean ====
/-
  ONE ROW OF THE LAYER'S TAIL. What the layer does after attention and the state-space scan works row by row: the scan's output plus
  its skip, GELU, the gated product, the gated merge with the attention, the first residual, the modulated norm, the feed-forward
  network, the second residual and the last norm. Each step is a function of rows here; kernel and reference are both read as these.
-/
module

public import Idealize.ShloMosaic.Lib.Pointwise

@[expose] public section

noncomputable section

namespace Cert.Tail

open Idealize.ShloMosaic Idealize.ShloMosaic.Pointwise

/-- A row of `n` numbers and an array of `n` such rows. -/
abbrev Row (n : ℕ) : Type := Fin n → EReal
abbrev Arr (m n : ℕ) : Type := (⟨2, ![m, n]⟩ : Shape).Idx → EReal

/-- A constant given by its bits. -/
abbrev bits (b : BitVec 32) : EReal := Ideal.ofBits .f32 b

/-- The sigmoid. -/
abbrev sig (v : EReal) : EReal := Ideal.logistic v

/-- A row times a matrix. -/
def mv {m n : ℕ} (v : Row m) (W : Arr m n) : Row n := fun k => ∑ i : Fin m, v i * W (ix2 i k)

/-- GELU by its hyperbolic tangent. -/
def gel (w : EReal) : EReal := w * (bits 0x3F000000#32 * (bits 0x3F800000#32 + Ideal.tanh (bits 0x3F4C422A#32 * (w + bits 0x3D372713#32 * (w * (w * w))))))

/-- The scan's output with its skip. -/
def skip (y u d : Row 512) : Row 512 := fun k => y k + d k * u k

/-- The gated product of the scan's branch. -/
def glu (W : Arr 512 1024) (v : Row 512) : Row 512 := fun k =>
  mv (fun i => gel (v i)) W ⟨k.val, by omega⟩ * sig (mv (fun i => gel (v i)) W ⟨512 + k.val, by omega⟩)

/-- The two branches through their matrices and gates. -/
def merge (Wa Ws : Arr 512 1024) (a s : Row 512) (ga gs : Row 1024) : Row 1024 := fun n => ga n * mv a Wa n + gs n * mv s Ws n

/-- A gated residual. -/
def resid {m : ℕ} (W : Arr m 1024) (x g : Row 1024) (v : Row m) : Row 1024 := fun n => x n + g n * mv v W n

/-- The root-mean-square norm. -/
def norm (h : Row 1024) : Row 1024 := fun n =>
  h n * Ideal.rsqrt (Ideal.div (∑ k : Fin 1024, h k * h k) (bits 0x44800000#32) + bits 0x358637BD#32)

/-- The norm with its weight, scaled and shifted by the modulation. -/
def modulated (w sc sh h : Row 1024) : Row 1024 := fun n => norm h n * w n * (bits 0x3F800000#32 + sc n) + sh n

/-- The feed-forward network's gated activation. -/
def act (W : Arr 1024 5632) (z : Row 1024) : Row 2816 := fun k =>
  mv z W ⟨k.val, by omega⟩ * sig (mv z W ⟨k.val, by omega⟩) * mv z W ⟨2816 + k.val, by omega⟩

/-- The weights of the tail. -/
@[ext] structure Weights where
  wglu : Arr 512 1024
  wa : Arr 512 1024
  ws : Arr 512 1024
  wout : Arr 1024 1024
  win : Arr 1024 5632
  wff : Arr 2816 1024
  d : Row 512
  gff : Row 1024
  gfin : Row 1024

/-- The inputs of one row. -/
@[ext] structure Inputs where
  x : Row 1024
  a : Row 512
  y : Row 512
  u : Row 512
  ga : Row 1024
  gs : Row 1024
  md : Row 6144

/-- Part `p` of the modulation. -/
def Inputs.part (I : Inputs) (p : Fin 6) : Row 1024 := fun n => I.md ⟨1024 * p.val + n.val, by omega⟩

variable (w : Weights) (I : Inputs)

/-- The merged branches. -/
def merged : Row 1024 := merge w.wa w.ws I.a (glu w.wglu (skip I.y I.u w.d)) I.ga I.gs
/-- After the first residual. -/
def h1 : Row 1024 := resid w.wout I.x (I.part 2) (merged w I)
/-- What the feed-forward network reads. -/
def n2 : Row 1024 := modulated w.gff (I.part 4) (I.part 3) (h1 w I)
/-- After the second residual. -/
def h2 : Row 1024 := resid w.wff (h1 w I) (I.part 5) (act w.win (n2 w I))
/-- The row of the result. -/
def result : Row 1024 := fun n => norm (h2 w I) n * w.gfin n

/-- The argument arrays. -/
structure Arrays where
  x : (⟨3, ![8, 4096, 1024]⟩ : Shape).Idx → EReal
  attn : (⟨4, ![8, 4, 4096, 128]⟩ : Shape).Idx → EReal
  y : (⟨4, ![32, 8, 256, 256]⟩ : Shape).Idx → EReal
  u : (⟨3, ![8, 4096, 512]⟩ : Shape).Idx → EReal
  ga : (⟨3, ![8, 4096, 1024]⟩ : Shape).Idx → EReal
  gs : (⟨3, ![8, 4096, 1024]⟩ : Shape).Idx → EReal
  md : Arr 16 6144
  d : Arr 1 512
  gff : Arr 1 1024
  gfin : (⟨1, ![1024]⟩ : Shape).Idx → EReal
  wglu : Arr 512 1024
  wa : Arr 512 1024
  ws : Arr 512 1024
  wout : Arr 1024 1024
  win : Arr 1024 5632
  wff : Arr 2816 1024

/-- The weights among them. -/
def Arrays.weights (A : Arrays) : Weights where
  wglu := A.wglu
  wa := A.wa
  ws := A.ws
  wout := A.wout
  win := A.win
  wff := A.wff
  d := fun k => A.d (ix2 0 k)
  gff := fun n => A.gff (ix2 0 n)
  gfin := fun n => A.gfin (ix1 n)

/-- Position `s` of sample `b`: the attention's heads beside one another in pairs, the scan's output by groups of sixteen channels,
    chunks of sixteen steps. -/
def Arrays.row (A : Arrays) (b : Fin 8) (s : Fin 4096) : Inputs where
  x := fun n => A.x (ix3 b s n)
  a := fun k => A.attn (ix4 b ⟨k.val / 128, by omega⟩ s ⟨k.val % 128, by omega⟩)
  y := fun k => A.y (ix4 ⟨k.val / 16, by omega⟩ b ⟨s.val / 16, by omega⟩ ⟨16 * (s.val % 16) + k.val % 16, by omega⟩)
  u := fun k => A.u (ix3 b s k)
  ga := fun n => A.ga (ix3 b s n)
  gs := fun n => A.gs (ix3 b s n)
  md := fun n => A.md (ix2 ⟨b.val, by omega⟩ n)

/-- The array of results. -/
def Arrays.out (A : Arrays) : (⟨3, ![8, 4096, 1024]⟩ : Shape).Idx → EReal := fun j => result A.weights (A.row (j 0) (j 1)) (j 2)

end Cert.Tail
-- ==== Proof.Pay.lean ====
/-
  THE KERNEL'S STEPS AS ROW FUNCTIONS. Each named step of the kernel's body, read at a row, is the row function of `Tail`: the
  hypotheses say what the row of each operand is. The two halves of a block use the same steps.
-/
module

public import proofs.«01_k».proof.Proof.Row
public import proofs.«01_k».proof.Proof.Gen.KernelIdeal.Value
public import Idealize.ShloMosaic.Lib.WholeRead

@[expose] public section

set_option maxRecDepth 16384

noncomputable section

namespace Cert.KernelIdeal.Post

open Idealize.ShloMosaic Idealize.ShloMosaic.TcCoe Idealize.ShloMosaic.Pointwise
open Cert.KernelIdeal Cert.KernelIdeal.Gen Cert.Tail

theorem pay360_apply (a : FVec Ideal S256x512 .f32) (d : FVec Ideal S1x512 .f32) (u : Vec Ideal S1x256x512 .bf16) (r : Fin 256) (k : Fin 512)
    (Y U D : Row 512) (hy : ∀ k, a (ix2 r k) = Y k) (hu : ∀ k, u (ix3 0 r k) = U k) (hd : ∀ k, d (ix2 0 k) = D k) :
    k0_pay360 a d u (ix2 r k) = gel (skip Y U D k) := by
  unfold gel skip
  pointwise [k0_pay360]
  simp only [hy, hu, hd]

theorem pay703_apply (g : FVec Ideal S256x512 .bf16) (W : Vec Ideal S512x1024 .bf16) (v : Row 512) (r : Fin 256) (W' : Arr 512 1024) (hW : ∀ i n, W (ix2 i n) = W' (ix2 i n)) (hv : ∀ k, g (ix2 r k) = gel (v k)) (k : Fin 512) :
    k0_pay703 g W (ix2 r k) = glu W' v k := by
  unfold glu mv
  pointwise [k0_pay703]
  simp only [hv, hW]

theorem pay704_eq (a : FVec Ideal S256x512 .f32) (d : Vec Ideal S1x512 .f32) (u : Vec Ideal S1x256x512 .bf16) (W : Vec Ideal S512x1024 .bf16) :
    k0_pay704 a d u W = k0_pay703 (k0_pay360 a (k0_pay359 d) u) W := rfl

theorem pay359_eq (d : Vec Ideal S1x512 .f32) : k0_pay359 d = d := shapeCast_id d _

/-- Four blocks of 128 columns beside one another. -/
theorem four_apply (p q s t : FVec Ideal S256x128 .bf16) (r : Fin 256) (A : Row 512)
    (hp : ∀ k : Fin 128, p (ix2 r k) = A ⟨k.val, by omega⟩) (hq : ∀ k : Fin 128, q (ix2 r k) = A ⟨128 + k.val, by omega⟩)
    (hs : ∀ k : Fin 128, s (ix2 r k) = A ⟨256 + k.val, by omega⟩) (ht : ∀ k : Fin 128, t (ix2 r k) = A ⟨384 + k.val, by omega⟩) (k : Fin 512) :
    concatenate S256x512 1 [⟨S256x128, p⟩, ⟨S256x128, q⟩, ⟨S256x128, s⟩, ⟨S256x128, t⟩] concatenates_S256x128_S256x128_S256x128_S256x128_S256x512_d1 (ix2 r k) = A k := by
  pointwise []
  split
  · rw [hp]
  · split
    · rw [hq]; congr 1; apply Fin.ext; simp only []; omega
    · split
      · rw [hs]; congr 1; apply Fin.ext; simp only []; omega
      · rw [ht]; congr 1; apply Fin.ext; simp only []; omega

theorem head_apply (p : Vec Ideal S1x1x256x128 .bf16) (r : Fin 256) (k : Fin 128) :
    k0_pay705 p (ix2 r k) = p (ix4 0 0 r k) := by
  pointwise [k0_pay705]

theorem pay707_eq (m : FVec Ideal S256x512 .bf16) (p q : FVec Ideal S256x128 .bf16) (s t : Vec Ideal S1x1x256x128 .bf16) (ga : Vec Ideal S1x256x1024 .bf16)
    (Wa : Vec Ideal S512x1024 .bf16) (gs : Vec Ideal S1x256x1024 .bf16) (Ws : Vec Ideal S512x1024 .bf16) :
    k0_pay707 m p q s t ga Wa gs Ws = k0_pay711 m p q (k0_pay705 s) t ga Wa gs Ws := rfl

theorem pay711_apply (m : FVec Ideal S256x512 .bf16) (p q s : FVec Ideal S256x128 .bf16) (t : Vec Ideal S1x1x256x128 .bf16) (ga : Vec Ideal S1x256x1024 .bf16)
    (Wa : Vec Ideal S512x1024 .bf16) (gs : Vec Ideal S1x256x1024 .bf16) (Ws : Vec Ideal S512x1024 .bf16) (r : Fin 256) (A M : Row 512) (G H : Row 1024)
    (Wa' Ws' : Arr 512 1024) (hWa : ∀ i n, Wa (ix2 i n) = Wa' (ix2 i n)) (hWs : ∀ i n, Ws (ix2 i n) = Ws' (ix2 i n)) (hm : ∀ k, m (ix2 r k) = M k)
    (hp : ∀ k : Fin 128, p (ix2 r k) = A ⟨k.val, by omega⟩) (hq : ∀ k : Fin 128, q (ix2 r k) = A ⟨128 + k.val, by omega⟩)
    (hs : ∀ k : Fin 128, s (ix2 r k) = A ⟨256 + k.val, by omega⟩) (ht : ∀ k : Fin 128, t (ix4 0 0 r k) = A ⟨384 + k.val, by omega⟩)
    (hg : ∀ n, ga (ix3 0 r n) = G n) (hh : ∀ n, gs (ix3 0 r n) = H n) (n : Fin 1024) :
    k0_pay711 m p q s t ga Wa gs Ws (ix2 r n) = merge Wa' Ws' A M G H n := by
  have hc := four_apply p q s (k0_pay705 t) r A hp hq hs (fun k => (head_apply t r k).trans (ht k))
  unfold merge mv
  simp only [← hm, ← hc, ← hg, ← hh, ← hWa, ← hWs]
  generalize hX : concatenate S256x512 1 [⟨S256x128, p⟩, ⟨S256x128, q⟩, ⟨S256x128, s⟩, ⟨S256x128, k0_pay705 t⟩] concatenates_S256x128_S256x128_S256x128_S256x128_S256x512_d1 = X
  have e : k0_pay711 m p q s t ga Wa gs Ws = truncf .bf16 (addf (mulf (extf .f32 (shapeCast S256x1024 ga shapeCasts_S1x256x1024_S256x1024) bitsLt_bf16_f32) (matmul dot_S256x512_S512x1024_S256x1024_1_0_0_1_n_n (φ₁ := .bf16) (φ₂ := .bf16) none X Wa (constant S256x1024 .f32 0x00000000#32)))
      (mulf (extf .f32 (shapeCast S256x1024 gs shapeCasts_S1x256x1024_S256x1024) bitsLt_bf16_f32) (matmul dot_S256x512_S512x1024_S256x1024_1_0_0_1_n_n (φ₁ := .bf16) (φ₂ := .bf16) none m Ws (constant S256x1024 .f32 0x00000000#32)))) bitsLt_bf16_f32 := by
    rw [← hX]; rfl
  rw [e]
  pointwise []

theorem pay712_apply (g : FVec Ideal S1x1024 .f32) (m : FVec Ideal S256x1024 .bf16) (x : Vec Ideal S1x256x1024 .f32) (W : Vec Ideal S1024x1024 .bf16) (r : Fin 256)
    (X G M : Row 1024) (W' : Arr 1024 1024) (hW : ∀ i n, W (ix2 i n) = W' (ix2 i n)) (hx : ∀ n, x (ix3 0 r n) = X n) (hg : ∀ n, g (ix2 0 n) = G n) (hm : ∀ k, m (ix2 r k) = M k) (n : Fin 1024) :
    k0_pay712 g m x W (ix2 r n) = resid W' X G M n := by
  unfold resid mv
  pointwise [k0_pay712]
  simp only [hx, hg, hm, hW]

theorem pay713_eq (g : FVec Ideal S1x1024 .f32) (m : FVec Ideal S256x1024 .bf16) (x : Vec Ideal S1x256x1024 .f32) (W : Vec Ideal S1024x1024 .bf16) :
    k0_pay713 g m x W = k0_pay712 g m x W := shapeCast_id _ _
theorem pay718_eq (g : FVec Ideal S1x1024 .f32) (m : FVec Ideal S256x1024 .bf16) (x : Vec Ideal S1x256x1024 .f32) (W : Vec Ideal S1024x1024 .bf16) :
    k0_pay718 g m x W = k0_pay712 g m x W := shapeCast_id _ _

/-- The norm of a block's rows, with its weight. -/
abbrev normed (h : FVec Ideal S256x1024 .f32) (w : FVec Ideal S1x1024 .f32) : FVec Ideal S256x1024 .f32 :=
  mulf (mulf h (broadcastTo S256x1024 (rsqrt (addf (divf (shapeCast S256x1 (multiReduction .add [1] S256 (mulf h h) 0x00000000#32 reduces_S256x1024_S256 (.inl rfl) rfl) shapeCasts_S256_S256x1)
      (broadcast S256x1 (Scalar.ofBits .f32 0x44800000#32))) (broadcast S256x1 (Scalar.ofBits .f32 0x358637BD#32)))) broadcasts_S256x1_S256x1024)) (broadcastTo S256x1024 w broadcasts_S1x1024_S256x1024)

theorem normed_apply (h : FVec Ideal S256x1024 .f32) (w : FVec Ideal S1x1024 .f32) (r : Fin 256) (X G : Row 1024)
    (hx : ∀ n, h (ix2 r n) = X n) (hg : ∀ n, w (ix2 0 n) = G n) (n : Fin 1024) :
    normed h w (ix2 r n) = Tail.norm X n * G n := by
  unfold Tail.norm
  pointwise [normed]
  simp only [hx, hg]

theorem pay720_apply (sh sc : FVec Ideal S1x1024 .f32) (h : FVec Ideal S256x1024 .f32) (w : FVec Ideal S1x1024 .f32) (r : Fin 256) (X G SC SH : Row 1024)
    (hx : ∀ n, h (ix2 r n) = X n) (hg : ∀ n, w (ix2 0 n) = G n) (hc : ∀ n, sc (ix2 0 n) = SC n) (hs : ∀ n, sh (ix2 0 n) = SH n) (n : Fin 1024) :
    k0_pay720 sh sc (normed h w) (ix2 r n) = modulated G SC SH X n := by
  unfold modulated
  rw [← normed_apply h w r X G hx hg, ← hc, ← hs]
  generalize normed h w = Q
  pointwise [k0_pay720]

theorem pay719_eq (g : FVec Ideal S1x1024 .f32) (m : FVec Ideal S256x1024 .bf16) (x : Vec Ideal S1x256x1024 .f32) (W : Vec Ideal S1024x1024 .bf16) (w : Vec Ideal S1x1024 .f32) :
    k0_pay719 g m x W w = normed (k0_pay712 g m x W) (k0_pay714 w) := rfl
theorem pay716_eq (sh sc : FVec Ideal S1x1024 .f32) (g : FVec Ideal S1x1024 .f32) (m : FVec Ideal S256x1024 .bf16) (x : Vec Ideal S1x256x1024 .f32) (W : Vec Ideal S1024x1024 .bf16) (w : Vec Ideal S1x1024 .f32) :
    k0_pay716 sh sc (k0_pay712 g m x W) (k0_pay714 w) (k0_pay715 g m x W) = k0_pay720 sh sc (normed (k0_pay712 g m x W) (k0_pay714 w)) := rfl
theorem pay714_eq (w : Vec Ideal S1x1024 .f32) : k0_pay714 w = w := shapeCast_id _ _

/-- A tile of the feed-forward network's activation. -/
theorem pay721_apply (z : Vec Ideal S256x1024 .bf16) (A B : Vec Ideal S1024x256 .bf16) (r : Fin 256) (k : Fin 256) (W : Arr 1024 5632) (Z : Row 1024) (K : Fin 2816)
    (hz : ∀ i, z (ix2 r i) = Z i) (hA : ∀ i, A (ix2 i k) = W (ix2 i ⟨K.val, by omega⟩)) (hB : ∀ i, B (ix2 i k) = W (ix2 i ⟨2816 + K.val, by omega⟩)) :
    k0_pay721 z A B (ix2 r k) = act W Z K := by
  unfold act mv
  pointwise [k0_pay721]
  simp only [hz, hA, hB]

theorem pay754_apply (g : FVec Ideal S1x1024 .f32) (h : Vec Ideal S256x1024 .f32) (a : Vec Ideal S256x2816 .bf16) (W : Vec Ideal S2816x1024 .bf16) (w : Vec Ideal S1x1024 .f32) (r : Fin 256)
    (X G : Row 1024) (M : Row 2816) (F : Row 1024) (W' : Arr 2816 1024) (hW : ∀ i n, W (ix2 i n) = W' (ix2 i n)) (hx : ∀ n, h (ix2 r n) = X n) (hg : ∀ n, g (ix2 0 n) = G n) (hm : ∀ k, a (ix2 r k) = M k) (hw : ∀ n, w (ix2 0 n) = F n) (n : Fin 1024) :
    k0_pay754 g h a W w (ix3 0 r n) = Tail.norm (resid W' X G M) n * F n := by
  have e : k0_pay754 g h a W w = shapeCast S1x256x1024 (normed (k0_pay750 g h a W) (k0_pay714 w)) shapeCasts_S256x1024_S1x256x1024 := rfl
  have h2 : ∀ n, k0_pay750 g h a W (ix2 r n) = resid W' X G M n := by
    intro n
    unfold resid mv
    pointwise [k0_pay750]
    simp only [hx, hg, hm, hW]
  rw [e, ← normed_apply (k0_pay750 g h a W) (k0_pay714 w) r _ F h2 (fun n => by rw [pay714_eq, hw])]
  generalize normed (k0_pay750 g h a W) (k0_pay714 w) = Q
  pointwise []

theorem pay753_eq (g : FVec Ideal S1x1024 .f32) (h : Vec Ideal S256x1024 .f32) (a : Vec Ideal S256x2816 .bf16) (W : Vec Ideal S2816x1024 .bf16) (w : Vec Ideal S1x1024 .f32) :
    k0_pay753 (k0_pay750 g h a W) (k0_pay751 g h a W) k0_pay752 w = k0_pay754 g h a W w := rfl

theorem row_apply (w : Vec Ideal S1x1x1024 .f32) (n : Fin 1024) : k0_pay1 w (ix2 0 n) = w (ix3 0 0 n) := by
  pointwise [k0_pay1]

/-- The row permutation: row `r` takes row `16 (r % 16) + r / 16`. -/
theorem pay358_apply (P : Vec Ideal S256x256 .bf16) (v : Vec Ideal S1x256x512 .f32) (hP : ∀ r k : Fin 256, P (ix2 r k) = if k.val = 16 * (r.val % 16) + r.val / 16 then 1 else 0)
    (r : Fin 256) (k : Fin 512) : k0_pay358 P v (ix2 r k) = v (ix3 0 ⟨16 * (r.val % 16) + r.val / 16, by omega⟩ k) := by
  pointwise [k0_pay358]
  rw [Finset.sum_eq_single (⟨16 * (r.val % 16) + r.val / 16, by omega⟩ : Fin 256)]
  · rw [hP, if_pos rfl, one_mul]
  · intro b _ hb
    rw [hP, if_neg (fun h => hb (Fin.ext h)), zero_mul]
  · intro h; exact absurd (Finset.mem_univ _) h

end Cert.KernelIdeal.Post
-- ==== Proof.Butterfly.lean ====
/-
  THE LANE TRANSPOSE. Eight vectors of 16 rows and 128 lanes; a lane is a block of sixteen lanes (0 … 7) and a place within it.
  The kernel exchanges the vector's number with the block's number in three steps (distances 64, 32, 16): after them lane
  `16 q + r` of vector `k` is lane `16 k + r` of vector `q`.
-/
module

public import proofs.«01_k».proof.Proof.Gen.KernelIdeal.Skeleton
public import Idealize.ShloMosaic.Lib.Pointwise

@[expose] public section

set_option maxRecDepth 16384

noncomputable section

namespace Cert.KernelIdeal.Post

open Idealize.ShloMosaic Idealize.ShloMosaic.TcCoe Idealize.ShloMosaic.Pointwise
open Cert.KernelIdeal Cert.KernelIdeal.Gen

/-- One vector of the transpose. -/
abbrev Blk : Type := FVec Ideal S16x128 .f32

/-- The lanes that keep their own vector's value at the step of distance `sh`: those in the lower half of their span `m + 1`. -/
abbrev lowLanes (m sh : BitVec 32) : IVec S16x128 1 :=
  broadcastTo S16x128 (shapeCast S1x128 (cmpi .slt (andi (iota .tc S1x128 32 [1] iota_S1x128_d1_w32) (broadcast S1x128 m)) (broadcast S1x128 sh)) shapeCasts_S1x128_S1x128) broadcasts_S1x128_S16x128

/-- The lower vector of a pair after a step. -/
abbrev lowOf (m sh : BitVec 32) (a b : Blk) : Blk := select (lowLanes m sh) a (dynamicRotate 1 sh none b rotates_S16x128_d1)
/-- The upper vector of a pair after a step; `up` is the rotation by 128 less the distance. -/
abbrev highOf (m sh up : BitVec 32) (a b : Blk) : Blk := select (lowLanes m sh) (dynamicRotate 1 up none a rotates_S16x128_d1) b

theorem keep64 : ∀ l : Fin 128, IntOp.cmpi CmpIPredicate.slt (IntOp.andi (BitVec.ofNat 32 l.val) 127#32) 64#32 = if l.val % 128 < 64 then 1#1 else 0#1 := by decide +kernel
theorem keep32 : ∀ l : Fin 128, IntOp.cmpi CmpIPredicate.slt (IntOp.andi (BitVec.ofNat 32 l.val) 63#32) 32#32 = if l.val % 64 < 32 then 1#1 else 0#1 := by decide +kernel
theorem keep16 : ∀ l : Fin 128, IntOp.cmpi CmpIPredicate.slt (IntOp.andi (BitVec.ofNat 32 l.val) 31#32) 16#32 = if l.val % 32 < 16 then 1#1 else 0#1 := by decide +kernel

theorem select_ite {α : Type} (p : Prop) [Decidable p] (x y : α) : Scalar.select (if p then 1#1 else 0#1) x y = if p then x else y := by
  by_cases h : p <;> simp [h, Scalar.select]

/-- Lane `l` of a vector, the lane any number. -/
def lane (a : Blk) (t : Fin 16) (l : ℕ) : EReal := a (ix2 t ⟨l % 128, Nat.mod_lt _ (by decide)⟩)

theorem lane_val (a : Blk) (t : Fin 16) (l : Fin 128) : a (ix2 t l) = lane a t l.val := by
  unfold lane; congr 2; exact Fin.ext (Nat.mod_eq_of_lt l.isLt).symm

theorem low64 (a b : Blk) (t : Fin 16) (l : ℕ) :
    lane (lowOf 127#32 64#32 a b) t l = if l % 128 < 64 then lane a t l else lane b t (l + 64) := by
  unfold lane
  pointwise [lowOf, lowLanes]
  rw [keep64 ⟨l % 128, Nat.mod_lt _ (by decide)⟩, select_ite]
  simp only [Nat.mod_mod]
  congr 3; apply Fin.ext; simp only []; omega
theorem high64 (a b : Blk) (t : Fin 16) (l : ℕ) :
    lane (highOf 127#32 64#32 64#32 a b) t l = if l % 128 < 64 then lane a t (l + 64) else lane b t l := by
  unfold lane
  pointwise [highOf, lowLanes]
  rw [keep64 ⟨l % 128, Nat.mod_lt _ (by decide)⟩, select_ite]
  simp only [Nat.mod_mod]
  congr 3; apply Fin.ext; simp only []; omega
theorem low32 (a b : Blk) (t : Fin 16) (l : ℕ) :
    lane (lowOf 63#32 32#32 a b) t l = if l % 64 < 32 then lane a t l else lane b t (l + 96) := by
  unfold lane
  pointwise [lowOf, lowLanes]
  rw [keep32 ⟨l % 128, Nat.mod_lt _ (by decide)⟩, select_ite]
  simp only [Nat.mod_mod, show l % 128 % 64 = l % 64 by omega]
  congr 3; apply Fin.ext; simp only []; omega
theorem high32 (a b : Blk) (t : Fin 16) (l : ℕ) :
    lane (highOf 63#32 32#32 96#32 a b) t l = if l % 64 < 32 then lane a t (l + 32) else lane b t l := by
  unfold lane
  pointwise [highOf, lowLanes]
  rw [keep32 ⟨l % 128, Nat.mod_lt _ (by decide)⟩, select_ite]
  simp only [Nat.mod_mod, show l % 128 % 64 = l % 64 by omega]
  congr 3; apply Fin.ext; simp only []; omega
theorem low16 (a b : Blk) (t : Fin 16) (l : ℕ) :
    lane (lowOf 31#32 16#32 a b) t l = if l % 32 < 16 then lane a t l else lane b t (l + 112) := by
  unfold lane
  pointwise [lowOf, lowLanes]
  rw [keep16 ⟨l % 128, Nat.mod_lt _ (by decide)⟩, select_ite]
  simp only [Nat.mod_mod, show l % 128 % 32 = l % 32 by omega]
  congr 3; apply Fin.ext; simp only []; omega
theorem high16 (a b : Blk) (t : Fin 16) (l : ℕ) :
    lane (highOf 31#32 16#32 112#32 a b) t l = if l % 32 < 16 then lane a t (l + 16) else lane b t l := by
  unfold lane
  pointwise [highOf, lowLanes]
  rw [keep16 ⟨l % 128, Nat.mod_lt _ (by decide)⟩, select_ite]
  simp only [Nat.mod_mod, show l % 128 % 32 = l % 32 by omega]
  congr 3; apply Fin.ext; simp only []; omega

/-- Lane `16 q + r` of vector `k` is lane `16 k + r` of vector `q` (the eight vectors given one by one). -/
def crossed (k : ℕ) (a0 a1 a2 a3 a4 a5 a6 a7 : Blk) (t : Fin 16) (l : ℕ) : EReal :=
  lane (if l / 16 = 0 then a0 else if l / 16 = 1 then a1 else if l / 16 = 2 then a2 else if l / 16 = 3 then a3 else if l / 16 = 4 then a4
    else if l / 16 = 5 then a5 else if l / 16 = 6 then a6 else a7) t (16 * k + l % 16)

theorem lane_congr (a : Blk) (t : Fin 16) {l l' : ℕ} (h : l % 128 = l' % 128) : lane a t l = lane a t l' := by
  unfold lane; simp only [h]

/-- Vector 0 after the three steps. -/
abbrev turn0 (a0 a1 a2 a3 a4 a5 a6 a7 : Blk) : Blk := lowOf 31#32 16#32 (lowOf 63#32 32#32 (lowOf 127#32 64#32 (a0) (a4)) (lowOf 127#32 64#32 (a2) (a6))) (lowOf 63#32 32#32 (lowOf 127#32 64#32 (a1) (a5)) (lowOf 127#32 64#32 (a3) (a7)))
theorem turn0_lane (a0 a1 a2 a3 a4 a5 a6 a7 : Blk) (t : Fin 16) (l : Fin 128) :
    turn0 a0 a1 a2 a3 a4 a5 a6 a7 (ix2 t l) = crossed 0 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn0 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 1 after the three steps. -/
abbrev turn1 (a0 a1 a2 a3 a4 a5 a6 a7 : Blk) : Blk := highOf 31#32 16#32 112#32 (lowOf 63#32 32#32 (lowOf 127#32 64#32 (a0) (a4)) (lowOf 127#32 64#32 (a2) (a6))) (lowOf 63#32 32#32 (lowOf 127#32 64#32 (a1) (a5)) (lowOf 127#32 64#32 (a3) (a7)))
theorem turn1_lane (a0 a1 a2 a3 a4 a5 a6 a7 : Blk) (t : Fin 16) (l : Fin 128) :
    turn1 a0 a1 a2 a3 a4 a5 a6 a7 (ix2 t l) = crossed 1 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn1 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 2 after the three steps. -/
abbrev turn2 (a0 a1 a2 a3 a4 a5 a6 a7 : Blk) : Blk := lowOf 31#32 16#32 (highOf 63#32 32#32 96#32 (lowOf 127#32 64#32 (a0) (a4)) (lowOf 127#32 64#32 (a2) (a6))) (highOf 63#32 32#32 96#32 (lowOf 127#32 64#32 (a1) (a5)) (lowOf 127#32 64#32 (a3) (a7)))
theorem turn2_lane (a0 a1 a2 a3 a4 a5 a6 a7 : Blk) (t : Fin 16) (l : Fin 128) :
    turn2 a0 a1 a2 a3 a4 a5 a6 a7 (ix2 t l) = crossed 2 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn2 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 3 after the three steps. -/
abbrev turn3 (a0 a1 a2 a3 a4 a5 a6 a7 : Blk) : Blk := highOf 31#32 16#32 112#32 (highOf 63#32 32#32 96#32 (lowOf 127#32 64#32 (a0) (a4)) (lowOf 127#32 64#32 (a2) (a6))) (highOf 63#32 32#32 96#32 (lowOf 127#32 64#32 (a1) (a5)) (lowOf 127#32 64#32 (a3) (a7)))
theorem turn3_lane (a0 a1 a2 a3 a4 a5 a6 a7 : Blk) (t : Fin 16) (l : Fin 128) :
    turn3 a0 a1 a2 a3 a4 a5 a6 a7 (ix2 t l) = crossed 3 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn3 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 4 after the three steps. -/
abbrev turn4 (a0 a1 a2 a3 a4 a5 a6 a7 : Blk) : Blk := lowOf 31#32 16#32 (lowOf 63#32 32#32 (highOf 127#32 64#32 64#32 (a0) (a4)) (highOf 127#32 64#32 64#32 (a2) (a6))) (lowOf 63#32 32#32 (highOf 127#32 64#32 64#32 (a1) (a5)) (highOf 127#32 64#32 64#32 (a3) (a7)))
theorem turn4_lane (a0 a1 a2 a3 a4 a5 a6 a7 : Blk) (t : Fin 16) (l : Fin 128) :
    turn4 a0 a1 a2 a3 a4 a5 a6 a7 (ix2 t l) = crossed 4 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn4 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 5 after the three steps. -/
abbrev turn5 (a0 a1 a2 a3 a4 a5 a6 a7 : Blk) : Blk := highOf 31#32 16#32 112#32 (lowOf 63#32 32#32 (highOf 127#32 64#32 64#32 (a0) (a4)) (highOf 127#32 64#32 64#32 (a2) (a6))) (lowOf 63#32 32#32 (highOf 127#32 64#32 64#32 (a1) (a5)) (highOf 127#32 64#32 64#32 (a3) (a7)))
theorem turn5_lane (a0 a1 a2 a3 a4 a5 a6 a7 : Blk) (t : Fin 16) (l : Fin 128) :
    turn5 a0 a1 a2 a3 a4 a5 a6 a7 (ix2 t l) = crossed 5 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn5 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 6 after the three steps. -/
abbrev turn6 (a0 a1 a2 a3 a4 a5 a6 a7 : Blk) : Blk := lowOf 31#32 16#32 (highOf 63#32 32#32 96#32 (highOf 127#32 64#32 64#32 (a0) (a4)) (highOf 127#32 64#32 64#32 (a2) (a6))) (highOf 63#32 32#32 96#32 (highOf 127#32 64#32 64#32 (a1) (a5)) (highOf 127#32 64#32 64#32 (a3) (a7)))
theorem turn6_lane (a0 a1 a2 a3 a4 a5 a6 a7 : Blk) (t : Fin 16) (l : Fin 128) :
    turn6 a0 a1 a2 a3 a4 a5 a6 a7 (ix2 t l) = crossed 6 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn6 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

/-- Vector 7 after the three steps. -/
abbrev turn7 (a0 a1 a2 a3 a4 a5 a6 a7 : Blk) : Blk := highOf 31#32 16#32 112#32 (highOf 63#32 32#32 96#32 (highOf 127#32 64#32 64#32 (a0) (a4)) (highOf 127#32 64#32 64#32 (a2) (a6))) (highOf 63#32 32#32 96#32 (highOf 127#32 64#32 64#32 (a1) (a5)) (highOf 127#32 64#32 64#32 (a3) (a7)))
theorem turn7_lane (a0 a1 a2 a3 a4 a5 a6 a7 : Blk) (t : Fin 16) (l : Fin 128) :
    turn7 a0 a1 a2 a3 a4 a5 a6 a7 (ix2 t l) = crossed 7 a0 a1 a2 a3 a4 a5 a6 a7 t l.val := by
  have hl := l.isLt
  have hq : l.val / 16 = 0 ∨ l.val / 16 = 1 ∨ l.val / 16 = 2 ∨ l.val / 16 = 3 ∨ l.val / 16 = 4 ∨ l.val / 16 = 5 ∨ l.val / 16 = 6 ∨ l.val / 16 = 7 := by omega
  rw [lane_val (turn7 a0 a1 a2 a3 a4 a5 a6 a7)]
  simp only [low16, high16, low32, high32, low64, high64]
  unfold crossed
  rcases hq with h | h | h | h | h | h | h | h <;> simp only [h, if_true, if_false, Nat.reduceEqDiff, OfNat.ofNat_ne_zero, OfNat.ofNat_ne_one, one_ne_zero, OfNat.ofNat_eq_ofNat] <;>
    · repeat' split
      all_goals first
        | omega
        | (apply lane_congr; omega)

end Cert.KernelIdeal.Post
-- ==== Proof.Stage.lean ====
/-
  THE STAGING BUFFER OF THE STATE-SPACE OUTPUT. The output arrives by groups: `x2[g, 0, s, 16 j + i]` is channel `i` of group `g` at
  step `j` of chunk `s`. The kernel turns it around into rows `16 j + t` and columns `16 g + i` by lane transposes of 16 × 128 pieces;
  here each of the 128 stored pieces is shown to be the one rearrangement `turned` of the block, so a half read back holds it.
-/
module

public import proofs.«01_k».proof.Proof.Butterfly
public import proofs.«01_k».proof.Proof.Gen.KernelIdeal.Value
public import Idealize.ShloMosaic.Lib.WholeRead

@[expose] public section

set_option maxRecDepth 16384
set_option maxHeartbeats 4000000

noncomputable section

namespace Cert.KernelIdeal.Post

open Idealize.ShloMosaic Idealize.ShloMosaic.TcCoe Idealize.ShloMosaic.Pointwise
open Cert.KernelIdeal Cert.KernelIdeal.Gen

variable (c : Dev nD) (arg4 : Memref sig .tc .vmem S32x1x32x256 .bf16) (harg4 : arg4.IsWhole) (x2 : Vec Ideal S32x1x32x256 .bf16)

/-- The block of group outputs at (group, chunk, lane), the three numbers any. -/
def grp (g s l : ℕ) : EReal :=
  x2 (ix4 ⟨g % 32, Nat.mod_lt _ (by decide)⟩ ⟨0, by decide⟩ ⟨s % 32, Nat.mod_lt _ (by decide)⟩ ⟨l % 256, Nat.mod_lt _ (by decide)⟩)

/-- What the staging buffer is to hold at (half, row, column). -/
def turnedAt (h r k : ℕ) : EReal := grp x2 (k / 16) (16 * h + r % 16) (16 * (r / 16) + k % 16)
/-- The same as contents of the buffer. -/
def turned : Vec Ideal S2x256x512 .f32 := fun y => turnedAt x2 (y 0).val (y 1).val (y 2).val

/-- The rows of a piece of group `g`: sixteen chunks from `s`, 128 lanes from `l`, widened. -/
abbrev ldB (g s l : ℕ) (inb : ∀ a, (![g, 0, s, l] : Fin 4 → ℕ) a + S1x1x16x128.size a ≤ S32x1x32x256.size a) : Blk :=
  extf .f32 (shapeCast S16x128 (View.readAt (Elt Ideal) arg4.view (Rect.unit (s := S32x1x32x256) ![g, 0, s, l] S1x1x16x128.size inb).toLoadRect (harg4.unread x2)) shapeCasts_S1x1x16x128_S16x128) bitsLt_bf16_f32

theorem dropLead (v : Vec Ideal S1x1x16x128 .bf16) (t : Fin 16) (l : Fin 128) :
    shapeCast S16x128 v shapeCasts_S1x1x16x128_S16x128 (ix2 t l) = v (ix4 ⟨0, by decide⟩ ⟨0, by decide⟩ t l) := by
  pointwise []

theorem ldB_lane (g s l : ℕ) (inb : ∀ a, (![g, 0, s, l] : Fin 4 → ℕ) a + S1x1x16x128.size a ≤ S32x1x32x256.size a) (t : Fin 16) (n : ℕ) :
    lane (ldB arg4 harg4 x2 g s l inb) t n = grp x2 g (s + t.val) (l + n % 128) := by
  have h0 : g + 1 ≤ 32 := inb 0
  have h2 : s + 16 ≤ 32 := inb 2
  have h3 : l + 128 ≤ 256 := inb 3
  have ht := t.isLt
  have hn : n % 128 < 128 := Nat.mod_lt _ (by decide)
  unfold lane
  refine (dropLead (View.readAt (Elt Ideal) arg4.view (Rect.unit (s := S32x1x32x256) ![g, 0, s, l] S1x1x16x128.size inb).toLoadRect (harg4.unread x2)) t ⟨n % 128, hn⟩).trans ?_
  refine (Memref.IsWhole.readAt_unread harg4 x2 _ _).trans ?_
  unfold grp
  congr 1
  funext a
  apply Fin.ext
  match a with
  | 0 => show g + 1 * 0 = g % 32; omega
  | 1 => rfl
  | 2 => show s + 1 * t.val = (s + t.val) % 32; omega
  | 3 => show l + 1 * (n % 128) = (l + n % 128) % 256; omega

theorem addLead (v : Blk) (y : S1x16x128.Idx) :
    shapeCast S1x16x128 v shapeCasts_S16x128_S1x16x128 y = v (ix2 (y 1) (y 2)) := by
  refine (Idealize.ShloMosaic.shapeCast_addUnit_apply _ v _ y).trans ?_
  congr 1
  funext a; match a with
  | 0 => rfl
  | 1 => rfl

theorem inbB {v i hf jh : ℕ} (hv : v < 4) (hi : i < 8) (hh : hf < 2) (hj : jh < 2) (a : Fin 4) :
    (![8 * v + i, 0, 16 * hf, 128 * jh] : Fin 4 → ℕ) a + S1x1x16x128.size a ≤ S32x1x32x256.size a := by
  match a with
  | 0 => show 8 * v + i + 1 ≤ 32; omega
  | 1 => show 0 + 1 ≤ 1; omega
  | 2 => show 16 * hf + 16 ≤ 32; omega
  | 3 => show 128 * jh + 128 ≤ 256; omega

theorem inbY {k v hf jh : ℕ} (hv : v < 4) (hk : k < 8) (hh : hf < 2) (hj : jh < 2) (a : Fin 3) :
    (![hf, 128 * jh + 16 * k, 128 * v] : Fin 3 → ℕ) a + S1x16x128.size a ≤ S2x256x512.size a := by
  match a with
  | 0 => show hf + 1 ≤ 2; omega
  | 1 => show 128 * jh + 16 * k + 16 ≤ 256; omega
  | 2 => show 128 * v + 128 ≤ 512; omega

theorem crossed_turned (k v hf jh : ℕ) (hk : k < 8) (b0 b1 b2 b3 b4 b5 b6 b7 : Blk)
    (h0 : ∀ t n, lane b0 t n = grp x2 (8 * v + 0) (16 * hf + t.val) (128 * jh + n % 128))
    (h1 : ∀ t n, lane b1 t n = grp x2 (8 * v + 1) (16 * hf + t.val) (128 * jh + n % 128))
    (h2 : ∀ t n, lane b2 t n = grp x2 (8 * v + 2) (16 * hf + t.val) (128 * jh + n % 128))
    (h3 : ∀ t n, lane b3 t n = grp x2 (8 * v + 3) (16 * hf + t.val) (128 * jh + n % 128))
    (h4 : ∀ t n, lane b4 t n = grp x2 (8 * v + 4) (16 * hf + t.val) (128 * jh + n % 128))
    (h5 : ∀ t n, lane b5 t n = grp x2 (8 * v + 5) (16 * hf + t.val) (128 * jh + n % 128))
    (h6 : ∀ t n, lane b6 t n = grp x2 (8 * v + 6) (16 * hf + t.val) (128 * jh + n % 128))
    (h7 : ∀ t n, lane b7 t n = grp x2 (8 * v + 7) (16 * hf + t.val) (128 * jh + n % 128))
    (t : Fin 16) (l : ℕ) (hl : l < 128) :
    crossed k b0 b1 b2 b3 b4 b5 b6 b7 t l = turnedAt x2 hf (128 * jh + 16 * k + t.val) (128 * v + l) := by
  have ht := t.isLt
  unfold crossed turnedAt
  have hq : l / 16 = 0 ∨ l / 16 = 1 ∨ l / 16 = 2 ∨ l / 16 = 3 ∨ l / 16 = 4 ∨ l / 16 = 5 ∨ l / 16 = 6 ∨ l / 16 = 7 := by omega
  rcases hq with h | h | h | h | h | h | h | h <;> simp only [h, if_true, if_false, Nat.reduceEqDiff, OfNat.ofNat_ne_zero, OfNat.ofNat_ne_one, one_ne_zero, OfNat.ofNat_eq_ofNat] <;>
    simp only [h0, h1, h2, h3, h4, h5, h6, h7] <;> congr 1 <;> omega

/-- Piece 0 of a tile: the transpose's vector 0 is the wanted sixteen rows. -/
theorem piece0 (v hf jh : ℕ) (hv : v < 4) (hh : hf < 2) (hj : jh < 2) (y : S1x16x128.Idx) :
    shapeCast S1x16x128 (turn0 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 0, 128 * v] S1x16x128.size (inbY hv (by decide) hh hj)).emb y) := by
  have hy0 : (y 0).val = 0 := by have : (y 0).val < 1 := (y 0).isLt; omega
  refine (addLead _ y).trans ((turn0_lane _ _ _ _ _ _ _ _ (y 1) (y 2)).trans ?_)
  refine (crossed_turned x2 0 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 0 + 1 * (y 1).val; omega
  · show _ = 128 * v + 1 * (y 2).val; omega

/-- Piece 1 of a tile: the transpose's vector 1 is the wanted sixteen rows. -/
theorem piece1 (v hf jh : ℕ) (hv : v < 4) (hh : hf < 2) (hj : jh < 2) (y : S1x16x128.Idx) :
    shapeCast S1x16x128 (turn1 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 1, 128 * v] S1x16x128.size (inbY hv (by decide) hh hj)).emb y) := by
  have hy0 : (y 0).val = 0 := by have : (y 0).val < 1 := (y 0).isLt; omega
  refine (addLead _ y).trans ((turn1_lane _ _ _ _ _ _ _ _ (y 1) (y 2)).trans ?_)
  refine (crossed_turned x2 1 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 1 + 1 * (y 1).val; omega
  · show _ = 128 * v + 1 * (y 2).val; omega

/-- Piece 2 of a tile: the transpose's vector 2 is the wanted sixteen rows. -/
theorem piece2 (v hf jh : ℕ) (hv : v < 4) (hh : hf < 2) (hj : jh < 2) (y : S1x16x128.Idx) :
    shapeCast S1x16x128 (turn2 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 2, 128 * v] S1x16x128.size (inbY hv (by decide) hh hj)).emb y) := by
  have hy0 : (y 0).val = 0 := by have : (y 0).val < 1 := (y 0).isLt; omega
  refine (addLead _ y).trans ((turn2_lane _ _ _ _ _ _ _ _ (y 1) (y 2)).trans ?_)
  refine (crossed_turned x2 2 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 2 + 1 * (y 1).val; omega
  · show _ = 128 * v + 1 * (y 2).val; omega

/-- Piece 3 of a tile: the transpose's vector 3 is the wanted sixteen rows. -/
theorem piece3 (v hf jh : ℕ) (hv : v < 4) (hh : hf < 2) (hj : jh < 2) (y : S1x16x128.Idx) :
    shapeCast S1x16x128 (turn3 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 3, 128 * v] S1x16x128.size (inbY hv (by decide) hh hj)).emb y) := by
  have hy0 : (y 0).val = 0 := by have : (y 0).val < 1 := (y 0).isLt; omega
  refine (addLead _ y).trans ((turn3_lane _ _ _ _ _ _ _ _ (y 1) (y 2)).trans ?_)
  refine (crossed_turned x2 3 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 3 + 1 * (y 1).val; omega
  · show _ = 128 * v + 1 * (y 2).val; omega

/-- Piece 4 of a tile: the transpose's vector 4 is the wanted sixteen rows. -/
theorem piece4 (v hf jh : ℕ) (hv : v < 4) (hh : hf < 2) (hj : jh < 2) (y : S1x16x128.Idx) :
    shapeCast S1x16x128 (turn4 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 4, 128 * v] S1x16x128.size (inbY hv (by decide) hh hj)).emb y) := by
  have hy0 : (y 0).val = 0 := by have : (y 0).val < 1 := (y 0).isLt; omega
  refine (addLead _ y).trans ((turn4_lane _ _ _ _ _ _ _ _ (y 1) (y 2)).trans ?_)
  refine (crossed_turned x2 4 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 4 + 1 * (y 1).val; omega
  · show _ = 128 * v + 1 * (y 2).val; omega

/-- Piece 5 of a tile: the transpose's vector 5 is the wanted sixteen rows. -/
theorem piece5 (v hf jh : ℕ) (hv : v < 4) (hh : hf < 2) (hj : jh < 2) (y : S1x16x128.Idx) :
    shapeCast S1x16x128 (turn5 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 5, 128 * v] S1x16x128.size (inbY hv (by decide) hh hj)).emb y) := by
  have hy0 : (y 0).val = 0 := by have : (y 0).val < 1 := (y 0).isLt; omega
  refine (addLead _ y).trans ((turn5_lane _ _ _ _ _ _ _ _ (y 1) (y 2)).trans ?_)
  refine (crossed_turned x2 5 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 5 + 1 * (y 1).val; omega
  · show _ = 128 * v + 1 * (y 2).val; omega

/-- Piece 6 of a tile: the transpose's vector 6 is the wanted sixteen rows. -/
theorem piece6 (v hf jh : ℕ) (hv : v < 4) (hh : hf < 2) (hj : jh < 2) (y : S1x16x128.Idx) :
    shapeCast S1x16x128 (turn6 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 6, 128 * v] S1x16x128.size (inbY hv (by decide) hh hj)).emb y) := by
  have hy0 : (y 0).val = 0 := by have : (y 0).val < 1 := (y 0).isLt; omega
  refine (addLead _ y).trans ((turn6_lane _ _ _ _ _ _ _ _ (y 1) (y 2)).trans ?_)
  refine (crossed_turned x2 6 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 6 + 1 * (y 1).val; omega
  · show _ = 128 * v + 1 * (y 2).val; omega

/-- Piece 7 of a tile: the transpose's vector 7 is the wanted sixteen rows. -/
theorem piece7 (v hf jh : ℕ) (hv : v < 4) (hh : hf < 2) (hj : jh < 2) (y : S1x16x128.Idx) :
    shapeCast S1x16x128 (turn7 (ldB arg4 harg4 x2 (8 * v + 0) (16 * hf) (128 * jh) (inbB hv (by decide) hh hj)) (ldB arg4 harg4 x2 (8 * v + 1) (16 * hf) (128 * jh) (inbB hv (by decide) hh hj)) (ldB arg4 harg4 x2 (8 * v + 2) (16 * hf) (128 * jh) (inbB hv (by decide) hh hj)) (ldB arg4 harg4 x2 (8 * v + 3) (16 * hf) (128 * jh) (inbB hv (by decide) hh hj)) (ldB arg4 harg4 x2 (8 * v + 4) (16 * hf) (128 * jh) (inbB hv (by decide) hh hj)) (ldB arg4 harg4 x2 (8 * v + 5) (16 * hf) (128 * jh) (inbB hv (by decide) hh hj)) (ldB arg4 harg4 x2 (8 * v + 6) (16 * hf) (128 * jh) (inbB hv (by decide) hh hj)) (ldB arg4 harg4 x2 (8 * v + 7) (16 * hf) (128 * jh) (inbB hv (by decide) hh hj))) shapeCasts_S16x128_S1x16x128 y
      = turned x2 ((Rect.unit (s := S2x256x512) ![hf, 128 * jh + 16 * 7, 128 * v] S1x16x128.size (inbY hv (by decide) hh hj)).emb y) := by
  have hy0 : (y 0).val = 0 := by have : (y 0).val < 1 := (y 0).isLt; omega
  refine (addLead _ y).trans ((turn7_lane _ _ _ _ _ _ _ _ (y 1) (y 2)).trans ?_)
  refine (crossed_turned x2 7 v hf jh (by decide) _ _ _ _ _ _ _ _ (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (ldB_lane arg4 harg4 x2 _ _ _ _) (y 1) (y 2).val (y 2).isLt).trans ?_
  unfold turned
  congr 1
  · show hf = hf + 1 * (y 0).val; omega
  · show _ = 128 * jh + 16 * 7 + 1 * (y 1).val; omega
  · show _ = 128 * v + 1 * (y 2).val; omega

open kernelRun0_A.sl

/-- The pieces of the first half hold the wanted rows. -/
theorem half0_pieces : ∀ p ∈ HS3_64 c arg4 harg4 x2, ∀ y, p.2 y = turned x2 (p.1.emb y) := by
  unfold HS3_64
  refine List.forall_mem_cons.2 ⟨piece7 arg4 harg4 x2 3 0 1 (by decide) (by decide) (by decide), ?_⟩
  refine List.forall_mem_cons.2 ⟨piece6 arg4 harg4 x2 3 0 1 (by decide) (by decide) (by decide), ?_⟩
  refine List.forall_mem_cons.2 ⟨piece5 arg4 harg4 x2 3 0 1 (by decide) (by decide) (by decide), ?_⟩
  refine List.forall_mem_cons.2 ⟨piece4 arg4 harg4 x2 3 0 1 (by decide) (by decide) (by decide), ?_⟩
  refine List.forall_mem_cons.2 ⟨piece3 arg4 harg4 x2 3 0 1 (by decide) (by decide) (by decide), ?_⟩
  refine List.forall_mem_cons.2 ⟨piece2 arg4 harg4 x2 3 0 1 (by decide) (by decide) (by decide), ?_⟩
  refine List.forall_mem_cons.2 ⟨piece1 arg4 harg4 x2 3 0 1 (by decide) (by decide) (by decide), ?_⟩
  refine List.forall_mem_cons.2 ⟨piece0 arg4 harg4 x2 3 0 1 (by decide) (by decide) (by decide), ?_⟩
  refine List.forall_mem_cons.2 ⟨piece7 arg4 harg4 x2 3 0 0 (by decide) (by decide) (by decide), ?_⟩
  refine List.forall_mem_cons.2 ⟨piece6 arg4 harg4 x2 3 0 0 (by decide) (by decide) (by decide), ?_⟩
  refine List.forall_mem_cons.2 ⟨piece5 arg4 harg4 x2 3 0 0 (by decide) (by decide) (by decide), ?_⟩
  refine List.forall_mem_cons.2 ⟨piece4 arg4 harg4 x2 3 0 0 (by decide) (by decide) (by decide), ?_⟩
  refine List.forall_mem_cons.2 ⟨piece3 arg4 harg4 x2 3 0 0 (by decide) (by decide) (by decide), ?_⟩
  refine List.forall_mem_cons.2 ⟨piece2 arg4 harg4 x2 3 0 0 (by decide) (by decide) (by decide), ?_⟩
  refine List.forall_mem_cons.2 ⟨piece1 arg4 harg4 x2 3 0 0 (by decide) (by decide) (by decide), ?_⟩
  refine List.forall_mem_cons.2 ⟨piece0 arg4 harg4 x2 3 0 0 (by decide) (by decide) (by decide), ?_⟩
  refine List.forall_mem_cons.2 ⟨piece7 arg4 harg4 x2 2 0 1 (by decide) (by decide) (by decide), ?_⟩
  refine List.forall_mem_cons.2 ⟨piece6 arg4 harg4 x2 2 0 1 (by decide) (by decide) (by decide), ?_⟩
  refine List.forall_mem_cons.2 ⟨piece5 arg4 harg4 x2 2 0 1 (by decide) (by decide) (by decide), ?_⟩
  refine List.forall_mem_cons.2 ⟨piece4 arg4 harg4 x2 2 0 1 (by decide) (by decide) (by decide), ?_⟩
  refine List.forall_mem_cons.2 ⟨piece3 arg4 harg4 x2 2 0 1 (by decide) (by decide) (by decide), ?_⟩
  refine List.forall_mem_cons.2 ⟨piece2 arg4 harg4 x2 2 0 1 (by decide) (by decide) (by decide), ?_⟩
  refine List.forall_mem_cons.2 ⟨piece1 arg4 harg4 x2 2 0 1 (by decide) (by decide) (by decide), ?_⟩
  refine List.forall_mem_cons.2 ⟨piece0 arg4 harg4 x2 2 0 1 (by decide) (by decide) (by decide), ?_⟩
  refine List.forall_mem_cons.2 ⟨piece7 arg4 harg4 x2 2 0 0 (by decide) (by decide) (by decide), ?_⟩
  refine List.forall_mem_cons.2 ⟨piece6 arg4 harg4 x2 2 0 0 (by decide) (by decide) (by decide), ?_⟩
  refine List.forall_mem_cons.2 ⟨piece5 arg4 harg4 x2 2 0 0 (by decide) (by decide) (by decide), ?_⟩
  refine List.forall_mem_cons.2 ⟨piece4 arg4 harg4 x2 2 0 0 (by decide) (by decide) (by decide), ?_⟩
  refine List.forall_mem_cons.2 ⟨piece3 arg4 harg4 x2 2 0 0 (by decide) (by decide) (by decide), ?_⟩
  refine List.forall_mem_cons.2 ⟨piece2 arg4 harg4 x2 2 0 0 (by decide) (by decide) (by decide), ?_⟩
  refine List.forall_mem_cons.2 ⟨piece1 arg4 harg4 x2 2 0 0 (by decide) (by decide) (by decide), ?_⟩
  refine List.forall_mem_cons.2 ⟨piece0 arg4 harg4 x2 2 0 0 (by decide) (by decide) (by decide), ?_⟩
  refine List.forall_mem_cons.2 ⟨piece7 arg4 harg4 x2 1 0 1 (by decide) (by decide) (by decide), ?_⟩
  refine List.forall_mem_cons.2 ⟨piece6 arg4 harg4 x2 1 0 1 (by decide) (by decide) (by decide), ?_⟩
  refine List.forall_mem_cons.2 ⟨piece5 arg4 harg4 x2 1 0 1 (by decide) (by decide) (by decide), ?_⟩
  refine List.forall_mem_cons.2 ⟨piece4 arg4 harg4 x2 1 0 1 (by decide) (by decide) (by decide), ?_⟩
  refine List.forall_mem_cons.2 ⟨piece3 arg4 harg4 x2 1 0 1 (by decide) (by decide) (by decide), ?_⟩
  refine List.forall_mem_cons.2 ⟨piece2 arg4 harg4 x2 1 0 1 (by decide) (by decide) (by decide), ?_⟩
  refine List.forall_mem_cons.2 ⟨piece1 arg4 harg4 x2 1 0 1 (by decide) (by decide) (by decide), ?_⟩
  refine List.forall_mem_cons.2 ⟨piece0 arg4 harg4 x2 1 0 1 (by decide) (by decide) (by decide), ?_⟩
  refine List.forall_mem_cons.2 ⟨piece7 arg4 harg4 x2 1 0 0 (by decide) (by decide) (by decide), ?_⟩
  refine List.forall_mem_cons.2 ⟨piece6 arg4 harg4 x2 1 0 0 (by decide) (by decide) (by decide), ?_⟩
  refine List.forall_mem_cons.2 ⟨piece5 arg4 harg4 x2 1 0 0 (by decide) (by decide) (by decide), ?_⟩
  refine List.forall_mem_cons.2 ⟨piece4 arg4 harg4 x2 1 0 0 (by decide) (by decide) (by decide), ?_⟩
  refine List.forall_mem_cons.2 ⟨piece3 arg4 harg4 x2 1 0 0 (by decide) (by decide) (by decide), ?_⟩
  refine List.forall_mem_cons.2 ⟨piece2 arg4 harg4 x2 1 0 0 (by decide) (by decide) (by decide), ?_⟩
  refine List.forall_mem_cons.2 ⟨piece1 arg4 harg4 x2 1 0 0 (by decide) (by decide) (by decide), ?_⟩
  refine List.forall_mem_cons.2 ⟨piece0 arg4 harg4 x2 1 0 0 (by decide) (by decide) (by decide), ?_⟩
  refine List.forall_mem_cons.2 ⟨piece7 arg4 harg4 x2 0 0 1 (by decide) (by decide) (by decide), ?_⟩
  refine List.forall_mem_cons.2 ⟨piece6 arg4 harg4 x2 0 0 1 (by decide) (by decide) (by decide), ?_⟩
  refine List.forall_mem_cons.2 ⟨piece5 arg4 harg4 x2 0 0 1 (by decide) (by decide) (by decide), ?_⟩
  refine List.forall_mem_cons.2 ⟨piece4 arg4 harg4 x2 0 0 1 (by decide) (by decide) (by decide), ?_⟩
  refine List.forall_mem_cons.2 ⟨piece3 arg4 harg4 x2 0 0 1 (by decide) (by decide) (by decide), ?_⟩
  refine List.forall_mem_cons.2 ⟨piece2 arg4 harg4 x2 0 0 1 (by decide) (by decide) (by decide), ?_⟩
  refine List.forall_mem_cons.2 ⟨piece1 arg4 harg4 x2 0 0 1 (by decide) (by decide) (by decide), ?_⟩
  refine List.forall_mem_cons.2 ⟨piece0 arg4 harg4 x2 0 0 1 (by decide) (by decide) (by decide), ?_⟩
  refine List.forall_mem_cons.2 ⟨piece7 arg4 harg4 x2 0 0 0 (by decide) (by decide) (by decide), ?_⟩
  refine List.forall_mem_cons.2 ⟨piece6 arg4 harg4 x2 0 0 0 (by decide) (by decide) (by decide), ?_⟩
  refine List.forall_mem_cons.2 ⟨piece5 arg4 harg4 x2 0 0 0 (by decide) (by decide) (by decide), ?_⟩
  refine List.forall_mem_cons.2 ⟨piece4 arg4 harg4 x2 0 0 0 (by decide) (by decide) (by decide), ?_⟩
  refine List.forall_mem_cons.2 ⟨piece3 arg4 harg4 x2 0 0 0 (by decide) (by decide) (by decide), ?_⟩
  refine List.forall_mem_cons.2 ⟨piece2 arg4 harg4 x2 0 0 0 (by decide) (by decide) (by decide), ?_⟩
  refine List.forall_mem_cons.2 ⟨piece1 arg4 harg4 x2 0 0 0 (by decide) (by decide) (by decide), ?_⟩
  refine List.forall_mem_cons.2 ⟨piece0 arg4 harg4 x2 0 0 0 (by decide) (by decide) (by decide), ?_⟩
  exact fun p hp => absurd hp List.not_mem_nil

/-- The pieces of the second half and those below them. -/
theorem half1_pieces : ∀ p ∈ HS3_128 c arg4 harg4 x2, ∀ y, p.2 y = turned x2 (p.1.emb y) := by
  unfold HS3_128
  refine List.forall_mem_cons.2 ⟨piece7 arg4 harg4 x2 3 1 1 (by decide) (by decide) (by decide), ?_⟩
  refine List.forall_mem_cons.2 ⟨piece6 arg4 harg4 x2 3 1 1 (by decide) (by decide) (by decide), ?_⟩
  refine List.forall_mem_cons.2 ⟨piece5 arg4 harg4 x2 3 1 1 (by decide) (by decide) (by decide), ?_⟩
  refine List.forall_mem_cons.2 ⟨piece4 arg4 harg4 x2 3 1 1 (by decide) (by decide) (by decide), ?_⟩
  refine List.forall_mem_cons.2 ⟨piece3 arg4 harg4 x2 3 1 1 (by decide) (by decide) (by decide), ?_⟩
  refine List.forall_mem_cons.2 ⟨piece2 arg4 harg4 x2 3 1 1 (by decide) (by decide) (by decide), ?_⟩
  refine List.forall_mem_cons.2 ⟨piece1 arg4 harg4 x2 3 1 1 (by decide) (by decide) (by decide), ?_⟩
  refine List.forall_mem_cons.2 ⟨piece0 arg4 harg4 x2 3 1 1 (by decide) (by decide) (by decide), ?_⟩
  refine List.forall_mem_cons.2 ⟨piece7 arg4 harg4 x2 3 1 0 (by decide) (by decide) (by decide), ?_⟩
  refine List.forall_mem_cons.2 ⟨piece6 arg4 harg4 x2 3 1 0 (by decide) (by decide) (by decide), ?_⟩
  refine List.forall_mem_cons.2 ⟨piece5 arg4 harg4 x2 3 1 0 (by decide) (by decide) (by decide), ?_⟩
  refine List.forall_mem_cons.2 ⟨piece4 arg4 harg4 x2 3 1 0 (by decide) (by decide) (by decide), ?_⟩
  refine List.forall_mem_cons.2 ⟨piece3 arg4 harg4 x2 3 1 0 (by decide) (by decide) (by decide), ?_⟩
  refine List.forall_mem_cons.2 ⟨piece2 arg4 harg4 x2 3 1 0 (by decide) (by decide) (by decide), ?_⟩
  refine List.forall_mem_cons.2 ⟨piece1 arg4 harg4 x2 3 1 0 (by decide) (by decide) (by decide), ?_⟩
  refine List.forall_mem_cons.2 ⟨piece0 arg4 harg4 x2 3 1 0 (by decide) (by decide) (by decide), ?_⟩
  refine List.forall_mem_cons.2 ⟨piece7 arg4 harg4 x2 2 1 1 (by decide) (by decide) (by decide), ?_⟩
  refine List.forall_mem_cons.2 ⟨piece6 arg4 harg4 x2 2 1 1 (by decide) (by decide) (by decide), ?_⟩
  refine List.forall_mem_cons.2 ⟨piece5 arg4 harg4 x2 2 1 1 (by decide) (by decide) (by decide), ?_⟩
  refine List.forall_mem_cons.2 ⟨piece4 arg4 harg4 x2 2 1 1 (by decide) (by decide) (by decide), ?_⟩
  refine List.forall_mem_cons.2 ⟨piece3 arg4 harg4 x2 2 1 1 (by decide) (by decide) (by decide), ?_⟩
  refine List.forall_mem_cons.2 ⟨piece2 arg4 harg4 x2 2 1 1 (by decide) (by decide) (by decide), ?_⟩
  refine List.forall_mem_cons.2 ⟨piece1 arg4 harg4 x2 2 1 1 (by decide) (by decide) (by decide), ?_⟩
  refine List.forall_mem_cons.2 ⟨piece0 arg4 harg4 x2 2 1 1 (by decide) (by decide) (by decide), ?_⟩
  refine List.forall_mem_cons.2 ⟨piece7 arg4 harg4 x2 2 1 0 (by decide) (by decide) (by decide), ?_⟩
  refine List.forall_mem_cons.2 ⟨piece6 arg4 harg4 x2 2 1 0 (by decide) (by decide) (by decide), ?_⟩
  refine List.forall_mem_cons.2 ⟨piece5 arg4 harg4 x2 2 1 0 (by decide) (by decide) (by decide), ?_⟩
  refine List.forall_mem_cons.2 ⟨piece4 arg4 harg4 x2 2 1 0 (by decide) (by decide) (by decide), ?_⟩
  refine List.forall_mem_cons.2 ⟨piece3 arg4 harg4 x2 2 1 0 (by decide) (by decide) (by decide), ?_⟩
  refine List.forall_mem_cons.2 ⟨piece2 arg4 harg4 x2 2 1 0 (by decide) (by decide) (by decide), ?_⟩
  refine List.forall_mem_cons.2 ⟨piece1 arg4 harg4 x2 2 1 0 (by decide) (by decide) (by decide), ?_⟩
  refine List.forall_mem_cons.2 ⟨piece0 arg4 harg4 x2 2 1 0 (by decide) (by decide) (by decide), ?_⟩
  refine List.forall_mem_cons.2 ⟨piece7 arg4 harg4 x2 1 1 1 (by decide) (by decide) (by decide), ?_⟩
  refine List.forall_mem_cons.2 ⟨piece6 arg4 harg4 x2 1 1 1 (by decide) (by decide) (by decide), ?_⟩
  refine List.forall_mem_cons.2 ⟨piece5 arg4 harg4 x2 1 1 1 (by decide) (by decide) (by decide), ?_⟩
  refine List.forall_mem_cons.2 ⟨piece4 arg4 harg4 x2 1 1 1 (by decide) (by decide) (by decide), ?_⟩
  refine List.forall_mem_cons.2 ⟨piece3 arg4 harg4 x2 1 1 1 (by decide) (by decide) (by decide), ?_⟩
  refine List.forall_mem_cons.2 ⟨piece2 arg4 harg4 x2 1 1 1 (by decide) (by decide) (by decide), ?_⟩
  refine List.forall_mem_cons.2 ⟨piece1 arg4 harg4 x2 1 1 1 (by decide) (by decide) (by decide), ?_⟩
  refine List.forall_mem_cons.2 ⟨piece0 arg4 harg4 x2 1 1 1 (by decide) (by decide) (by decide), ?_⟩
  refine List.forall_mem_cons.2 ⟨piece7 arg4 harg4 x2 1 1 0 (by decide) (by decide) (by decide), ?_⟩
  refine List.forall_mem_cons.2 ⟨piece6 arg4 harg4 x2 1 1 0 (by decide) (by decide) (by decide), ?_⟩
  refine List.forall_mem_cons.2 ⟨piece5 arg4 harg4 x2 1 1 0 (by decide) (by decide) (by decide), ?_⟩
  refine List.forall_mem_cons.2 ⟨piece4 arg4 harg4 x2 1 1 0 (by decide) (by decide) (by decide), ?_⟩
  refine List.forall_mem_cons.2 ⟨piece3 arg4 harg4 x2 1 1 0 (by decide) (by decide) (by decide), ?_⟩
  refine List.forall_mem_cons.2 ⟨piece2 arg4 harg4 x2 1 1 0 (by decide) (by decide) (by decide), ?_⟩
  refine List.forall_mem_cons.2 ⟨piece1 arg4 harg4 x2 1 1 0 (by decide) (by decide) (by decide), ?_⟩
  refine List.forall_mem_cons.2 ⟨piece0 arg4 harg4 x2 1 1 0 (by decide) (by decide) (by decide), ?_⟩
  refine List.forall_mem_cons.2 ⟨piece7 arg4 harg4 x2 0 1 1 (by decide) (by decide) (by decide), ?_⟩
  refine List.forall_mem_cons.2 ⟨piece6 arg4 harg4 x2 0 1 1 (by decide) (by decide) (by decide), ?_⟩
  refine List.forall_mem_cons.2 ⟨piece5 arg4 harg4 x2 0 1 1 (by decide) (by decide) (by decide), ?_⟩
  refine List.forall_mem_cons.2 ⟨piece4 arg4 harg4 x2 0 1 1 (by decide) (by decide) (by decide), ?_⟩
  refine List.forall_mem_cons.2 ⟨piece3 arg4 harg4 x2 0 1 1 (by decide) (by decide) (by decide), ?_⟩
  refine List.forall_mem_cons.2 ⟨piece2 arg4 harg4 x2 0 1 1 (by decide) (by decide) (by decide), ?_⟩
  refine List.forall_mem_cons.2 ⟨piece1 arg4 harg4 x2 0 1 1 (by decide) (by decide) (by decide), ?_⟩
  refine List.forall_mem_cons.2 ⟨piece0 arg4 harg4 x2 0 1 1 (by decide) (by decide) (by decide), ?_⟩
  refine List.forall_mem_cons.2 ⟨piece7 arg4 harg4 x2 0 1 0 (by decide) (by decide) (by decide), ?_⟩
  refine List.forall_mem_cons.2 ⟨piece6 arg4 harg4 x2 0 1 0 (by decide) (by decide) (by decide), ?_⟩
  refine List.forall_mem_cons.2 ⟨piece5 arg4 harg4 x2 0 1 0 (by decide) (by decide) (by decide), ?_⟩
  refine List.forall_mem_cons.2 ⟨piece4 arg4 harg4 x2 0 1 0 (by decide) (by decide) (by decide), ?_⟩
  refine List.forall_mem_cons.2 ⟨piece3 arg4 harg4 x2 0 1 0 (by decide) (by decide) (by decide), ?_⟩
  refine List.forall_mem_cons.2 ⟨piece2 arg4 harg4 x2 0 1 0 (by decide) (by decide) (by decide), ?_⟩
  refine List.forall_mem_cons.2 ⟨piece1 arg4 harg4 x2 0 1 0 (by decide) (by decide) (by decide), ?_⟩
  refine List.forall_mem_cons.2 ⟨piece0 arg4 harg4 x2 0 1 0 (by decide) (by decide) (by decide), ?_⟩
  exact half0_pieces c arg4 harg4 x2

/-- How the sixty-four pieces of a half lie in its box. -/
abbrev halfCov : LoadRect.Cov := (.split 1 128 (.split 1 64 (.split 1 32 (.split 1 16 (.split 2 256 (.split 2 128 (.leaf 63) (.leaf 47)) (.split 2 128 (.leaf 31) (.leaf 15))) (.split 2 256 (.split 2 128 (.leaf 62) (.leaf 46)) (.split 2 128 (.leaf 30) (.leaf 14)))) (.split 1 16 (.split 2 256 (.split 2 128 (.leaf 61) (.leaf 45)) (.split 2 128 (.leaf 29) (.leaf 13))) (.split 2 256 (.split 2 128 (.leaf 60) (.leaf 44)) (.split 2 128 (.leaf 28) (.leaf 12))))) (.split 1 32 (.split 1 16 (.split 2 256 (.split 2 128 (.leaf 59) (.leaf 43)) (.split 2 128 (.leaf 27) (.leaf 11))) (.split 2 256 (.split 2 128 (.leaf 58) (.leaf 42)) (.split 2 128 (.leaf 26) (.leaf 10)))) (.split 1 16 (.split 2 256 (.split 2 128 (.leaf 57) (.leaf 41)) (.split 2 128 (.leaf 25) (.leaf 9))) (.split 2 256 (.split 2 128 (.leaf 56) (.leaf 40)) (.split 2 128 (.leaf 24) (.leaf 8)))))) (.split 1 64 (.split 1 32 (.split 1 16 (.split 2 256 (.split 2 128 (.leaf 55) (.leaf 39)) (.split 2 128 (.leaf 23) (.leaf 7))) (.split 2 256 (.split 2 128 (.leaf 54) (.leaf 38)) (.split 2 128 (.leaf 22) (.leaf 6)))) (.split 1 16 (.split 2 256 (.split 2 128 (.leaf 53) (.leaf 37)) (.split 2 128 (.leaf 21) (.leaf 5))) (.split 2 256 (.split 2 128 (.leaf 52) (.leaf 36)) (.split 2 128 (.leaf 20) (.leaf 4))))) (.split 1 32 (.split 1 16 (.split 2 256 (.split 2 128 (.leaf 51) (.leaf 35)) (.split 2 128 (.leaf 19) (.leaf 3))) (.split 2 256 (.split 2 128 (.leaf 50) (.leaf 34)) (.split 2 128 (.leaf 18) (.leaf 2)))) (.split 1 16 (.split 2 256 (.split 2 128 (.leaf 49) (.leaf 33)) (.split 2 128 (.leaf 17) (.leaf 1))) (.split 2 256 (.split 2 128 (.leaf 48) (.leaf 32)) (.split 2 128 (.leaf 16) (.leaf 0)))))))

variable (arg23 : Memref sig .tc .vmem S2x256x512 .f32)

theorem half0_cover (y : S1x256x512.Idx) : ∃ p ∈ HS3_64 c arg4 harg4 x2,
    (Rect.unit (s := S2x256x512) ![0, 0, 0] S1x256x512.size inb_S2x256x512_S1x256x512_0_0_0).toLoadRect.idx y ∈ p.1.set :=
  LoadRect.cover_of_covChk (HS3_64 c arg4 harg4 x2) (Rect.unit (s := S2x256x512) ![0, 0, 0] S1x256x512.size inb_S2x256x512_S1x256x512_0_0_0).toLoadRect halfCov (by sl_kernel_rfl) y

theorem half0_read (y : S1x256x512.Idx) :
    arg23.view.readCov (HS3_64 c arg4 harg4 x2) (Rect.unit (s := S2x256x512) ![0, 0, 0] S1x256x512.size inb_S2x256x512_S1x256x512_0_0_0).toLoadRect y
      = turnedAt x2 0 (y 1).val (y 2).val := by
  rw [View.readCov_eq_canon']
  refine (View.canon_apply_of_pieces (turned x2) _ (half0_pieces c arg4 harg4 x2) _
    (half0_cover c arg4 harg4 x2 y)).trans ?_
  have hy0 : (y 0).val = 0 := by have : (y 0).val < 1 := (y 0).isLt; omega
  unfold turned
  congr 1
  · show 0 + 1 * (y 0).val = 0; omega
  · show 0 + 1 * (y 1).val = _; omega
  · show 0 + 1 * (y 2).val = _; omega

theorem half1_cover (y : S1x256x512.Idx) : ∃ p ∈ HS3_128 c arg4 harg4 x2,
    (Rect.unit (s := S2x256x512) ![1, 0, 0] S1x256x512.size inb_S2x256x512_S1x256x512_1_0_0).toLoadRect.idx y ∈ p.1.set :=
  LoadRect.cover_of_covChk (HS3_128 c arg4 harg4 x2) (Rect.unit (s := S2x256x512) ![1, 0, 0] S1x256x512.size inb_S2x256x512_S1x256x512_1_0_0).toLoadRect halfCov (by sl_kernel_rfl) y

theorem half1_read (y : S1x256x512.Idx) :
    arg23.view.readCov (HS3_128 c arg4 harg4 x2) (Rect.unit (s := S2x256x512) ![1, 0, 0] S1x256x512.size inb_S2x256x512_S1x256x512_1_0_0).toLoadRect y
      = turnedAt x2 1 (y 1).val (y 2).val := by
  rw [View.readCov_eq_canon']
  refine (View.canon_apply_of_pieces (turned x2) _ (half1_pieces c arg4 harg4 x2) _
    (half1_cover c arg4 harg4 x2 y)).trans ?_
  have hy0 : (y 0).val = 0 := by have : (y 0).val < 1 := (y 0).isLt; omega
  unfold turned
  congr 1
  · show 1 + 1 * (y 0).val = 1; omega
  · show 0 + 1 * (y 1).val = _; omega
  · show 0 + 1 * (y 2).val = _; omega

end Cert.KernelIdeal.Post
-- ==== Proof.Body.lean ====
/-
  THE BLOCK THE KERNEL WRITES. The body's named values, followed in order for the two halves of a block: every row of the block written
  is the row function `Tail.result` of that row of the input blocks.
-/
module

public import proofs.«01_k».proof.Proof.Pay
public import proofs.«01_k».proof.Proof.Stage

@[expose] public section

set_option maxRecDepth 16384
set_option maxHeartbeats 1000000

noncomputable section

namespace Cert.KernelIdeal.Post

open Idealize.ShloMosaic Idealize.ShloMosaic.TcCoe Idealize.ShloMosaic.Pointwise
open Cert.KernelIdeal Cert.KernelIdeal.Gen Cert.Tail

/-- The buffers the body reads and writes. -/
structure Bufs where
  arg2 : Memref sig .tc .vmem S1x512x1024 .f32
  harg2 : arg2.IsWhole
  arg3 : Memref sig .tc .vmem S1x4x512x128 .bf16
  harg3 : arg3.IsWhole
  arg4 : Memref sig .tc .vmem S32x1x32x256 .bf16
  harg4 : arg4.IsWhole
  arg5 : Memref sig .tc .vmem S1x512x512 .bf16
  harg5 : arg5.IsWhole
  arg6 : Memref sig .tc .vmem S1x512x1024 .bf16
  harg6 : arg6.IsWhole
  arg7 : Memref sig .tc .vmem S1x512x1024 .bf16
  harg7 : arg7.IsWhole
  arg8 : Memref sig .tc .vmem S1x1x6144 .f32
  harg8 : arg8.IsWhole
  arg9 : Memref sig .tc .vmem S1x512 .f32
  harg9 : arg9.IsWhole
  arg10 : Memref sig .tc .vmem S1x1024 .f32
  harg10 : arg10.IsWhole
  arg11 : Memref sig .tc .vmem S1x1024 .f32
  harg11 : arg11.IsWhole
  arg12 : Memref sig .tc .vmem S256x256 .bf16
  harg12 : arg12.IsWhole
  arg13 : Memref sig .tc .vmem S512x1024 .bf16
  harg13 : arg13.IsWhole
  arg14 : Memref sig .tc .vmem S512x1024 .bf16
  harg14 : arg14.IsWhole
  arg15 : Memref sig .tc .vmem S512x1024 .bf16
  harg15 : arg15.IsWhole
  arg16 : Memref sig .tc .vmem S1024x1024 .bf16
  harg16 : arg16.IsWhole
  arg17 : Memref sig .tc .vmem S1024x5632 .bf16
  harg17 : arg17.IsWhole
  arg18 : Memref sig .tc .vmem S2816x1024 .bf16
  harg18 : arg18.IsWhole
  arg19 : Memref sig .tc .vmem S1x512x1024 .f32
  harg19 : arg19.IsWhole
  arg20 : Memref sig .tc .vmem S512x1024 .f32
  harg20 : arg20.IsWhole
  arg21 : Memref sig .tc .vmem S512x1024 .bf16
  harg21 : arg21.IsWhole
  arg22 : Memref sig .tc .vmem S512x2816 .bf16
  harg22 : arg22.IsWhole
  arg23 : Memref sig .tc .vmem S2x256x512 .f32
  harg23 : arg23.IsWhole

/-- The blocks the input buffers hold. -/
structure Blocks where
  x0 : Vec Ideal S1x512x1024 .f32
  x1 : Vec Ideal S1x4x512x128 .bf16
  x2 : Vec Ideal S32x1x32x256 .bf16
  x3 : Vec Ideal S1x512x512 .bf16
  x4 : Vec Ideal S1x512x1024 .bf16
  x5 : Vec Ideal S1x512x1024 .bf16
  x6 : Vec Ideal S1x1x6144 .f32
  x7 : Vec Ideal S1x512 .f32
  x8 : Vec Ideal S1x1024 .f32
  x9 : Vec Ideal S1x1024 .f32
  x10 : Vec Ideal S256x256 .bf16
  x11 : Vec Ideal S512x1024 .bf16
  x12 : Vec Ideal S512x1024 .bf16
  x13 : Vec Ideal S512x1024 .bf16
  x14 : Vec Ideal S1024x1024 .bf16
  x15 : Vec Ideal S1024x5632 .bf16
  x16 : Vec Ideal S2816x1024 .bf16

/-- The weights of a block. -/
def Blocks.w (B : Blocks) : Weights where
  wglu := B.x11
  wa := B.x12
  ws := B.x13
  wout := B.x14
  win := B.x15
  wff := B.x16
  d := fun k => B.x7 (ix2 0 k)
  gff := fun n => B.x8 (ix2 0 n)
  gfin := fun n => B.x9 (ix2 0 n)

/-- Row `R` of a block. -/
def Blocks.row (B : Blocks) (R : Fin 512) : Inputs where
  x := fun n => B.x0 (ix3 0 R n)
  a := fun k => B.x1 (ix4 0 ⟨k.val / 128, by omega⟩ R ⟨k.val % 128, by omega⟩)
  y := fun k => grp B.x2 (k.val / 16) (R.val / 16) (16 * (R.val % 16) + k.val % 16)
  u := fun k => B.x3 (ix3 0 R k)
  ga := fun n => B.x4 (ix3 0 R n)
  gs := fun n => B.x5 (ix3 0 R n)
  md := fun n => B.x6 (ix3 0 0 n)

/-- The permutation the kernel multiplies by, as it must be. -/
def Blocks.Permutes (B : Blocks) : Prop := ∀ r k : Fin 256, B.x10 (ix2 r k) = if k.val = 16 * (r.val % 16) + r.val / 16 then 1 else 0

theorem ld_rows {e : EltTy} {N : ℕ} (m : Memref sig .tc .vmem ⟨3, ![1, 512, N]⟩ e) (hm : m.IsWhole) (X : Vec Ideal ⟨3, ![1, 512, N]⟩ e) (o : ℕ) (ho : o + 256 ≤ 512)
    (inb : ∀ a, (![0, o, 0] : Fin 3 → ℕ) a + (⟨3, ![1, 256, N]⟩ : Shape).size a ≤ (⟨3, ![1, 512, N]⟩ : Shape).size a) (r : Fin 256) (n : Fin N) :
    View.readAt (Elt Ideal) m.view (Rect.unit (s := ⟨3, ![1, 512, N]⟩) ![0, o, 0] (⟨3, ![1, 256, N]⟩ : Shape).size inb).toLoadRect (hm.unread X) (ix3 0 r n)
      = X (ix3 0 ⟨o + r.val, by omega⟩ n) := by
  refine (Memref.IsWhole.readAt_unread hm X _ _).trans (congrArg X (funext fun a => Fin.ext ?_))
  match a with
  | 0 => rfl
  | 1 => show o + 1 * r.val = o + r.val; omega
  | 2 => show 0 + 1 * n.val = n.val; omega

theorem ld_head (m : Memref sig .tc .vmem S1x4x512x128 .bf16) (hm : m.IsWhole) (X : Vec Ideal S1x4x512x128 .bf16) (q o : ℕ) (hq : q + 1 ≤ 4) (ho : o + 256 ≤ 512)
    (inb : ∀ a, (![0, q, o, 0] : Fin 4 → ℕ) a + S1x1x256x128.size a ≤ S1x4x512x128.size a) (r : Fin 256) (n : Fin 128) :
    View.readAt (Elt Ideal) m.view (Rect.unit (s := S1x4x512x128) ![0, q, o, 0] S1x1x256x128.size inb).toLoadRect (hm.unread X) (ix4 0 0 r n)
      = X (ix4 0 ⟨q, by omega⟩ ⟨o + r.val, by omega⟩ n) := by
  refine (Memref.IsWhole.readAt_unread hm X _ _).trans (congrArg X (funext fun a => Fin.ext ?_))
  match a with
  | 0 => rfl
  | 1 => rfl
  | 2 => show o + 1 * r.val = o + r.val; omega
  | 3 => show 0 + 1 * n.val = n.val; omega

theorem ld_mod (m : Memref sig .tc .vmem S1x1x6144 .f32) (hm : m.IsWhole) (X : Vec Ideal S1x1x6144 .f32) (o : ℕ) (ho : o + 1024 ≤ 6144)
    (inb : ∀ a, (![0, 0, o] : Fin 3 → ℕ) a + S1x1x1024.size a ≤ S1x1x6144.size a) (n : Fin 1024) :
    View.readAt (Elt Ideal) m.view (Rect.unit (s := S1x1x6144) ![0, 0, o] S1x1x1024.size inb).toLoadRect (hm.unread X) (ix3 0 0 n)
      = X (ix3 0 0 ⟨o + n.val, by omega⟩) := by
  refine (Memref.IsWhole.readAt_unread hm X _ _).trans (congrArg X (funext fun a => Fin.ext ?_))
  match a with
  | 0 => rfl
  | 1 => rfl
  | 2 => show o + 1 * n.val = o + n.val; omega

theorem ld_cols (m : Memref sig .tc .vmem S1024x5632 .bf16) (hm : m.IsWhole) (X : Vec Ideal S1024x5632 .bf16) (o : ℕ) (ho : o + 256 ≤ 5632)
    (inb : ∀ a, (![0, o] : Fin 2 → ℕ) a + S1024x256.size a ≤ S1024x5632.size a) (i : Fin 1024) (n : Fin 256) :
    View.readAt (Elt Ideal) m.view (Rect.unit (s := S1024x5632) ![0, o] S1024x256.size inb).toLoadRect (hm.unread X) (ix2 i n)
      = X (ix2 i ⟨o + n.val, by omega⟩) := by
  refine (Memref.IsWhole.readAt_unread hm X _ _).trans (congrArg X (funext fun a => Fin.ext ?_))
  match a with
  | 0 => show 0 + 1 * i.val = i.val; omega
  | 1 => show o + 1 * n.val = o + n.val; omega

theorem ld_all {e : EltTy} {M N : ℕ} (m : Memref sig .tc .vmem ⟨2, ![M, N]⟩ e) (hm : m.IsWhole) (X : Vec Ideal ⟨2, ![M, N]⟩ e)
    (inb : ∀ a, (![0, 0] : Fin 2 → ℕ) a + (⟨2, ![M, N]⟩ : Shape).size a ≤ (⟨2, ![M, N]⟩ : Shape).size a) (i : Fin M) (n : Fin N) :
    View.readAt (Elt Ideal) m.view (Rect.unit (s := ⟨2, ![M, N]⟩) ![0, 0] (⟨2, ![M, N]⟩ : Shape).size inb).toLoadRect (hm.unread X) (ix2 i n) = X (ix2 i n) := by
  refine (Memref.IsWhole.readAt_unread hm X _ _).trans (congrArg X (funext fun a => Fin.ext ?_))
  match a with
  | 0 => show 0 + 1 * i.val = i.val; omega
  | 1 => show 0 + 1 * n.val = n.val; omega

variable (c : Dev nD) (M : Bufs) (B : Blocks)

/-- Rows of the two halves. -/
abbrev lo (r : Fin 256) : Fin 512 := ⟨0 + r.val, by omega⟩
abbrev hi (r : Fin 256) : Fin 512 := ⟨256 + r.val, by omega⟩

theorem y_lo (hP : B.Permutes) (r : Fin 256) (k : Fin 512) : (kernelRun0_A.sl.r_96 (F := Ideal) c M.arg4 M.harg4 M.arg12 M.harg12 M.arg23 B.x2 B.x10) (ix2 r k) = (B.row (lo r)).y k := by
  refine (pay358_apply _ _ (fun r k => (ld_all _ _ _ _ r k).trans (hP r k)) r k).trans ?_
  refine (half0_read c M.arg4 M.harg4 B.x2 M.arg23 _).trans ?_
  show turnedAt B.x2 0 (16 * (r.val % 16) + r.val / 16) k.val = grp B.x2 (k.val / 16) ((0 + r.val) / 16) (16 * ((0 + r.val) % 16) + k.val % 16)
  unfold turnedAt
  have hr := r.isLt
  have e1 : (16 * (r.val % 16) + r.val / 16) % 16 = r.val / 16 := by omega
  have e2 : (16 * (r.val % 16) + r.val / 16) / 16 = r.val % 16 := by omega
  rw [e1, e2]
  congr 1 <;> omega

theorem gel_lo (hP : B.Permutes) (r : Fin 256) (k : Fin 512) :
    (kernelRun0_A.sl.r_98 (F := Ideal) c M.arg4 M.harg4 M.arg5 M.harg5 M.arg9 M.harg9 M.arg12 M.harg12 M.arg23 B.x2 B.x3 B.x7 B.x10) (ix2 r k) = gel (skip (B.row (lo r)).y (B.row (lo r)).u B.w.d k) :=
  pay360_apply _ _ _ r k _ _ _ (y_lo c M B hP r) (fun k => ld_rows _ _ _ 0 (by decide) _ r k) (fun k => (congrFun (pay359_eq _) _).trans (ld_all _ _ _ _ 0 k))

theorem glu_lo (hP : B.Permutes) (r : Fin 256) (k : Fin 512) :
    (kernelRun0_A.sl.r_228 (F := Ideal) c M.arg4 M.harg4 M.arg5 M.harg5 M.arg9 M.harg9 M.arg12 M.harg12 M.arg13 M.harg13 M.arg23 B.x2 B.x3 B.x7 B.x10 B.x11) (ix2 r k) = glu B.w.wglu (skip (B.row (lo r)).y (B.row (lo r)).u B.w.d) k :=
  pay703_apply _ _ _ r _ (fun i n => ld_all _ _ _ _ i n) (gel_lo c M B hP r) k

theorem headRow (q : ℕ) (hq : q < 4) (R : Fin 512) (k : Fin 128) : B.x1 (ix4 0 ⟨q, hq⟩ R k) = (B.row R).a ⟨128 * q + k.val, by omega⟩ := by
  show B.x1 (ix4 0 ⟨q, hq⟩ R k) = B.x1 (ix4 0 ⟨(128 * q + k.val) / 128, _⟩ R ⟨(128 * q + k.val) % 128, _⟩)
  congr 2 <;> apply Fin.ext <;> simp only [] <;> omega

theorem mrg_lo (hP : B.Permutes) (r : Fin 256) (n : Fin 1024) :
    (kernelRun0_A.sl.r_232 (F := Ideal) c M.arg3 M.harg3 M.arg4 M.harg4 M.arg5 M.harg5 M.arg6 M.harg6 M.arg7 M.harg7 M.arg9 M.harg9 M.arg12 M.harg12 M.arg13 M.harg13 M.arg14 M.harg14 M.arg15 M.harg15 M.arg23 B.x1 B.x2 B.x3 B.x4 B.x5 B.x7 B.x10 B.x11 B.x12 B.x13) (ix2 r n) = merged B.w (B.row (lo r)) n := by
  have h := pay711_apply (kernelRun0_A.sl.r_228 (F := Ideal) c M.arg4 M.harg4 M.arg5 M.harg5 M.arg9 M.harg9 M.arg12 M.harg12 M.arg13 M.harg13 M.arg23 B.x2 B.x3 B.x7 B.x10 B.x11) _ _ _ _ _ _ _ _ r (B.row (lo r)).a _ _ _ B.w.wa B.w.ws (fun i n => ld_all M.arg14 M.harg14 B.x12 inb_S512x1024_S512x1024_0_0 i n) (fun i n => ld_all M.arg15 M.harg15 B.x13 inb_S512x1024_S512x1024_0_0 i n) (glu_lo c M B hP r)
    (fun k => (head_apply _ r k).trans ((ld_head M.arg3 M.harg3 B.x1 0 0 (by decide) (by decide) inb_S1x4x512x128_S1x1x256x128_0_0_0_0 r k).trans ((headRow B 0 (by decide) (lo r) k).trans (congrArg (B.row (lo r)).a (Fin.ext (Nat.zero_add _))))))
    (fun k => (head_apply _ r k).trans ((ld_head M.arg3 M.harg3 B.x1 1 0 (by decide) (by decide) inb_S1x4x512x128_S1x1x256x128_0_1_0_0 r k).trans (headRow B 1 (by decide) (lo r) k)))
    (fun k => (head_apply _ r k).trans ((ld_head M.arg3 M.harg3 B.x1 2 0 (by decide) (by decide) inb_S1x4x512x128_S1x1x256x128_0_2_0_0 r k).trans (headRow B 2 (by decide) (lo r) k)))
    (fun k => (ld_head M.arg3 M.harg3 B.x1 3 0 (by decide) (by decide) inb_S1x4x512x128_S1x1x256x128_0_3_0_0 r k).trans (headRow B 3 (by decide) (lo r) k))
    (fun n => ld_rows M.arg6 M.harg6 B.x4 0 (by decide) inb_S1x512x1024_S1x256x1024_0_0_0 r n) (fun n => ld_rows M.arg7 M.harg7 B.x5 0 (by decide) inb_S1x512x1024_S1x256x1024_0_0_0 r n) n
  exact h

theorem y_hi (hP : B.Permutes) (r : Fin 256) (k : Fin 512) : (kernelRun0_A.sl.r_226 (F := Ideal) c M.arg4 M.harg4 M.arg12 M.harg12 M.arg23 B.x2 B.x10) (ix2 r k) = (B.row (hi r)).y k := by
  refine (pay358_apply _ _ (fun r k => (ld_all _ _ _ _ r k).trans (hP r k)) r k).trans ?_
  refine (half1_read c M.arg4 M.harg4 B.x2 M.arg23 _).trans ?_
  show turnedAt B.x2 1 (16 * (r.val % 16) + r.val / 16) k.val = grp B.x2 (k.val / 16) ((256 + r.val) / 16) (16 * ((256 + r.val) % 16) + k.val % 16)
  unfold turnedAt
  have hr := r.isLt
  have e1 : (16 * (r.val % 16) + r.val / 16) % 16 = r.val / 16 := by omega
  have e2 : (16 * (r.val % 16) + r.val / 16) / 16 = r.val % 16 := by omega
  rw [e1, e2]
  congr 1 <;> omega

theorem glu_hi (hP : B.Permutes) (r : Fin 256) (k : Fin 512) :
    (kernelRun0_A.sl.r_229 (F := Ideal) c M.arg4 M.harg4 M.arg5 M.harg5 M.arg9 M.harg9 M.arg12 M.harg12 M.arg13 M.harg13 M.arg23 B.x2 B.x3 B.x7 B.x10 B.x11) (ix2 r k) = glu B.w.wglu (skip (B.row (hi r)).y (B.row (hi r)).u B.w.d) k :=
  (congrFun (pay704_eq _ _ _ _) _).trans (pay703_apply _ _ _ r _ (fun i n => ld_all _ _ _ _ i n)
    (fun k => pay360_apply _ _ _ r k _ _ _ (y_hi c M B hP r) (fun k => ld_rows _ _ _ 256 (by decide) _ r k) (fun k => (congrFun (pay359_eq _) _).trans (ld_all _ _ _ _ 0 k))) k)

theorem mrg_hi (hP : B.Permutes) (r : Fin 256) (n : Fin 1024) :
    (kernelRun0_A.sl.r_236 (F := Ideal) c M.arg3 M.harg3 M.arg4 M.harg4 M.arg5 M.harg5 M.arg6 M.harg6 M.arg7 M.harg7 M.arg9 M.harg9 M.arg12 M.harg12 M.arg13 M.harg13 M.arg14 M.harg14 M.arg15 M.harg15 M.arg23 B.x1 B.x2 B.x3 B.x4 B.x5 B.x7 B.x10 B.x11 B.x12 B.x13) (ix2 r n) = merged B.w (B.row (hi r)) n := by
  have h := pay711_apply (kernelRun0_A.sl.r_229 (F := Ideal) c M.arg4 M.harg4 M.arg5 M.harg5 M.arg9 M.harg9 M.arg12 M.harg12 M.arg13 M.harg13 M.arg23 B.x2 B.x3 B.x7 B.x10 B.x11) _ _ _ _ _ _ _ _ r (B.row (hi r)).a _ _ _ B.w.wa B.w.ws (fun i n => ld_all M.arg14 M.harg14 B.x12 inb_S512x1024_S512x1024_0_0 i n) (fun i n => ld_all M.arg15 M.harg15 B.x13 inb_S512x1024_S512x1024_0_0 i n) (glu_hi c M B hP r)
    (fun k => (head_apply _ r k).trans ((ld_head M.arg3 M.harg3 B.x1 0 256 (by decide) (by decide) inb_S1x4x512x128_S1x1x256x128_0_0_256_0 r k).trans ((headRow B 0 (by decide) (hi r) k).trans (congrArg (B.row (hi r)).a (Fin.ext (Nat.zero_add _))))))
    (fun k => (head_apply _ r k).trans ((ld_head M.arg3 M.harg3 B.x1 1 256 (by decide) (by decide) inb_S1x4x512x128_S1x1x256x128_0_1_256_0 r k).trans (headRow B 1 (by decide) (hi r) k)))
    (fun k => (head_apply _ r k).trans ((ld_head M.arg3 M.harg3 B.x1 2 256 (by decide) (by decide) inb_S1x4x512x128_S1x1x256x128_0_2_256_0 r k).trans (headRow B 2 (by decide) (hi r) k)))
    (fun k => (ld_head M.arg3 M.harg3 B.x1 3 256 (by decide) (by decide) inb_S1x4x512x128_S1x1x256x128_0_3_256_0 r k).trans (headRow B 3 (by decide) (hi r) k))
    (fun n => ld_rows M.arg6 M.harg6 B.x4 256 (by decide) inb_S1x512x1024_S1x256x1024_0_256_0 r n) (fun n => ld_rows M.arg7 M.harg7 B.x5 256 (by decide) inb_S1x512x1024_S1x256x1024_0_256_0 r n) n
  exact h

abbrev h1blk_lo : FVec Ideal S256x1024 .f32 :=
  k0_pay712 (kernelRun0_A.sl.r (F := Ideal) c M.arg8 M.harg8 B.x6) (kernelRun0_A.sl.r_232 (F := Ideal) c M.arg3 M.harg3 M.arg4 M.harg4 M.arg5 M.harg5 M.arg6 M.harg6 M.arg7 M.harg7 M.arg9 M.harg9 M.arg12 M.harg12 M.arg13 M.harg13 M.arg14 M.harg14 M.arg15 M.harg15 M.arg23 B.x1 B.x2 B.x3 B.x4 B.x5 B.x7 B.x10 B.x11 B.x12 B.x13) (View.readAt (Elt Ideal) M.arg2.view (Rect.unit (s := S1x512x1024) ![0, 0, 0] S1x256x1024.size inb_S1x512x1024_S1x256x1024_0_0_0).toLoadRect (M.harg2.unread B.x0)) (View.readAt (Elt Ideal) M.arg16.view (Rect.unit (s := S1024x1024) ![0, 0] S1024x1024.size inb_S1024x1024_S1024x1024_0_0).toLoadRect (M.harg16.unread B.x14))

theorem h1_lo (hP : B.Permutes) (r : Fin 256) (n : Fin 1024) : h1blk_lo c M B (ix2 r n) = h1 B.w (B.row (lo r)) n :=
  pay712_apply _ _ _ _ r _ _ _ B.w.wout (fun i n => ld_all M.arg16 M.harg16 B.x14 inb_S1024x1024_S1024x1024_0_0 i n) (fun n => ld_rows M.arg2 M.harg2 B.x0 0 (by decide) inb_S1x512x1024_S1x256x1024_0_0_0 r n)
    (fun n => (row_apply _ n).trans (ld_mod M.arg8 M.harg8 B.x6 2048 (by decide) inb_S1x1x6144_S1x1x1024_0_0_2048 n)) (mrg_lo c M B hP r) n

abbrev h1blk_hi : FVec Ideal S256x1024 .f32 :=
  k0_pay712 (kernelRun0_A.sl.r (F := Ideal) c M.arg8 M.harg8 B.x6) (kernelRun0_A.sl.r_236 (F := Ideal) c M.arg3 M.harg3 M.arg4 M.harg4 M.arg5 M.harg5 M.arg6 M.harg6 M.arg7 M.harg7 M.arg9 M.harg9 M.arg12 M.harg12 M.arg13 M.harg13 M.arg14 M.harg14 M.arg15 M.harg15 M.arg23 B.x1 B.x2 B.x3 B.x4 B.x5 B.x7 B.x10 B.x11 B.x12 B.x13) (View.readAt (Elt Ideal) M.arg2.view (Rect.unit (s := S1x512x1024) ![0, 256, 0] S1x256x1024.size inb_S1x512x1024_S1x256x1024_0_256_0).toLoadRect (M.harg2.unread B.x0)) (View.readAt (Elt Ideal) M.arg16.view (Rect.unit (s := S1024x1024) ![0, 0] S1024x1024.size inb_S1024x1024_S1024x1024_0_0).toLoadRect (M.harg16.unread B.x14))

theorem h1_hi (hP : B.Permutes) (r : Fin 256) (n : Fin 1024) : h1blk_hi c M B (ix2 r n) = h1 B.w (B.row (hi r)) n :=
  pay712_apply _ _ _ _ r _ _ _ B.w.wout (fun i n => ld_all M.arg16 M.harg16 B.x14 inb_S1024x1024_S1024x1024_0_0 i n) (fun n => ld_rows M.arg2 M.harg2 B.x0 256 (by decide) inb_S1x512x1024_S1x256x1024_0_256_0 r n)
    (fun n => (row_apply _ n).trans (ld_mod M.arg8 M.harg8 B.x6 2048 (by decide) inb_S1x1x6144_S1x1x1024_0_0_2048 n)) (mrg_hi c M B hP r) n

/-- What the first scratch holds, what the second, and what the third. -/
def h1All : Vec Ideal S512x1024 .f32 := fun y => h1 B.w (B.row (y 0)) (y 1)
def n2All : Vec Ideal S512x1024 .bf16 := fun y => n2 B.w (B.row (y 0)) (y 1)
def actAll : Vec Ideal S512x2816 .bf16 := fun y => act B.w.win (n2 B.w (B.row (y 0))) (y 1)

/-- A piece holding rows `o …` of a scratch, all columns: its row `r` is row `o + r` there. -/
theorem rows_piece {e : EltTy} {N : ℕ} (G : Vec Ideal ⟨2, ![512, N]⟩ e) (v : Vec Ideal ⟨2, ![256, N]⟩ e) (o : ℕ) (ho : o + 256 ≤ 512)
    (inb : ∀ a, (![o, 0] : Fin 2 → ℕ) a + (⟨2, ![256, N]⟩ : Shape).size a ≤ (⟨2, ![512, N]⟩ : Shape).size a)
    (h : ∀ (r : Fin 256) (n : Fin N), v (ix2 r n) = G (ix2 ⟨o + r.val, by omega⟩ n)) (y : (⟨2, ![256, N]⟩ : Shape).Idx) :
    v y = G ((Rect.unit (s := ⟨2, ![512, N]⟩) ![o, 0] (⟨2, ![256, N]⟩ : Shape).size inb).emb y) := by
  have e : y = ix2 (y 0) (y 1) := by funext a; match a with | 0 => rfl | 1 => rfl
  rw [e]
  refine (h (y 0) (y 1)).trans (congrArg G (funext fun a => Fin.ext ?_))
  match a with
  | 0 => show o + (y 0).val = o + 1 * (y 0).val; omega
  | 1 => show (y 1).val = 0 + 1 * (y 1).val; omega

/-- Rows `o …` of a scratch all of whose pieces agree with `G`, read back. -/
theorem rows_read {e : EltTy} {N : ℕ} (m : Memref sig .tc .vmem ⟨2, ![512, N]⟩ e) (G : Vec Ideal ⟨2, ![512, N]⟩ e) (L : List (View.Piece (Elt Ideal) ⟨2, ![512, N]⟩ e))
    (hL : ∀ p ∈ L, ∀ x, p.2 x = G (p.1.emb x)) (hc : ∀ y, ∃ p ∈ L, y ∈ p.1.set) (o : ℕ) (ho : o + 256 ≤ 512)
    (inb : ∀ a, (![o, 0] : Fin 2 → ℕ) a + (⟨2, ![256, N]⟩ : Shape).size a ≤ (⟨2, ![512, N]⟩ : Shape).size a) (r : Fin 256) (n : Fin N) :
    m.view.readCov L (Rect.unit (s := ⟨2, ![512, N]⟩) ![o, 0] (⟨2, ![256, N]⟩ : Shape).size inb).toLoadRect (ix2 r n) = G (ix2 ⟨o + r.val, by omega⟩ n) := by
  rw [View.readCov_eq_canon']
  refine (View.canon_apply_of_pieces G L hL _ (hc _)).trans (congrArg G (funext fun a => Fin.ext ?_))
  match a with
  | 0 => show o + 1 * r.val = o + r.val; omega
  | 1 => show 0 + 1 * n.val = n.val; omega

theorem h1_pieces (hP : B.Permutes) : ∀ p ∈ (kernelRun0_A.sl.HS0_2 (F := Ideal) c M.arg2 M.harg2 M.arg3 M.harg3 M.arg4 M.harg4 M.arg5 M.harg5 M.arg6 M.harg6 M.arg7 M.harg7 M.arg8 M.harg8 M.arg9 M.harg9 M.arg12 M.harg12 M.arg13 M.harg13 M.arg14 M.harg14 M.arg15 M.harg15 M.arg16 M.harg16 M.arg23 B.x0 B.x1 B.x2 B.x3 B.x4 B.x5 B.x6 B.x7 B.x10 B.x11 B.x12 B.x13 B.x14), ∀ x, p.2 x = h1All B (p.1.emb x) := by
  unfold kernelRun0_A.sl.HS0_2
  refine List.forall_mem_cons.2 ⟨?_, List.forall_mem_cons.2 ⟨?_, fun p hp => absurd hp List.not_mem_nil⟩⟩
  · exact rows_piece (h1All B) _ 256 (by decide) inb_S512x1024_S256x1024_256_0 (fun r n => (congrFun (pay718_eq _ _ _ _) _).trans (h1_hi c M B hP r n))
  · exact rows_piece (h1All B) _ 0 (by decide) inb_S512x1024_S256x1024_0_0 (fun r n => (congrFun (pay713_eq _ _ _ _) _).trans (h1_lo c M B hP r n))

theorem h1_cover : ∀ y, ∃ p ∈ (kernelRun0_A.sl.HS0_2 (F := Ideal) c M.arg2 M.harg2 M.arg3 M.harg3 M.arg4 M.harg4 M.arg5 M.harg5 M.arg6 M.harg6 M.arg7 M.harg7 M.arg8 M.harg8 M.arg9 M.harg9 M.arg12 M.harg12 M.arg13 M.harg13 M.arg14 M.harg14 M.arg15 M.harg15 M.arg16 M.harg16 M.arg23 B.x0 B.x1 B.x2 B.x3 B.x4 B.x5 B.x6 B.x7 B.x10 B.x11 B.x12 B.x13 B.x14), y ∈ p.1.set :=
  View.cover_of_tiledL _ S256x1024.size (by sl_kernel_rfl)

theorem h1_read_lo (hP : B.Permutes) (r : Fin 256) (n : Fin 1024) : (kernelRun0_A.sl.v2952 (F := Ideal) c M.arg2 M.harg2 M.arg3 M.harg3 M.arg4 M.harg4 M.arg5 M.harg5 M.arg6 M.harg6 M.arg7 M.harg7 M.arg8 M.harg8 M.arg9 M.harg9 M.arg12 M.harg12 M.arg13 M.harg13 M.arg14 M.harg14 M.arg15 M.harg15 M.arg16 M.harg16 M.arg20 M.arg23 B.x0 B.x1 B.x2 B.x3 B.x4 B.x5 B.x6 B.x7 B.x10 B.x11 B.x12 B.x13 B.x14) (ix2 r n) = h1 B.w (B.row (lo r)) n :=
  rows_read M.arg20 (h1All B) _ (h1_pieces c M B hP) (h1_cover c M B) 0 (by decide) inb_S512x1024_S256x1024_0_0 r n
theorem h1_read_hi (hP : B.Permutes) (r : Fin 256) (n : Fin 1024) : (kernelRun0_A.sl.v2976 (F := Ideal) c M.arg2 M.harg2 M.arg3 M.harg3 M.arg4 M.harg4 M.arg5 M.harg5 M.arg6 M.harg6 M.arg7 M.harg7 M.arg8 M.harg8 M.arg9 M.harg9 M.arg12 M.harg12 M.arg13 M.harg13 M.arg14 M.harg14 M.arg15 M.harg15 M.arg16 M.harg16 M.arg20 M.arg23 B.x0 B.x1 B.x2 B.x3 B.x4 B.x5 B.x6 B.x7 B.x10 B.x11 B.x12 B.x13 B.x14) (ix2 r n) = h1 B.w (B.row (hi r)) n :=
  rows_read M.arg20 (h1All B) _ (h1_pieces c M B hP) (h1_cover c M B) 256 (by decide) inb_S512x1024_S256x1024_256_0 r n

theorem n2_blk (h : FVec Ideal S256x1024 .f32) (r : Fin 256) (R : Fin 512) (hh : ∀ n, h (ix2 r n) = h1 B.w (B.row R) n) (n : Fin 1024) :
    k0_pay720 (kernelRun0_A.sl.r_1 (F := Ideal) c M.arg8 M.harg8 B.x6) (kernelRun0_A.sl.r_2 (F := Ideal) c M.arg8 M.harg8 B.x6) (normed h (kernelRun0_A.sl.r_238 (F := Ideal) c M.arg10 M.harg10 B.x8)) (ix2 r n) = n2 B.w (B.row R) n :=
  pay720_apply _ _ _ _ r _ _ _ _ hh (fun n => (congrFun (pay714_eq _) _).trans (ld_all M.arg10 M.harg10 B.x8 inb_S1x1024_S1x1024_0_0 0 n))
    (fun n => (row_apply _ n).trans (ld_mod M.arg8 M.harg8 B.x6 4096 (by decide) inb_S1x1x6144_S1x1x1024_0_0_4096 n))
    (fun n => (row_apply _ n).trans (ld_mod M.arg8 M.harg8 B.x6 3072 (by decide) inb_S1x1x6144_S1x1x1024_0_0_3072 n)) n

theorem n2_pieces (hP : B.Permutes) : ∀ p ∈ (kernelRun0_A.sl.HS1_2 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg23 B.x0 B.x1 B.x2 B.x3 B.x4 B.x5 B.x6 B.x7 B.x8 B.x10 B.x11 B.x12 B.x13 B.x14), ∀ x, p.2 x = n2All B (p.1.emb x) := by
  unfold kernelRun0_A.sl.HS1_2
  refine List.forall_mem_cons.2 ⟨?_, List.forall_mem_cons.2 ⟨?_, fun p hp => absurd hp List.not_mem_nil⟩⟩
  · exact rows_piece (n2All B) _ 256 (by decide) inb_S512x1024_S256x1024_256_0 (fun r n => n2_blk c M B (h1blk_hi c M B) r (hi r) (h1_hi c M B hP r) n)
  · exact rows_piece (n2All B) _ 0 (by decide) inb_S512x1024_S256x1024_0_0 (fun r n => n2_blk c M B (h1blk_lo c M B) r (lo r) (h1_lo c M B hP r) n)

theorem n2_cover : ∀ y, ∃ p ∈ (kernelRun0_A.sl.HS1_2 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg23 B.x0 B.x1 B.x2 B.x3 B.x4 B.x5 B.x6 B.x7 B.x8 B.x10 B.x11 B.x12 B.x13 B.x14), y ∈ p.1.set :=
  View.cover_of_tiledL _ S256x1024.size (by sl_kernel_rfl)

theorem n2_read_lo (hP : B.Permutes) (r : Fin 256) (n : Fin 1024) : (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) (ix2 r n) = n2 B.w (B.row (lo r)) n :=
  rows_read M.arg21 (n2All B) _ (n2_pieces c M B hP) (n2_cover c M B) 0 (by decide) inb_S512x1024_S256x1024_0_0 r n
theorem n2_read_hi (hP : B.Permutes) (r : Fin 256) (n : Fin 1024) : (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) (ix2 r n) = n2 B.w (B.row (hi r)) n :=
  rows_read M.arg21 (n2All B) _ (n2_pieces c M B hP) (n2_cover c M B) 256 (by decide) inb_S512x1024_S256x1024_256_0 r n

/-- A tile of the activation: rows `o …`, columns `q …`. -/
theorem act_piece (z : Vec Ideal S256x1024 .bf16) (o q : ℕ) (ho : o + 256 ≤ 512) (hq : q + 256 ≤ 2816)
    (hz : ∀ (r : Fin 256) (n : Fin 1024), z (ix2 r n) = n2 B.w (B.row ⟨o + r.val, by omega⟩) n)
    (ia : ∀ a, (![0, q] : Fin 2 → ℕ) a + S1024x256.size a ≤ S1024x5632.size a) (ib : ∀ a, (![0, 2816 + q] : Fin 2 → ℕ) a + S1024x256.size a ≤ S1024x5632.size a)
    (inb : ∀ a, (![o, q] : Fin 2 → ℕ) a + S256x256.size a ≤ S512x2816.size a) (y : S256x256.Idx) :
    k0_pay721 z (View.readAt (Elt Ideal) M.arg17.view (Rect.unit (s := S1024x5632) ![0, q] S1024x256.size ia).toLoadRect (M.harg17.unread B.x15))
        (View.readAt (Elt Ideal) M.arg17.view (Rect.unit (s := S1024x5632) ![0, 2816 + q] S1024x256.size ib).toLoadRect (M.harg17.unread B.x15)) y
      = actAll B ((Rect.unit (s := S512x2816) ![o, q] S256x256.size inb).emb y) := by
  have e : y = ix2 (y 0) (y 1) := by funext a; match a with | 0 => rfl | 1 => rfl
  have h0 : (y 0).val < 256 := (y 0).isLt
  have h1 : (y 1).val < 256 := (y 1).isLt
  rw [e]
  refine (pay721_apply z _ _ (y 0) (y 1) B.w.win _ ⟨q + (y 1).val, by omega⟩ (hz (y 0))
    (fun i => ld_cols M.arg17 M.harg17 B.x15 q (by omega) ia i (y 1))
    (fun i => (ld_cols M.arg17 M.harg17 B.x15 (2816 + q) (by omega) ib i (y 1)).trans (congrArg B.x15 ?_))).trans ?_
  · congr 1; apply Fin.ext; show 2816 + q + (y 1).val = 2816 + (q + (y 1).val); omega
  · show actAll B (ix2 ⟨o + (y 0).val, by omega⟩ ⟨q + (y 1).val, by omega⟩) = _
    refine congrArg (actAll B) (funext fun a => Fin.ext ?_)
    match a with
    | 0 => show o + (y 0).val = o + 1 * (y 0).val; omega
    | 1 => show q + (y 1).val = q + 1 * (y 1).val; omega

theorem act_pieces (hP : B.Permutes) : ∀ p ∈ (kernelRun0_A.sl.HS2_22 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg17 M.harg17 M.arg21 M.arg23 B.x0 B.x1 B.x2 B.x3 B.x4 B.x5 B.x6 B.x7 B.x8 B.x10 B.x11 B.x12 B.x13 B.x14 B.x15), ∀ x, p.2 x = actAll B (p.1.emb x) := by
  unfold kernelRun0_A.sl.HS2_22
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 2560 (by decide) (by decide) (n2_read_hi c M B hP) inb_S1024x5632_S1024x256_0_2560 inb_S1024x5632_S1024x256_0_5376 inb_S512x2816_S256x256_256_2560, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 2560 (by decide) (by decide) (n2_read_lo c M B hP) inb_S1024x5632_S1024x256_0_2560 inb_S1024x5632_S1024x256_0_5376 inb_S512x2816_S256x256_0_2560, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 2304 (by decide) (by decide) (n2_read_hi c M B hP) inb_S1024x5632_S1024x256_0_2304 inb_S1024x5632_S1024x256_0_5120 inb_S512x2816_S256x256_256_2304, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 2304 (by decide) (by decide) (n2_read_lo c M B hP) inb_S1024x5632_S1024x256_0_2304 inb_S1024x5632_S1024x256_0_5120 inb_S512x2816_S256x256_0_2304, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 2048 (by decide) (by decide) (n2_read_hi c M B hP) inb_S1024x5632_S1024x256_0_2048 inb_S1024x5632_S1024x256_0_4864 inb_S512x2816_S256x256_256_2048, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 2048 (by decide) (by decide) (n2_read_lo c M B hP) inb_S1024x5632_S1024x256_0_2048 inb_S1024x5632_S1024x256_0_4864 inb_S512x2816_S256x256_0_2048, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 1792 (by decide) (by decide) (n2_read_hi c M B hP) inb_S1024x5632_S1024x256_0_1792 inb_S1024x5632_S1024x256_0_4608 inb_S512x2816_S256x256_256_1792, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 1792 (by decide) (by decide) (n2_read_lo c M B hP) inb_S1024x5632_S1024x256_0_1792 inb_S1024x5632_S1024x256_0_4608 inb_S512x2816_S256x256_0_1792, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 1536 (by decide) (by decide) (n2_read_hi c M B hP) inb_S1024x5632_S1024x256_0_1536 inb_S1024x5632_S1024x256_0_4352 inb_S512x2816_S256x256_256_1536, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 1536 (by decide) (by decide) (n2_read_lo c M B hP) inb_S1024x5632_S1024x256_0_1536 inb_S1024x5632_S1024x256_0_4352 inb_S512x2816_S256x256_0_1536, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 1280 (by decide) (by decide) (n2_read_hi c M B hP) inb_S1024x5632_S1024x256_0_1280 inb_S1024x5632_S1024x256_0_4096 inb_S512x2816_S256x256_256_1280, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 1280 (by decide) (by decide) (n2_read_lo c M B hP) inb_S1024x5632_S1024x256_0_1280 inb_S1024x5632_S1024x256_0_4096 inb_S512x2816_S256x256_0_1280, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 1024 (by decide) (by decide) (n2_read_hi c M B hP) inb_S1024x5632_S1024x256_0_1024 inb_S1024x5632_S1024x256_0_3840 inb_S512x2816_S256x256_256_1024, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 1024 (by decide) (by decide) (n2_read_lo c M B hP) inb_S1024x5632_S1024x256_0_1024 inb_S1024x5632_S1024x256_0_3840 inb_S512x2816_S256x256_0_1024, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 768 (by decide) (by decide) (n2_read_hi c M B hP) inb_S1024x5632_S1024x256_0_768 inb_S1024x5632_S1024x256_0_3584 inb_S512x2816_S256x256_256_768, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 768 (by decide) (by decide) (n2_read_lo c M B hP) inb_S1024x5632_S1024x256_0_768 inb_S1024x5632_S1024x256_0_3584 inb_S512x2816_S256x256_0_768, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 512 (by decide) (by decide) (n2_read_hi c M B hP) inb_S1024x5632_S1024x256_0_512 inb_S1024x5632_S1024x256_0_3328 inb_S512x2816_S256x256_256_512, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 512 (by decide) (by decide) (n2_read_lo c M B hP) inb_S1024x5632_S1024x256_0_512 inb_S1024x5632_S1024x256_0_3328 inb_S512x2816_S256x256_0_512, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 256 (by decide) (by decide) (n2_read_hi c M B hP) inb_S1024x5632_S1024x256_0_256 inb_S1024x5632_S1024x256_0_3072 inb_S512x2816_S256x256_256_256, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 256 (by decide) (by decide) (n2_read_lo c M B hP) inb_S1024x5632_S1024x256_0_256 inb_S1024x5632_S1024x256_0_3072 inb_S512x2816_S256x256_0_256, ?_⟩
  refine List.forall_mem_cons.2 ⟨act_piece M B (kernelRun0_A.sl.v2700 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 256 0 (by decide) (by decide) (n2_read_hi c M B hP) inb_S1024x5632_S1024x256_0_0 inb_S1024x5632_S1024x256_0_2816 inb_S512x2816_S256x256_256_0, ?_⟩
  refine List.forall_mem_cons.2 ⟨act_piece M B (kernelRun0_A.sl.v2688 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg21 M.arg23 B.x0 B.x1 B.x2 B.x3 B.x4 B.x5 B.x6 B.x7 B.x8 B.x10 B.x11 B.x12 B.x13 B.x14) 0 0 (by decide) (by decide) (n2_read_lo c M B hP) inb_S1024x5632_S1024x256_0_0 inb_S1024x5632_S1024x256_0_2816 inb_S512x2816_S256x256_0_0, ?_⟩
  exact fun p hp => absurd hp List.not_mem_nil

theorem act_cover : ∀ y, ∃ p ∈ (kernelRun0_A.sl.HS2_22 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg17 M.harg17 M.arg21 M.arg23 B.x0 B.x1 B.x2 B.x3 B.x4 B.x5 B.x6 B.x7 B.x8 B.x10 B.x11 B.x12 B.x13 B.x14 B.x15), y ∈ p.1.set :=
  View.cover_of_tiledL _ S256x256.size (by sl_kernel_rfl)

theorem act_read_lo (hP : B.Permutes) (r : Fin 256) (k : Fin 2816) : (kernelRun0_A.sl.v2953 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg17 M.harg17 M.arg21 M.arg22 M.arg23 B.x0 B.x1 B.x2 B.x3 B.x4 B.x5 B.x6 B.x7 B.x8 B.x10 B.x11 B.x12 B.x13 B.x14 B.x15) (ix2 r k) = act B.w.win (n2 B.w (B.row (lo r))) k :=
  rows_read M.arg22 (actAll B) _ (act_pieces c M B hP) (act_cover c M B) 0 (by decide) inb_S512x2816_S256x2816_0_0 r k
theorem act_read_hi (hP : B.Permutes) (r : Fin 256) (k : Fin 2816) : (kernelRun0_A.sl.v2977 (F := Ideal) c M.arg2 M.harg2 M.arg3 M.harg3 M.arg4 M.harg4 M.arg5 M.harg5 M.arg6 M.harg6 M.arg7 M.harg7 M.arg8 M.harg8 M.arg9 M.harg9 M.arg10 M.harg10 M.arg12 M.harg12 M.arg13 M.harg13 M.arg14 M.harg14 M.arg15 M.harg15 M.arg16 M.harg16 M.arg17 M.harg17 M.arg21 M.arg22 M.arg23 B.x0 B.x1 B.x2 B.x3 B.x4 B.x5 B.x6 B.x7 B.x8 B.x10 B.x11 B.x12 B.x13 B.x14 B.x15) (ix2 r k) = act B.w.win (n2 B.w (B.row (hi r))) k :=
  rows_read M.arg22 (actAll B) _ (act_pieces c M B hP) (act_cover c M B) 256 (by decide) inb_S512x2816_S256x2816_256_0 r k

/-- The block written. -/
def outAll : Vec Ideal S1x512x1024 .f32 := fun y => result B.w (B.row (y 1)) (y 2)

theorem out_piece (h : Vec Ideal S256x1024 .f32) (a : Vec Ideal S256x2816 .bf16) (o : ℕ) (ho : o + 256 ≤ 512)
    (hh : ∀ (r : Fin 256) (n : Fin 1024), h (ix2 r n) = h1 B.w (B.row ⟨o + r.val, by omega⟩) n)
    (ha : ∀ (r : Fin 256) (k : Fin 2816), a (ix2 r k) = act B.w.win (n2 B.w (B.row ⟨o + r.val, by omega⟩)) k)
    (inb : ∀ a, (![0, o, 0] : Fin 3 → ℕ) a + S1x256x1024.size a ≤ S1x512x1024.size a) (y : S1x256x1024.Idx) :
    k0_pay754 (kernelRun0_A.sl.r_3 (F := Ideal) c M.arg8 M.harg8 B.x6) h a
        (View.readAt (Elt Ideal) M.arg18.view (Rect.unit (s := S2816x1024) ![0, 0] S2816x1024.size inb_S2816x1024_S2816x1024_0_0).toLoadRect (M.harg18.unread B.x16))
        (View.readAt (Elt Ideal) M.arg11.view (Rect.unit (s := S1x1024) ![0, 0] S1x1024.size inb_S1x1024_S1x1024_0_0).toLoadRect (M.harg11.unread B.x9)) y
      = outAll B ((Rect.unit (s := S1x512x1024) ![0, o, 0] S1x256x1024.size inb).emb y) := by
  have e : y = ix3 0 (y 1) (y 2) := by
    funext a; match a with
    | 0 => exact Fin.ext (by have : (y 0).val < 1 := (y 0).isLt; show (y 0).val = 0; omega)
    | 1 => rfl
    | 2 => rfl
  have h1' : (y 1).val < 256 := (y 1).isLt
  rw [e]
  refine (pay754_apply _ h a _ _ (y 1) _ _ _ _ B.w.wff (fun i n => ld_all M.arg18 M.harg18 B.x16 inb_S2816x1024_S2816x1024_0_0 i n) (hh (y 1))
    (fun n => (row_apply _ n).trans (ld_mod M.arg8 M.harg8 B.x6 5120 (by decide) inb_S1x1x6144_S1x1x1024_0_0_5120 n))
    (ha (y 1)) (fun n => ld_all M.arg11 M.harg11 B.x9 inb_S1x1024_S1x1024_0_0 0 n) (y 2)).trans ?_
  show outAll B (ix3 0 ⟨o + (y 1).val, by omega⟩ (y 2)) = _
  refine congrArg (outAll B) (funext fun a => Fin.ext ?_)
  match a with
  | 0 => rfl
  | 1 => show o + (y 1).val = o + 1 * (y 1).val; omega
  | 2 => show (y 2).val = 0 + 1 * (y 2).val; omega

/-- The run's named output block is `outAll`. -/
theorem out_block (i : grid0.Coords) (hP : B.Permutes) : out0_A_17 (F := Ideal) c i M.arg2 M.harg2 M.arg3 M.harg3 M.arg4 M.harg4 M.arg5 M.harg5 M.arg6 M.harg6 M.arg7 M.harg7 M.arg8 M.harg8 M.arg9 M.harg9 M.arg10 M.harg10 M.arg11 M.harg11 M.arg12 M.harg12 M.arg13 M.harg13 M.arg14 M.harg14 M.arg15 M.harg15 M.arg16 M.harg16 M.arg17 M.harg17 M.arg18 M.harg18 M.arg19 M.harg19 M.arg20 M.harg20 M.arg21 M.harg21 M.arg22 M.harg22 M.arg23 M.harg23 B.x0 B.x1 B.x2 B.x3 B.x4 B.x5 B.x6 B.x7 B.x8 B.x9 B.x10 B.x11 B.x12 B.x13 B.x14 B.x15 B.x16 = outAll B := by
  unfold out0_A_17 kernelRun0_A
  dsimp only
  rw [View.read_writes_junk_eq_canon]
  funext y
  refine View.canon_apply_of_pieces (outAll B) _ ?_ y (View.cover_of_tiledL (s := S1x512x1024) _ S1x256x1024.size (by sl_kernel_rfl) y)
  refine List.forall_mem_cons.2 ⟨?_, List.forall_mem_cons.2 ⟨?_, fun p hp => absurd hp List.not_mem_nil⟩⟩
  · exact out_piece c M B _ _ 256 (by decide) (h1_read_hi c M B hP) (act_read_hi c M B hP) inb_S1x512x1024_S1x256x1024_0_256_0
  · exact out_piece c M B _ _ 0 (by decide) (h1_read_lo c M B hP) (act_read_lo c M B hP) inb_S1x512x1024_S1x256x1024_0_0_0

end Cert.KernelIdeal.Post
-- ==== Proof.PermBase.lean ====
/-
  THE PERMUTATION THE KERNEL MULTIPLIES BY, stated. The 256 × 256 constant has a one in row `r` at column `16 (r % 16) + r / 16` and
  zeros elsewhere; `RowsRight q` says so of the rows `16 q … 16 q + 15`. The four parts are decided in Proof/PermA … PermD.
-/
module

public import proofs.«01_k».proof.KernelIdeal

@[expose] public section

namespace Cert.KernelIdeal.Post

open Cert.KernelIdeal

/-- The word in row `r`, column `k` is the one it should be. -/
def WordRight (r k : ℕ) : Prop := lit0t (256 * r + k) = if k = 16 * (r % 16) + r / 16 then 0x3F80#16 else 0x0000#16

noncomputable instance (r k : ℕ) : Decidable (WordRight r k) := inferInstanceAs (Decidable (lit0t (256 * r + k) = _))

/-- Sixteen rows are right. -/
def RowsRight (q : ℕ) : Prop := ∀ s : Fin 16, ∀ k : Fin 256, WordRight (16 * q + s.val) k.val

noncomputable instance (q : ℕ) : Decidable (RowsRight q) := inferInstanceAs (Decidable (∀ s : Fin 16, ∀ k : Fin 256, WordRight (16 * q + s.val) k.val))

end Cert.KernelIdeal.Post
-- ==== Proof.PermA.lean ====
/-
  Rows 0 to 63 of the permutation, decided.
-/
module

public import proofs.«01_k».proof.Proof.PermBase

@[expose] public section

set_option maxRecDepth 16384

namespace Cert.KernelIdeal.Post

theorem rows_right0 : RowsRight 0 := by decide +kernel
theorem rows_right1 : RowsRight 1 := by decide +kernel
theorem rows_right2 : RowsRight 2 := by decide +kernel
theorem rows_right3 : RowsRight 3 := by decide +kernel

end Cert.KernelIdeal.Post
-- ==== Proof.PermB.lean ====
/-
  Rows 64 to 127 of the permutation, decided.
-/
module

public import proofs.«01_k».proof.Proof.PermBase

@[expose] public section

set_option maxRecDepth 16384

namespace Cert.KernelIdeal.Post

theorem rows_right4 : RowsRight 4 := by decide +kernel
theorem rows_right5 : RowsRight 5 := by decide +kernel
theorem rows_right6 : RowsRight 6 := by decide +kernel
theorem rows_right7 : RowsRight 7 := by decide +kernel

end Cert.KernelIdeal.Post
-- ==== Proof.PermC.lean ====
/-
  Rows 128 to 191 of the permutation, decided.
-/
module

public import proofs.«01_k».proof.Proof.PermBase

@[expose] public section

set_option maxRecDepth 16384

namespace Cert.KernelIdeal.Post

theorem rows_right8 : RowsRight 8 := by decide +kernel
theorem rows_right9 : RowsRight 9 := by decide +kernel
theorem rows_right10 : RowsRight 10 := by decide +kernel
theorem rows_right11 : RowsRight 11 := by decide +kernel

end Cert.KernelIdeal.Post
-- ==== Proof.PermD.lean ====
/-
  Rows 192 to 255 of the permutation, decided.
-/
module

public import proofs.«01_k».proof.Proof.PermBase

@[expose] public section

set_option maxRecDepth 16384

namespace Cert.KernelIdeal.Post

theorem rows_right12 : RowsRight 12 := by decide +kernel
theorem rows_right13 : RowsRight 13 := by decide +kernel
theorem rows_right14 : RowsRight 14 := by decide +kernel
theorem rows_right15 : RowsRight 15 := by decide +kernel

end Cert.KernelIdeal.Post
-- ==== Proof.Perm.lean ====
/-
  The permutation's four parts put together.
-/
module

public import proofs.«01_k».proof.Proof.PermA
public import proofs.«01_k».proof.Proof.PermB
public import proofs.«01_k».proof.Proof.PermC
public import proofs.«01_k».proof.Proof.PermD
public import Mathlib.Tactic.IntervalCases

@[expose] public section

namespace Cert.KernelIdeal.Post

open Cert.KernelIdeal

theorem rows_right (q : ℕ) (h : q < 16) : RowsRight q := by
  interval_cases q
  exacts [rows_right0, rows_right1, rows_right2, rows_right3, rows_right4, rows_right5, rows_right6, rows_right7, rows_right8, rows_right9, rows_right10, rows_right11, rows_right12, rows_right13, rows_right14, rows_right15]

/-- Every word of the permutation is the one it should be. -/
theorem perm_words (r k : Fin 256) :
    lit0t (256 * r.val + k.val) = if k.val = 16 * (r.val % 16) + r.val / 16 then 0x3F80#16 else 0x0000#16 := by
  have h := rows_right (r.val / 16) (by omega) ⟨r.val % 16, by omega⟩ k
  rw [show 16 * (r.val / 16) + r.val % 16 = r.val from by omega] at h
  exact h

end Cert.KernelIdeal.Post
-- ==== Proof.Array.lean ====
/-
  THE KERNEL'S RESULT ARRAY. At grid point `8 b + i` the input blocks are rows `512 i …` of sample `b` (the weights whole), so the block
  written there is that part of `Tail`'s array of results; the 64 blocks cover it.
-/
module

public import proofs.«01_k».proof.Proof.Body
public import proofs.«01_k».proof.Proof.Perm
public import Idealize.ShloMosaic.Lib.Pipeline.Value

@[expose] public section

set_option maxRecDepth 16384
set_option maxHeartbeats 1000000

noncomputable section

namespace Cert.KernelIdeal.Post

open Idealize.ShloMosaic Idealize.ShloMosaic.TcCoe Idealize.ShloMosaic.Pointwise Idealize.SL.Sem
open Idealize.ShloMosaic.Pipeline (Dat)
open Cert.KernelIdeal Cert.KernelIdeal.Gen Cert.Tail

variable (m : (ℓ : Loc nD τ sig) → Buf (Elt Ideal) ℓ) (c : Dev nD)

/-- The argument arrays of a device. -/
def argsOf : Arrays where
  x := m ((c : Thread nD τ).loc main_arg0)
  attn := m ((c : Thread nD τ).loc main_arg1)
  y := m ((c : Thread nD τ).loc main_arg2)
  u := m ((c : Thread nD τ).loc main_arg3)
  ga := m ((c : Thread nD τ).loc main_arg4)
  gs := m ((c : Thread nD τ).loc main_arg5)
  md := m ((c : Thread nD τ).loc main_arg6)
  d := m ((c : Thread nD τ).loc main_arg7)
  gff := m ((c : Thread nD τ).loc main_arg8)
  gfin := m ((c : Thread nD τ).loc main_arg9)
  wglu := m ((c : Thread nD τ).loc main_arg10)
  wa := m ((c : Thread nD τ).loc main_arg11)
  ws := m ((c : Thread nD τ).loc main_arg12)
  wout := m ((c : Thread nD τ).loc main_arg13)
  win := m ((c : Thread nD τ).loc main_arg14)
  wff := m ((c : Thread nD τ).loc main_arg15)

theorem V_v0 : V m c main_v0 = shapeCast S16x1x6144 (m ((c : Thread nD τ).loc main_arg6)) shapeCasts_S16x6144_S16x1x6144 := by
  show StableHlo.after hostOps0 _ (Proc.devRef .tc main_v0) = _
  after_results
  rfl
theorem V_v2 : V m c main_v2 = m ((c : Thread nD τ).loc main_arg7) := by
  show StableHlo.after hostOps0 _ (Proc.devRef .tc main_v2) = _
  after_results
  show shapeCast S1x512 (shapeCast S512 (m ((c : Thread nD τ).loc main_arg7)) shapeCasts_S1x512_S512) shapeCasts_S512_S1x512 = _
  rw [shapeCast_comp]
  exact shapeCast_id _ _
theorem V_v4 : V m c main_v4 = m ((c : Thread nD τ).loc main_arg8) := by
  show StableHlo.after hostOps0 _ (Proc.devRef .tc main_v4) = _
  after_results
  show shapeCast S1x1024 (shapeCast S1024 (m ((c : Thread nD τ).loc main_arg8)) shapeCasts_S1x1024_S1024) shapeCasts_S1024_S1x1024 = _
  rw [shapeCast_comp]
  exact shapeCast_id _ _
theorem V_v5 : V m c main_v5 = shapeCast S1x1024 (m ((c : Thread nD τ).loc main_arg9)) shapeCasts_S1024_S1x1024 := by
  show StableHlo.after hostOps0 _ (Proc.devRef .tc main_v5) = _
  after_results
  rfl
theorem V_cst : V m c main_cst = fun i => FloatOps.ofBits (F := Ideal) .bf16 (lit0 (S256x256.rowMajor i)) := by
  show StableHlo.after hostOps0 _ (Proc.devRef .tc main_cst) = _
  after_results
  rfl
theorem index0 : ∀ t : Fin cfg0.N, win0_0.index t 0 = t.val / 8 ∧ win0_0.index t 1 = t.val % 8 ∧ win0_0.index t 2 = 0 :=
  (by decide +kernel : ∀ t : Fin grid0.N, win0_0.index t 0 = t.val / 8 ∧ win0_0.index t 1 = t.val % 8 ∧ win0_0.index t 2 = 0)
theorem index1 : ∀ t : Fin cfg0.N, win0_1.index t 0 = t.val / 8 ∧ win0_1.index t 1 = 0 ∧ win0_1.index t 2 = t.val % 8 ∧ win0_1.index t 3 = 0 :=
  (by decide +kernel : ∀ t : Fin grid0.N, win0_1.index t 0 = t.val / 8 ∧ win0_1.index t 1 = 0 ∧ win0_1.index t 2 = t.val % 8 ∧ win0_1.index t 3 = 0)
theorem index2 : ∀ t : Fin cfg0.N, win0_2.index t 0 = 0 ∧ win0_2.index t 1 = t.val / 8 ∧ win0_2.index t 2 = t.val % 8 ∧ win0_2.index t 3 = 0 :=
  (by decide +kernel : ∀ t : Fin grid0.N, win0_2.index t 0 = 0 ∧ win0_2.index t 1 = t.val / 8 ∧ win0_2.index t 2 = t.val % 8 ∧ win0_2.index t 3 = 0)
theorem index3 : ∀ t : Fin cfg0.N, win0_3.index t 0 = t.val / 8 ∧ win0_3.index t 1 = t.val % 8 ∧ win0_3.index t 2 = 0 :=
  (by decide +kernel : ∀ t : Fin grid0.N, win0_3.index t 0 = t.val / 8 ∧ win0_3.index t 1 = t.val % 8 ∧ win0_3.index t 2 = 0)
theorem index4 : ∀ t : Fin cfg0.N, win0_4.index t 0 = t.val / 8 ∧ win0_4.index t 1 = t.val % 8 ∧ win0_4.index t 2 = 0 :=
  (by decide +kernel : ∀ t : Fin grid0.N, win0_4.index t 0 = t.val / 8 ∧ win0_4.index t 1 = t.val % 8 ∧ win0_4.index t 2 = 0)
theorem index5 : ∀ t : Fin cfg0.N, win0_5.index t 0 = t.val / 8 ∧ win0_5.index t 1 = t.val % 8 ∧ win0_5.index t 2 = 0 :=
  (by decide +kernel : ∀ t : Fin grid0.N, win0_5.index t 0 = t.val / 8 ∧ win0_5.index t 1 = t.val % 8 ∧ win0_5.index t 2 = 0)
theorem index6 : ∀ t : Fin cfg0.N, win0_6.index t 0 = t.val / 8 ∧ win0_6.index t 1 = 0 ∧ win0_6.index t 2 = 0 :=
  (by decide +kernel : ∀ t : Fin grid0.N, win0_6.index t 0 = t.val / 8 ∧ win0_6.index t 1 = 0 ∧ win0_6.index t 2 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)
theorem index9 : ∀ t : Fin cfg0.N, win0_9.index t 0 = 0 ∧ win0_9.index t 1 = 0 :=
  (by decide +kernel : ∀ t : Fin grid0.N, win0_9.index t 0 = 0 ∧ win0_9.index t 1 = 0)
theorem index10 : ∀ t : Fin cfg0.N, win0_10.index t 0 = 0 ∧ win0_10.index t 1 = 0 :=
  (by decide +kernel : ∀ t : Fin grid0.N, win0_10.index t 0 = 0 ∧ win0_10.index t 1 = 0)
theorem index11 : ∀ t : Fin cfg0.N, win0_11.index t 0 = 0 ∧ win0_11.index t 1 = 0 :=
  (by decide +kernel : ∀ t : Fin grid0.N, win0_11.index t 0 = 0 ∧ win0_11.index t 1 = 0)
theorem index12 : ∀ t : Fin cfg0.N, win0_12.index t 0 = 0 ∧ win0_12.index t 1 = 0 :=
  (by decide +kernel : ∀ t : Fin grid0.N, win0_12.index t 0 = 0 ∧ win0_12.index t 1 = 0)
theorem index13 : ∀ t : Fin cfg0.N, win0_13.index t 0 = 0 ∧ win0_13.index t 1 = 0 :=
  (by decide +kernel : ∀ t : Fin grid0.N, win0_13.index t 0 = 0 ∧ win0_13.index t 1 = 0)
theorem index14 : ∀ t : Fin cfg0.N, win0_14.index t 0 = 0 ∧ win0_14.index t 1 = 0 :=
  (by decide +kernel : ∀ t : Fin grid0.N, win0_14.index t 0 = 0 ∧ win0_14.index t 1 = 0)
theorem index15 : ∀ t : Fin cfg0.N, win0_15.index t 0 = 0 ∧ win0_15.index t 1 = 0 :=
  (by decide +kernel : ∀ t : Fin grid0.N, win0_15.index t 0 = 0 ∧ win0_15.index t 1 = 0)
theorem index16 : ∀ t : Fin cfg0.N, win0_16.index t 0 = 0 ∧ win0_16.index t 1 = 0 :=
  (by decide +kernel : ∀ t : Fin grid0.N, win0_16.index t 0 = 0 ∧ win0_16.index t 1 = 0)
theorem index17 : ∀ t : Fin cfg0.N, win0_17.index t 0 = t.val / 8 ∧ win0_17.index t 1 = t.val % 8 ∧ win0_17.index t 2 = 0 :=
  (by decide +kernel : ∀ t : Fin grid0.N, win0_17.index t 0 = t.val / 8 ∧ win0_17.index t 1 = t.val % 8 ∧ win0_17.index t 2 = 0)

theorem t64 (t : Fin cfg0.N) : t.val < 64 := lt_of_lt_of_eq t.isLt Gen.N_0

/-- The blocks of a grid point. -/
def blks (t : Fin cfg0.N) : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t
  x12 := iblk m c 12 t
  x13 := iblk m c 13 t
  x14 := iblk m c 14 t
  x15 := iblk m c 15 t
  x16 := iblk m c 16 t

abbrev smp (t : Fin cfg0.N) : Fin 8 := ⟨t.val / 8, by have := t64 t; omega⟩
abbrev pos (t : Fin cfg0.N) (R : Fin 512) : Fin 4096 := ⟨512 * (t.val % 8) + R.val, by have := R.isLt; omega⟩

theorem blk0 (t : Fin cfg0.N) (R : Fin 512) (n : Fin 1024) : (blks m c t).x0 (ix3 0 R n) = m ((c : Thread nD τ).loc main_arg0) (ix3 (smp t) (pos t R) n) := by
  obtain ⟨h0, h1, h2⟩ := index0 t
  refine Eq.trans (b := V m c main_arg0 ((win0_0.rect t).emb (ix3 0 R n))) rfl ?_
  rw [V_main_arg0]
  refine congrArg (m ((c : Thread nD τ).loc main_arg0)) (funext fun a => Fin.ext ?_)
  match a with
  | 0 => show win0_0.index t 0 * 1 + 1 * 0 = t.val / 8; omega
  | 1 => show win0_0.index t 1 * 512 + 1 * R.val = 512 * (t.val % 8) + R.val; omega
  | 2 => show win0_0.index t 2 * 1024 + 1 * n.val = n.val; omega
theorem blk3 (t : Fin cfg0.N) (R : Fin 512) (n : Fin 512) : (blks m c t).x3 (ix3 0 R n) = m ((c : Thread nD τ).loc main_arg3) (ix3 (smp t) (pos t R) n) := by
  obtain ⟨h0, h1, h2⟩ := index3 t
  refine Eq.trans (b := V m c main_arg3 ((win0_3.rect t).emb (ix3 0 R n))) rfl ?_
  rw [V_main_arg3]
  refine congrArg (m ((c : Thread nD τ).loc main_arg3)) (funext fun a => Fin.ext ?_)
  match a with
  | 0 => show win0_3.index t 0 * 1 + 1 * 0 = t.val / 8; omega
  | 1 => show win0_3.index t 1 * 512 + 1 * R.val = 512 * (t.val % 8) + R.val; omega
  | 2 => show win0_3.index t 2 * 512 + 1 * n.val = n.val; omega
theorem blk4 (t : Fin cfg0.N) (R : Fin 512) (n : Fin 1024) : (blks m c t).x4 (ix3 0 R n) = m ((c : Thread nD τ).loc main_arg4) (ix3 (smp t) (pos t R) n) := by
  obtain ⟨h0, h1, h2⟩ := index4 t
  refine Eq.trans (b := V m c main_arg4 ((win0_4.rect t).emb (ix3 0 R n))) rfl ?_
  rw [V_main_arg4]
  refine congrArg (m ((c : Thread nD τ).loc main_arg4)) (funext fun a => Fin.ext ?_)
  match a with
  | 0 => show win0_4.index t 0 * 1 + 1 * 0 = t.val / 8; omega
  | 1 => show win0_4.index t 1 * 512 + 1 * R.val = 512 * (t.val % 8) + R.val; omega
  | 2 => show win0_4.index t 2 * 1024 + 1 * n.val = n.val; omega
theorem blk5 (t : Fin cfg0.N) (R : Fin 512) (n : Fin 1024) : (blks m c t).x5 (ix3 0 R n) = m ((c : Thread nD τ).loc main_arg5) (ix3 (smp t) (pos t R) n) := by
  obtain ⟨h0, h1, h2⟩ := index5 t
  refine Eq.trans (b := V m c main_arg5 ((win0_5.rect t).emb (ix3 0 R n))) rfl ?_
  rw [V_main_arg5]
  refine congrArg (m ((c : Thread nD τ).loc main_arg5)) (funext fun a => Fin.ext ?_)
  match a with
  | 0 => show win0_5.index t 0 * 1 + 1 * 0 = t.val / 8; omega
  | 1 => show win0_5.index t 1 * 512 + 1 * R.val = 512 * (t.val % 8) + R.val; omega
  | 2 => show win0_5.index t 2 * 1024 + 1 * n.val = n.val; omega
theorem blk1 (t : Fin cfg0.N) (q : Fin 4) (R : Fin 512) (n : Fin 128) : (blks m c t).x1 (ix4 0 q R n) = m ((c : Thread nD τ).loc main_arg1) (ix4 (smp t) q (pos t R) n) := by
  obtain ⟨h0, h1, h2, h3⟩ := index1 t
  refine Eq.trans (b := V m c main_arg1 ((win0_1.rect t).emb (ix4 0 q R n))) rfl ?_
  rw [V_main_arg1]
  refine congrArg (m ((c : Thread nD τ).loc main_arg1)) (funext fun a => Fin.ext ?_)
  match a with
  | 0 => show win0_1.index t 0 * 1 + 1 * 0 = t.val / 8; omega
  | 1 => show win0_1.index t 1 * 4 + 1 * q.val = q.val; omega
  | 2 => show win0_1.index t 2 * 512 + 1 * R.val = 512 * (t.val % 8) + R.val; omega
  | 3 => show win0_1.index t 3 * 128 + 1 * n.val = n.val; omega
theorem blk2 (t : Fin cfg0.N) (g : Fin 32) (s : Fin 32) (n : Fin 256) :
    (blks m c t).x2 (ix4 g 0 s n) = m ((c : Thread nD τ).loc main_arg2) (ix4 g (smp t) ⟨32 * (t.val % 8) + s.val, by have := s.isLt; omega⟩ n) := by
  obtain ⟨h0, h1, h2, h3⟩ := index2 t
  refine Eq.trans (b := V m c main_arg2 ((win0_2.rect t).emb (ix4 g 0 s n))) rfl ?_
  rw [V_main_arg2]
  refine congrArg (m ((c : Thread nD τ).loc main_arg2)) (funext fun a => Fin.ext ?_)
  match a with
  | 0 => show win0_2.index t 0 * 32 + 1 * g.val = g.val; omega
  | 1 => show win0_2.index t 1 * 1 + 1 * 0 = t.val / 8; omega
  | 2 => show win0_2.index t 2 * 32 + 1 * s.val = 32 * (t.val % 8) + s.val; omega
  | 3 => show win0_2.index t 3 * 256 + 1 * n.val = n.val; omega
theorem blk6 (t : Fin cfg0.N) (n : Fin 6144) : (blks m c t).x6 (ix3 0 0 n) = m ((c : Thread nD τ).loc main_arg6) (ix2 ⟨t.val / 8, by have := t64 t; omega⟩ n) := by
  obtain ⟨h0, h1, h2⟩ := index6 t
  refine Eq.trans (b := V m c main_v0 ((win0_6.rect t).emb (ix3 0 0 n))) rfl ?_
  rw [V_v0]
  have e : (win0_6.rect t).emb (ix3 0 0 n) = (ix3 ⟨t.val / 8, by have := t64 t; omega⟩ 0 n : S16x1x6144.Idx) := by
    refine funext fun a => Fin.ext ?_
    match a with
    | 0 => show win0_6.index t 0 * 1 + 1 * 0 = t.val / 8; omega
    | 1 => show win0_6.index t 1 * 1 + 1 * 0 = 0; omega
    | 2 => show win0_6.index t 2 * 6144 + 1 * n.val = n.val; omega
  rw [e]
  refine shapeCast_apply (s := S16x6144) (t := S16x1x6144) _ _ _ (ix2 ⟨t.val / 8, by have := t64 t; omega⟩ n) ?_
  rw [Shape.rowMajor_val_two, Shape.rowMajor_val_three]
  show t.val / 8 * 6144 + n.val = (t.val / 8 * 1 + 0) * 6144 + n.val
  omega
theorem blk7 (t : Fin cfg0.N) : (blks m c t).x7 = V m c main_v2 := by
  obtain ⟨h0, h1⟩ := index7 t
  funext y
  refine Eq.trans (b := V m c main_v2 ((win0_7.rect t).emb y)) rfl ?_
  refine congrArg (V m c main_v2) (funext fun a => Fin.ext ?_)
  match a with
  | 0 => show win0_7.index t 0 * 1 + 1 * (y 0).val = (y 0).val; omega
  | 1 => show win0_7.index t 1 * 512 + 1 * (y 1).val = (y 1).val; omega
theorem blk8 (t : Fin cfg0.N) : (blks m c t).x8 = V m c main_v4 := by
  obtain ⟨h0, h1⟩ := index8 t
  funext y
  refine Eq.trans (b := V m c main_v4 ((win0_8.rect t).emb y)) rfl ?_
  refine congrArg (V m c main_v4) (funext fun a => Fin.ext ?_)
  match a with
  | 0 => show win0_8.index t 0 * 1 + 1 * (y 0).val = (y 0).val; omega
  | 1 => show win0_8.index t 1 * 1024 + 1 * (y 1).val = (y 1).val; omega
theorem blk9 (t : Fin cfg0.N) : (blks m c t).x9 = V m c main_v5 := by
  obtain ⟨h0, h1⟩ := index9 t
  funext y
  refine Eq.trans (b := V m c main_v5 ((win0_9.rect t).emb y)) rfl ?_
  refine congrArg (V m c main_v5) (funext fun a => Fin.ext ?_)
  match a with
  | 0 => show win0_9.index t 0 * 1 + 1 * (y 0).val = (y 0).val; omega
  | 1 => show win0_9.index t 1 * 1024 + 1 * (y 1).val = (y 1).val; omega
theorem blk10 (t : Fin cfg0.N) : (blks m c t).x10 = V m c main_cst := by
  obtain ⟨h0, h1⟩ := index10 t
  funext y
  refine Eq.trans (b := V m c main_cst ((win0_10.rect t).emb y)) rfl ?_
  refine congrArg (V m c main_cst) (funext fun a => Fin.ext ?_)
  match a with
  | 0 => show win0_10.index t 0 * 256 + 1 * (y 0).val = (y 0).val; omega
  | 1 => show win0_10.index t 1 * 256 + 1 * (y 1).val = (y 1).val; omega
theorem blk11 (t : Fin cfg0.N) : (blks m c t).x11 = V m c main_arg10 := by
  obtain ⟨h0, h1⟩ := index11 t
  funext y
  refine Eq.trans (b := V m c main_arg10 ((win0_11.rect t).emb y)) rfl ?_
  refine congrArg (V m c main_arg10) (funext fun a => Fin.ext ?_)
  match a with
  | 0 => show win0_11.index t 0 * 512 + 1 * (y 0).val = (y 0).val; omega
  | 1 => show win0_11.index t 1 * 1024 + 1 * (y 1).val = (y 1).val; omega
theorem blk12 (t : Fin cfg0.N) : (blks m c t).x12 = V m c main_arg11 := by
  obtain ⟨h0, h1⟩ := index12 t
  funext y
  refine Eq.trans (b := V m c main_arg11 ((win0_12.rect t).emb y)) rfl ?_
  refine congrArg (V m c main_arg11) (funext fun a => Fin.ext ?_)
  match a with
  | 0 => show win0_12.index t 0 * 512 + 1 * (y 0).val = (y 0).val; omega
  | 1 => show win0_12.index t 1 * 1024 + 1 * (y 1).val = (y 1).val; omega
theorem blk13 (t : Fin cfg0.N) : (blks m c t).x13 = V m c main_arg12 := by
  obtain ⟨h0, h1⟩ := index13 t
  funext y
  refine Eq.trans (b := V m c main_arg12 ((win0_13.rect t).emb y)) rfl ?_
  refine congrArg (V m c main_arg12) (funext fun a => Fin.ext ?_)
  match a with
  | 0 => show win0_13.index t 0 * 512 + 1 * (y 0).val = (y 0).val; omega
  | 1 => show win0_13.index t 1 * 1024 + 1 * (y 1).val = (y 1).val; omega
theorem blk14 (t : Fin cfg0.N) : (blks m c t).x14 = V m c main_arg13 := by
  obtain ⟨h0, h1⟩ := index14 t
  funext y
  refine Eq.trans (b := V m c main_arg13 ((win0_14.rect t).emb y)) rfl ?_
  refine congrArg (V m c main_arg13) (funext fun a => Fin.ext ?_)
  match a with
  | 0 => show win0_14.index t 0 * 1024 + 1 * (y 0).val = (y 0).val; omega
  | 1 => show win0_14.index t 1 * 1024 + 1 * (y 1).val = (y 1).val; omega
theorem blk15 (t : Fin cfg0.N) : (blks m c t).x15 = V m c main_arg14 := by
  obtain ⟨h0, h1⟩ := index15 t
  funext y
  refine Eq.trans (b := V m c main_arg14 ((win0_15.rect t).emb y)) rfl ?_
  refine congrArg (V m c main_arg14) (funext fun a => Fin.ext ?_)
  match a with
  | 0 => show win0_15.index t 0 * 1024 + 1 * (y 0).val = (y 0).val; omega
  | 1 => show win0_15.index t 1 * 5632 + 1 * (y 1).val = (y 1).val; omega
theorem blk16 (t : Fin cfg0.N) : (blks m c t).x16 = V m c main_arg15 := by
  obtain ⟨h0, h1⟩ := index16 t
  funext y
  refine Eq.trans (b := V m c main_arg15 ((win0_16.rect t).emb y)) rfl ?_
  refine congrArg (V m c main_arg15) (funext fun a => Fin.ext ?_)
  match a with
  | 0 => show win0_16.index t 0 * 2816 + 1 * (y 0).val = (y 0).val; omega
  | 1 => show win0_16.index t 1 * 1024 + 1 * (y 1).val = (y 1).val; omega

theorem blks_w (t : Fin cfg0.N) : (blks m c t).w = (argsOf m c).weights := by
  unfold Blocks.w Arrays.weights
  rw [blk7, blk8, blk9, blk11, blk12, blk13, blk14, blk15, blk16, V_v2, V_v4, V_v5, V_main_arg10, V_main_arg11, V_main_arg12, V_main_arg13, V_main_arg14, V_main_arg15]
  ext n <;> try rfl
  show shapeCast S1x1024 (m ((c : Thread nD τ).loc main_arg9)) shapeCasts_S1024_S1x1024 (ix2 0 n) = m ((c : Thread nD τ).loc main_arg9) (ix1 n)
  pointwise []

theorem blks_row (t : Fin cfg0.N) (R : Fin 512) : (blks m c t).row R = (argsOf m c).row (smp t) (pos t R) := by
  have hR := R.isLt
  unfold Blocks.row Arrays.row
  ext n
  · exact blk0 m c t R n
  · exact blk1 m c t _ R _
  · refine (blk2 m c t _ _ _).trans (congrArg (m ((c : Thread nD τ).loc main_arg2)) ?_)
    have hn := n.isLt
    funext a
    apply Fin.ext
    match a with
    | 0 => show n.val / 16 % 32 = n.val / 16; omega
    | 1 => rfl
    | 2 => show 32 * (t.val % 8) + R.val / 16 % 32 = (512 * (t.val % 8) + R.val) / 16; omega
    | 3 => show (16 * (R.val % 16) + n.val % 16) % 256 = 16 * ((512 * (t.val % 8) + R.val) % 16) + n.val % 16; omega
  · exact blk3 m c t R n
  · exact blk4 m c t R n
  · exact blk5 m c t R n
  · exact blk6 m c t n

theorem blks_permutes (t : Fin cfg0.N) : (blks m c t).Permutes := by
  intro r k
  rw [blk10, V_cst]
  show Ideal.ofBits .bf16 (lit0t (S256x256.rowMajor (ix2 r k)).val) = _
  rw [Shape.rowMajor_val_two]
  show Ideal.ofBits .bf16 (lit0t (r.val * 256 + k.val)) = _
  rw [Nat.mul_comm, perm_words]
  split
  · exact Ideal.ofBits_one_bf16
  · exact Ideal.ofBits_zero_bf16

/-- What a grid point writes is its part of `Tail`'s array of results. -/
theorem flushed_eq (t : Fin cfg0.N) : (dats m 0 c).flushed 17 t = ((cfg0.win 17).blk t).view.read (Elt Ideal) (argsOf m c).out := by
  rw [Cert.KernelIdeal.Value.flushed17_A]
  have key := out_block c ⟨ms0_0 t, hs0_0 t, ms0_1 t, hs0_1 t, ms0_2 t, hs0_2 t, ms0_3 t, hs0_3 t, ms0_4 t, hs0_4 t, ms0_5 t, hs0_5 t, ms0_6 t, hs0_6 t, ms0_7 t, hs0_7 t, ms0_8 t, hs0_8 t, ms0_9 t, hs0_9 t, ms0_10 t, hs0_10 t, ms0_11 t, hs0_11 t, ms0_12 t, hs0_12 t, ms0_13 t, hs0_13 t, ms0_14 t, hs0_14 t, ms0_15 t, hs0_15 t, ms0_16 t, hs0_16 t, ms0_17 t, hs0_17 t, scM0_0, Memref.isWhole_whole _, scM0_1, Memref.isWhole_whole _, scM0_2, Memref.isWhole_whole _, scM0_3, Memref.isWhole_whole _⟩ (blks m c t) (grid0.coords t) (blks_permutes m c t)
  refine (congrArg ((cfg0.win 17).cut (grid0.coords t)) key).trans ?_
  obtain ⟨h0, h1, h2⟩ := index17 t
  funext y
  have hy0 : (y 0).val < 1 := (y 0).isLt
  have hy1 : (y 1).val < 512 := (y 1).isLt
  have hy2 : (y 2).val < 1024 := (y 2).isLt
  have hg : (blks m c t).row ⟨(y 1).val, hy1⟩ = (argsOf m c).row (smp t) (pos t ⟨(y 1).val, hy1⟩) := blks_row m c t _
  have e : (win0_17.rect t).emb y = (ix3 (smp t) (pos t ⟨(y 1).val, hy1⟩) ⟨(y 2).val, hy2⟩ : S8x4096x1024.Idx) := by
    refine funext fun a => Fin.ext ?_
    match a with
    | 0 => show win0_17.index t 0 * 1 + 1 * (y 0).val = t.val / 8; omega
    | 1 => show win0_17.index t 1 * 512 + 1 * (y 1).val = 512 * (t.val % 8) + (y 1).val; omega
    | 2 => show win0_17.index t 2 * 1024 + 1 * (y 2).val = (y 2).val; omega
  refine Eq.trans (b := result (blks m c t).w ((blks m c t).row ⟨(y 1).val, hy1⟩) ⟨(y 2).val, hy2⟩) rfl ?_
  rw [blks_w, hg]
  exact (congrArg (argsOf m c).out e).symm

theorem mem_blk (t : Fin cfg0.N) (i : S8x4096x1024.Idx) :
    i ∈ ((cfg0.win 17).blk t).view.set ↔ t.val / 8 = (i 0 : Nat) ∧ t.val % 8 = (i 1 : Nat) / 512 := by
  show i ∈ ((View.whole main_v6).slice (win0_17.rect t)).set ↔ _
  rw [View.set_slice_whole, Rect.mem_set_unit]
  have h0 : (i 0 : Nat) < 8 := (i 0).isLt
  have h1 : (i 1 : Nat) < 4096 := (i 1).isLt
  have h2 : (i 2 : Nat) < 1024 := (i 2).isLt
  obtain ⟨e0, e1, e2⟩ := index17 t
  have hz : win0_17.size 0 = 1 ∧ win0_17.size 1 = 512 ∧ win0_17.size 2 = 1024 := ⟨rfl, rfl, rfl⟩
  have hx : win0_17.xsize (grid0.coords t) 0 = 1 ∧ win0_17.xsize (grid0.coords t) 1 = 512 ∧ win0_17.xsize (grid0.coords t) 2 = 1024 := ⟨rfl, rfl, rfl⟩
  refine ⟨fun h => ?_, fun h a => ?_⟩
  · have a0 : win0_17.index t 0 * win0_17.size 0 ≤ (i 0 : Nat) ∧ (i 0 : Nat) < win0_17.index t 0 * win0_17.size 0 + win0_17.xsize (grid0.coords t) 0 := h 0
    have a1 : win0_17.index t 1 * win0_17.size 1 ≤ (i 1 : Nat) ∧ (i 1 : Nat) < win0_17.index t 1 * win0_17.size 1 + win0_17.xsize (grid0.coords t) 1 := h 1
    rw [e0, hz.1, hx.1] at a0
    rw [e1, hz.2.1, hx.2.1] at a1
    omega
  · match a with
    | 0 =>
      show win0_17.index t 0 * win0_17.size 0 ≤ (i 0 : Nat) ∧ (i 0 : Nat) < win0_17.index t 0 * win0_17.size 0 + win0_17.xsize (grid0.coords t) 0
      rw [e0, hz.1, hx.1]; omega
    | 1 =>
      show win0_17.index t 1 * win0_17.size 1 ≤ (i 1 : Nat) ∧ (i 1 : Nat) < win0_17.index t 1 * win0_17.size 1 + win0_17.xsize (grid0.coords t) 1
      rw [e1, hz.2.1, hx.2.1]; omega
    | 2 =>
      show win0_17.index t 2 * win0_17.size 2 ≤ (i 2 : Nat) ∧ (i 2 : Nat) < win0_17.index t 2 * win0_17.size 2 + win0_17.xsize (grid0.coords t) 2
      rw [e2, hz.2.2, hx.2.2]; omega

theorem cover (i : S8x4096x1024.Idx) : ∃ t : Fin cfg0.N, (cfg0.win 17).flush t = true ∧ i ∈ ((cfg0.win 17).blk t).view.set := by
  have h0 : (i 0 : Nat) < 8 := (i 0).isLt
  have h1 : (i 1 : Nat) < 4096 := (i 1).isLt
  have hN : cfg0.N = 64 := N_0
  refine ⟨⟨8 * (i 0 : Nat) + (i 1 : Nat) / 512, by omega⟩, flush0_17 _, ?_⟩
  rw [mem_blk]
  dsimp only
  omega

theorem final : (dats m 0 c).arrAt 17 cfg0.N = (argsOf m c).out :=
  (dats m 0 c).arrAt_eq_of_cover 17 (argsOf m c).out (fun t _ => flushed_eq m c t) cover

/-- The kernel's run: the result array holds `Tail`'s results, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v6) = (argsOf m c).out
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun _ h c => ⟨(h c).1.trans (final m c), (h c).2⟩) (Cert.KernelIdeal.Value.run_blocks m ρ)

end Cert.KernelIdeal.Post
-- ==== Proof.Plain.lean ====
/-
  THE REFERENCE'S RESULT ARRAY, row by row: its composed terms are `Tail`'s functions of the argument arrays.
-/
module

public import proofs.«01_k».proof.Proof.Row
public import proofs.«01_k».proof.Proof.Gen.ReferenceIdeal.Run
public import Idealize.ShloMosaic.Lib.Pointwise
public import Idealize.ShloMosaic.Lib.IdealHost
public import Idealize.ShloMosaic.Lib.Pipeline.Value

@[expose] public section

set_option maxRecDepth 16384
set_option maxHeartbeats 1000000

noncomputable section

namespace Cert.ReferenceIdeal.Plain

open Idealize.ShloMosaic Idealize.ShloMosaic.TcCoe Idealize.ShloMosaic.Pointwise Idealize.ShloMosaic.StableHlo Idealize.SL.Sem
open Cert.ReferenceIdeal Cert.ReferenceIdeal.Gen Cert.ReferenceIdeal.Value Cert.Tail

variable (V0 : Valuation τ sig (Elt Ideal))

/-- The argument arrays. -/
def argsOf : Arrays where
  x := V0 (Proc.devRef .tc main_arg0)
  attn := V0 (Proc.devRef .tc main_arg1)
  y := V0 (Proc.devRef .tc main_arg2)
  u := V0 (Proc.devRef .tc main_arg3)
  ga := V0 (Proc.devRef .tc main_arg4)
  gs := V0 (Proc.devRef .tc main_arg5)
  md := V0 (Proc.devRef .tc main_arg6)
  d := V0 (Proc.devRef .tc main_arg7)
  gff := V0 (Proc.devRef .tc main_arg8)
  gfin := V0 (Proc.devRef .tc main_arg9)
  wglu := V0 (Proc.devRef .tc main_arg10)
  wa := V0 (Proc.devRef .tc main_arg11)
  ws := V0 (Proc.devRef .tc main_arg12)
  wout := V0 (Proc.devRef .tc main_arg13)
  win := V0 (Proc.devRef .tc main_arg14)
  wff := V0 (Proc.devRef .tc main_arg15)

/-- `1 / (1 + e⁻ᵛ)` is the sigmoid. -/
theorem sig_eq (v : EReal) : Ideal.div (Ideal.ofBits .f32 0x3F800000#32) (Ideal.ofBits .f32 0x3F800000#32 + Ideal.exp (-v)) = Tail.sig v := by
  rw [Ideal.ofBits_one_f32]
  rfl

/-- The scan's output laid out by position and channel. -/
theorem y_apply (X : S32x8x256x256.Idx → EReal) (b : Fin 8) (s : Fin 4096) (k : Fin 512) :
    shapeCast S8x4096x512 (transpose S8x256x16x32x16 [1, 2, 3, 0, 4] (shapeCast S32x8x256x16x16 X shapeCasts_S32x8x256x256_S32x8x256x16x16)
        transposes_S32x8x256x16x16_S8x256x16x32x16_1_2_3_0_4) shapeCasts_S8x256x16x32x16_S8x4096x512 (ix3 b s k)
      = X (ix4 ⟨k.val / 16, by omega⟩ b ⟨s.val / 16, by omega⟩ ⟨16 * (s.val % 16) + k.val % 16, by omega⟩) := by
  have hs := s.isLt
  have hk := k.isLt
  refine (shapeCast_apply (s := S8x256x16x32x16) (t := S8x4096x512) _ _ _
    (ix5 b ⟨s.val / 16, by omega⟩ ⟨s.val % 16, by omega⟩ ⟨k.val / 16, by omega⟩ ⟨k.val % 16, by omega⟩) ?_).trans ?_
  · rw [Shape.rowMajor_val_five, Shape.rowMajor_val_three]
    show (((b.val * 256 + s.val / 16) * 16 + s.val % 16) * 32 + k.val / 16) * 16 + k.val % 16 = (b.val * 4096 + s.val) * 512 + k.val
    omega
  refine Eq.trans (b := shapeCast S32x8x256x16x16 X shapeCasts_S32x8x256x256_S32x8x256x16x16
    (ix5 ⟨k.val / 16, by omega⟩ b ⟨s.val / 16, by omega⟩ ⟨s.val % 16, by omega⟩ ⟨k.val % 16, by omega⟩)) ?_ ?_
  · pointwise []
  refine shapeCast_apply (s := S32x8x256x256) (t := S32x8x256x16x16) _ _ _ _ ?_
  rw [Shape.rowMajor_val_four, Shape.rowMajor_val_five]
  show ((k.val / 16 * 8 + b.val) * 256 + s.val / 16) * 256 + (16 * (s.val % 16) + k.val % 16) = (((k.val / 16 * 8 + b.val) * 256 + s.val / 16) * 16 + s.val % 16) * 16 + k.val % 16
  omega

/-- The attention's output laid out by position and channel. -/
theorem attn_apply (X : S8x4x4096x128.Idx → EReal) (b : Fin 8) (s : Fin 4096) (k : Fin 512) :
    shapeCast S8x4096x512 (transpose S8x4096x4x128 [0, 2, 1, 3] X transposes_S8x4x4096x128_S8x4096x4x128_0_2_1_3) shapeCasts_S8x4096x4x128_S8x4096x512 (ix3 b s k)
      = X (ix4 b ⟨k.val / 128, by omega⟩ s ⟨k.val % 128, by omega⟩) := by
  have hs := s.isLt
  have hk := k.isLt
  refine (shapeCast_apply (s := S8x4096x4x128) (t := S8x4096x512) _ _ _ (ix4 b s ⟨k.val / 128, by omega⟩ ⟨k.val % 128, by omega⟩) ?_).trans ?_
  · rw [Shape.rowMajor_val_four, Shape.rowMajor_val_three]
    show ((b.val * 4096 + s.val) * 4 + k.val / 128) * 128 + k.val % 128 = (b.val * 4096 + s.val) * 512 + k.val
    omega
  · pointwise []

/-- The modulation's row of a sample. -/
theorem v8_apply (b : Fin 8) (n : Fin 6144) : res_main_v8 V0 (ix3 b 0 n) = (argsOf V0).md (ix2 ⟨b.val, by omega⟩ n) := by
  unfold res_main_v8 argsOf
  pointwise []

theorem v20_apply (b : Fin 8) (s : Fin 4096) (k : Fin 512) :
    res_main_v20 V0 (ix3 b s k) = skip ((argsOf V0).row b s).y ((argsOf V0).row b s).u (argsOf V0).weights.d k := by
  unfold skip Arrays.weights Arrays.row argsOf
  refine congrArg₂ (· + ·) (y_apply _ b s k) ?_
  show (mulf (broadcastInDim S8x4096x512 ![0, 1, 2] bcast_S1x1x512_S8x4096x512_0_1_2 (broadcastInDim S1x1x512 ![2] bcast_S512_S1x1x512_2 (shapeCast S512 (V0 (Proc.devRef .tc main_arg7)) shapeCasts_S1x512_S512))) (extf .f32 (V0 (Proc.devRef .tc main_arg3)) bitsLt_bf16_f32) : FVec Ideal S8x4096x512 .f32) (ix3 b s k) = _
  pointwise []

/-- GELU with its cube multiplied the other way round. -/
theorem gel_eq (w : EReal) : w * (Ideal.ofBits .f32 0x3F000000#32 * (1 + Ideal.tanh (Ideal.ofBits .f32 0x3F4C422A#32 *
    (w + Ideal.ofBits .f32 0x3D372713#32 * (w * w * w))))) = gel w := by
  unfold gel bits
  rw [Ideal.ofBits_one_f32, mul_comm (w * w) w]

theorem v35_apply (b : Fin 8) (s : Fin 4096) (n : Fin 1024) :
    res_main_v35 V0 (ix3 b s n)
      = mv (fun i => gel (skip ((argsOf V0).row b s).y ((argsOf V0).row b s).u (argsOf V0).weights.d i)) (argsOf V0).weights.wglu n := by
  unfold res_main_v35 mv
  pointwise []
  simp only [v20_apply, gel_eq]
  rfl

theorem v58_apply (b : Fin 8) (s : Fin 4096) (n : Fin 1024) :
    res_main_v58 V0 (ix3 b s n) = h1 (argsOf V0).weights ((argsOf V0).row b s) n := by
  unfold res_main_v58 h1 resid merged merge glu mv
  pointwise []
  simp only [v8_apply, v35_apply]
  rfl

theorem v80_apply (b : Fin 8) (s : Fin 4096) (n : Fin 5632) :
    res_main_v80 V0 (ix3 b s n) = mv (n2 (argsOf V0).weights ((argsOf V0).row b s)) (argsOf V0).weights.win n := by
  unfold res_main_v80 mv n2 modulated Tail.norm
  pointwise []
  simp only [v8_apply, v58_apply]
  rfl

theorem v89_apply (b : Fin 8) (s : Fin 4096) (n : Fin 1024) :
    res_main_v89 V0 (ix3 b s n) = h2 (argsOf V0).weights ((argsOf V0).row b s) n := by
  unfold res_main_v89 res_main_v81 h2 resid act mv
  pointwise []
  simp only [v8_apply, v58_apply, v80_apply]
  rfl

theorem launch_args (m : (ℓ : Loc nD τ sig) → Buf (Elt Ideal) ℓ) (c : Dev nD) : argsOf (launchContents m c) = ⟨m ((c.tc : Thread nD τ).loc main_arg0), m ((c.tc : Thread nD τ).loc main_arg1), m ((c.tc : Thread nD τ).loc main_arg2), m ((c.tc : Thread nD τ).loc main_arg3), m ((c.tc : Thread nD τ).loc main_arg4), m ((c.tc : Thread nD τ).loc main_arg5), m ((c.tc : Thread nD τ).loc main_arg6), m ((c.tc : Thread nD τ).loc main_arg7), m ((c.tc : Thread nD τ).loc main_arg8), m ((c.tc : Thread nD τ).loc main_arg9), m ((c.tc : Thread nD τ).loc main_arg10), m ((c.tc : Thread nD τ).loc main_arg11), m ((c.tc : Thread nD τ).loc main_arg12), m ((c.tc : Thread nD τ).loc main_arg13), m ((c.tc : Thread nD τ).loc main_arg14), m ((c.tc : Thread nD τ).loc main_arg15)⟩ := rfl

/-- The reference's run: the result array holds `Tail`'s results, the arguments are unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v102) = (argsOf (launchContents m c)).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun _ h c => ⟨(h c).1.trans ?_, (h c).2⟩) (Cert.ReferenceIdeal.Value.run m ρ)
  generalize launchContents m c = V0
  funext j
  idx_vars j
  show _ = result (argsOf V0).weights ((argsOf V0).row _ _) _
  unfold result Tail.norm
  pointwise []
  simp only [v89_apply]
  rfl

end Cert.ReferenceIdeal.Plain
-- ==== Proof.InRow.lean ====
/-
  ONE ROW OF THE INPUT PROJECTION. A position's row is normed, scaled and shifted by the modulation, and multiplied by the projection's
  matrix; its parts are the values by head pairs, the scan's input and the two gates behind a sigmoid. Kernel and reference are both
  read as these functions.
-/
module

public import proofs.«01_k».proof.Proof.Row

@[expose] public section

noncomputable section

namespace Cert.Project

open Idealize.ShloMosaic Idealize.ShloMosaic.Pointwise Cert.Tail

/-- The argument arrays the four results depend on. -/
structure Arrays where
  x : (⟨3, ![8, 4096, 1024]⟩ : Shape).Idx → EReal
  md : Arr 16 6144
  g : Arr 1 1024
  win : (⟨3, ![1, 1024, 4096]⟩ : Shape).Idx → EReal

variable (A : Arrays)

/-- A position's row of `x`. -/
def Arrays.xrow (b : Fin 8) (s : Fin 4096) : Row 1024 := fun n => A.x (ix3 b s n)
/-- Part `p` of a sample's modulation. -/
def Arrays.part (b : Fin 8) (p : Fin 6) : Row 1024 := fun n => A.md (ix2 ⟨b.val, by omega⟩ ⟨1024 * p.val + n.val, by omega⟩)
/-- The norm's weight. -/
def Arrays.gain : Row 1024 := fun n => A.g (ix2 0 n)
/-- The modulated norm of a position's row. -/
def Arrays.row (b : Fin 8) (s : Fin 4096) : Row 1024 := modulated A.gain (A.part b 1) (A.part b 0) (A.xrow b s)
/-- The projection's matrix. -/
def Arrays.mat : Arr 1024 4096 := fun i => A.win (ix3 0 (i 0) (i 1))
/-- A position's projected row. -/
def Arrays.proj (b : Fin 8) (s : Fin 4096) : Row 4096 := mv (A.row b s) A.mat

/-- The values, by head pairs. -/
def Arrays.v : (⟨4, ![8, 4, 4096, 128]⟩ : Shape).Idx → EReal := fun i =>
  A.proj (i 0) (i 2) ⟨1024 + 128 * (i 1).val + (i 3).val, by
    have h1 : (i 1).val < 4 := (i 1).isLt
    have h3 : (i 3).val < 128 := (i 3).isLt
    omega⟩
/-- The scan's input. -/
def Arrays.u : (⟨3, ![8, 4096, 512]⟩ : Shape).Idx → EReal := fun i =>
  A.proj (i 0) (i 1) ⟨1536 + (i 2).val, by
    have h2 : (i 2).val < 512 := (i 2).isLt
    omega⟩
/-- The attention's gate. -/
def Arrays.ga : (⟨3, ![8, 4096, 1024]⟩ : Shape).Idx → EReal := fun i =>
  sig (A.proj (i 0) (i 1) ⟨2048 + (i 2).val, by
    have h2 : (i 2).val < 1024 := (i 2).isLt
    omega⟩)
/-- The scan's gate. -/
def Arrays.gs : (⟨3, ![8, 4096, 1024]⟩ : Shape).Idx → EReal := fun i =>
  sig (A.proj (i 0) (i 1) ⟨3072 + (i 2).val, by
    have h2 : (i 2).val < 1024 := (i 2).isLt
    omega⟩)

end Cert.Project
end
-- ==== Proof.InStart.lean ====
/-
  THE INPUT PROJECTION'S START. What the arrays hold when the pipelined kernel begins, and the frame claim's statement from a run of it.
-/
module

public import proofs.«01_k».proof.Proof.Gen.Kernel2Ideal.Launch
public import proofs.«01_k».proof.Proof.Gen.Kernel2Ideal.Skeleton
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel2Ideal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the kernel begins: after the host's operations. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17]) (fun b => m (c, b)) b

/-- No host operation allocates. -/
theorem host_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] : List (List (HloOp τ sig (Elt F)))).Forall fun ops => ops.Forall fun op => op.fresh = ∅ := by
  simp only [List.Forall]; repeat' constructor

set_option maxHeartbeats 800000 in
/-- The program is the host's operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub⟩)
    host_fresh main_chain

set_option maxHeartbeats 4000000 in
/-- The host's operations write none of the argument arrays. -/
theorem V_args (c : Dev nD) :
    V m c main_arg0 = m ((c : Thread nD τ).loc main_arg0)
      ∧ V m c main_arg1 = m ((c : Thread nD τ).loc main_arg1)
      ∧ V m c main_arg2 = m ((c : Thread nD τ).loc main_arg2)
      ∧ V m c main_arg3 = m ((c : Thread nD τ).loc main_arg3)
      ∧ V m c main_arg4 = m ((c : Thread nD τ).loc main_arg4)
      ∧ V m c main_arg5 = m ((c : Thread nD τ).loc main_arg5)
      ∧ V m c main_arg6 = m ((c : Thread nD τ).loc main_arg6)
      ∧ V m c main_arg7 = m ((c : Thread nD τ).loc main_arg7)
      ∧ V m c main_arg8 = m ((c : Thread nD τ).loc main_arg8)
      ∧ V m c main_arg9 = m ((c : Thread nD τ).loc main_arg9)
      ∧ V m c main_arg10 = m ((c : Thread nD τ).loc main_arg10)
      ∧ V m c main_arg11 = m ((c : Thread nD τ).loc main_arg11)
      ∧ V m c main_arg12 = m ((c : Thread nD τ).loc main_arg12)
      ∧ V m c main_arg13 = m ((c : Thread nD τ).loc main_arg13)
      ∧ V m c main_arg14 = m ((c : Thread nD τ).loc main_arg14)
      ∧ V m c main_arg15 = m ((c : Thread nD τ).loc main_arg15)
      ∧ V m c main_arg16 = m ((c : Thread nD τ).loc main_arg16) := by
  refine ⟨?_, ?_, ?_, ?_, ?_, ?_, ?_, ?_, ?_, ?_, ?_, ?_, ?_, ?_, ?_, ?_, ?_⟩
  all_goals
    refine StableHlo.after_of_forall_not_mem _ _ (List.forall_iff_forall_mem.mp ?_)
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

set_option maxHeartbeats 2160000 in
/-- A run that leaves the kernel's arrays as described leaves the argument arrays as they were. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((dats 0 c).arrAt_in 0 rfl _).trans ((hA c 0).trans (V_args m c).1)),
      ((h c).2 main_arg1 (Pipeline.mem_restRefs_of main_arg1 (by decide) (by decide))).trans (V_args m c).2.1,
      ((h c).2 main_arg2 (Pipeline.mem_restRefs_of main_arg2 (by decide) (by decide))).trans (V_args m c).2.2.1,
      ((h c).2 main_arg3 (Pipeline.mem_restRefs_of main_arg3 (by decide) (by decide))).trans (V_args m c).2.2.2.1,
      ((h c).2 main_arg4 (Pipeline.mem_restRefs_of main_arg4 (by decide) (by decide))).trans (V_args m c).2.2.2.2.1,
      ((h c).2 main_arg5 (Pipeline.mem_restRefs_of main_arg5 (by decide) (by decide))).trans (V_args m c).2.2.2.2.2.1,
      ((h c).2 main_arg6 (Pipeline.mem_restRefs_of main_arg6 (by decide) (by decide))).trans (V_args m c).2.2.2.2.2.2.1,
      ((h c).2 main_arg7 (Pipeline.mem_restRefs_of main_arg7 (by decide) (by decide))).trans (V_args m c).2.2.2.2.2.2.2.1,
      ((h c).2 main_arg8 (Pipeline.mem_restRefs_of main_arg8 (by decide) (by decide))).trans (V_args m c).2.2.2.2.2.2.2.2.1,
      ((h c).2 main_arg9 (Pipeline.mem_restRefs_of main_arg9 (by decide) (by decide))).trans (V_args m c).2.2.2.2.2.2.2.2.2.1,
      ((h c).2 main_arg10 (Pipeline.mem_restRefs_of main_arg10 (by decide) (by decide))).trans (V_args m c).2.2.2.2.2.2.2.2.2.2.1,
      ((h c).2 main_arg11 (Pipeline.mem_restRefs_of main_arg11 (by decide) (by decide))).trans (V_args m c).2.2.2.2.2.2.2.2.2.2.2.1,
      ((h c).2 main_arg12 (Pipeline.mem_restRefs_of main_arg12 (by decide) (by decide))).trans (V_args m c).2.2.2.2.2.2.2.2.2.2.2.2.1,
      ((h c).2 main_arg13 (Pipeline.mem_restRefs_of main_arg13 (by decide) (by decide))).trans (V_args m c).2.2.2.2.2.2.2.2.2.2.2.2.2.1,
      ((h c).2 main_arg14 (Pipeline.mem_restRefs_of main_arg14 (by decide) (by decide))).trans (V_args m c).2.2.2.2.2.2.2.2.2.2.2.2.2.2.1,
      ((h c).2 main_arg15 (Pipeline.mem_restRefs_of main_arg15 (by decide) (by decide))).trans (V_args m c).2.2.2.2.2.2.2.2.2.2.2.2.2.2.2.1,
      ((h c).2 main_arg16 (Pipeline.mem_restRefs_of main_arg16 (by decide) (by decide))).trans (V_args m c).2.2.2.2.2.2.2.2.2.2.2.2.2.2.2.2⟩) h

end Cert.Kernel2Ideal.Frame

end
-- ==== Proof.InRun.lean ====
/-
  ONE GRID POINT OF THE INPUT PROJECTION, RUN. On staging buffers that hold the input blocks the body ends with the inputs as they
  were and every output buffer overwritten piece by piece; the pieces are found by running it.
-/
module

public import proofs.«01_k».proof.Proof.InStart

@[expose] public section

set_option maxRecDepth 16384

noncomputable section

namespace Cert.Kernel2Ideal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces the body writes into each output's buffer, the last written first. -/
structure Pieces (F : FTy → Type) [FloatOps F] where
  w19 : List (View.Piece (Elt F) S1x4x1024x128 .bf16)
  w20 : List (View.Piece (Elt F) S1x4x512x256 .bf16)
  w21 : List (View.Piece (Elt F) S1x4x1024x128 .bf16)
  w22 : List (View.Piece (Elt F) S1x1024x512 .bf16)
  w23 : List (View.Piece (Elt F) S32x1x64x256 .bf16)
  w24 : List (View.Piece (Elt F) S1x1024x1024 .bf16)
  w25 : List (View.Piece (Elt F) S1x1024x1024 .bf16)
  w26 : List (View.Piece (Elt F) S16x1024 .bf16)
  w27 : List (View.Piece (Elt F) S16x1024 .bf16)
  w28 : List (View.Piece (Elt F) S16x1024 .bf16)
  w29 : List (View.Piece (Elt F) S32x1024 .bf16)
  w30 : List (View.Piece (Elt F) S32x5632 .bf16)
  w31 : List (View.Piece (Elt F) S176x1024 .bf16)
  w32 : List (View.Piece (Elt F) S1x256x256 .bf16)
  w33 : List (View.Piece (Elt F) S1x256x256 .bf16)
  w34 : List (View.Piece (Elt F) S1x256x256 .bf16)
  w35 : List (View.Piece (Elt F) S1x8x256 .f32)

set_option maxHeartbeats 60000000 in
/-- The body's run and the pieces it writes. -/
noncomputable def bodyRun (c : Dev nD) (i : grid0.Coords) (arg2 : Memref sig .tc .vmem S1x1024x1024 .f32) (harg2 : arg2.IsWhole) (arg3 : Memref sig .tc .vmem S1x1x6144 .f32) (harg3 : arg3.IsWhole) (arg4 : Memref sig .tc .vmem S1x1024 .f32) (harg4 : arg4.IsWhole) (arg5 : Memref sig .tc .vmem S1024x4096 .bf16) (harg5 : arg5.IsWhole) (arg6 : Memref sig .tc .vmem S1024x128 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S256x256 .bf16) (harg9 : arg9.IsWhole) (arg10 : Memref sig .tc .vmem S16x1024 .f32) (harg10 : arg10.IsWhole) (arg11 : Memref sig .tc .vmem S16x1024 .f32) (harg11 : arg11.IsWhole) (arg12 : Memref sig .tc .vmem S16x1024 .f32) (harg12 : arg12.IsWhole) (arg13 : Memref sig .tc .vmem S32x1024 .f32) (harg13 : arg13.IsWhole) (arg14 : Memref sig .tc .vmem S32x5632 .f32) (harg14 : arg14.IsWhole) (arg15 : Memref sig .tc .vmem S176x1024 .f32) (harg15 : arg15.IsWhole) (arg16 : Memref sig .tc .vmem S1x128x128 .f32) (harg16 : arg16.IsWhole) (arg17 : Memref sig .tc .vmem S1x128x32 .f32) (harg17 : arg17.IsWhole) (arg18 : Memref sig .tc .vmem S1x128x32 .f32) (harg18 : arg18.IsWhole) (arg19 : Memref sig .tc .vmem S16x256 .bf16) (harg19 : arg19.IsWhole) (arg20 : Memref sig .tc .vmem S4x128x256 .bf16) (harg20 : arg20.IsWhole) (arg21 : Memref sig .tc .vmem S1x4x1024x128 .bf16) (harg21 : arg21.IsWhole) (arg22 : Memref sig .tc .vmem S1x4x512x256 .bf16) (harg22 : arg22.IsWhole) (arg23 : Memref sig .tc .vmem S1x4x1024x128 .bf16) (harg23 : arg23.IsWhole) (arg24 : Memref sig .tc .vmem S1x1024x512 .bf16) (harg24 : arg24.IsWhole) (arg25 : Memref sig .tc .vmem S32x1x64x256 .bf16) (harg25 : arg25.IsWhole) (arg26 : Memref sig .tc .vmem S1x1024x1024 .bf16) (harg26 : arg26.IsWhole) (arg27 : Memref sig .tc .vmem S1x1024x1024 .bf16) (harg27 : arg27.IsWhole) (arg28 : Memref sig .tc .vmem S16x1024 .bf16) (harg28 : arg28.IsWhole) (arg29 : Memref sig .tc .vmem S16x1024 .bf16) (harg29 : arg29.IsWhole) (arg30 : Memref sig .tc .vmem S16x1024 .bf16) (harg30 : arg30.IsWhole) (arg31 : Memref sig .tc .vmem S32x1024 .bf16) (harg31 : arg31.IsWhole) (arg32 : Memref sig .tc .vmem S32x5632 .bf16) (harg32 : arg32.IsWhole) (arg33 : Memref sig .tc .vmem S176x1024 .bf16) (harg33 : arg33.IsWhole) (arg34 : Memref sig .tc .vmem S1x256x256 .bf16) (harg34 : arg34.IsWhole) (arg35 : Memref sig .tc .vmem S1x256x256 .bf16) (harg35 : arg35.IsWhole) (arg36 : Memref sig .tc .vmem S1x256x256 .bf16) (harg36 : arg36.IsWhole) (arg37 : Memref sig .tc .vmem S1x8x256 .f32) (harg37 : arg37.IsWhole)
    (x0 : Vec F S1x1024x1024 .f32) (x1 : Vec F S1x1x6144 .f32) (x2 : Vec F S1x1024 .f32) (x3 : Vec F S1024x4096 .bf16) (x4 : Vec F S1024x128 .f32) (x5 : Vec F S1024x128 .f32) (x6 : Vec F S1024x128 .f32) (x7 : Vec F S256x256 .bf16) (x8 : Vec F S16x1024 .f32) (x9 : Vec F S16x1024 .f32) (x10 : Vec F S16x1024 .f32) (x11 : Vec F S32x1024 .f32) (x12 : Vec F S32x5632 .f32) (x13 : Vec F S176x1024 .f32) (x14 : Vec F S1x128x128 .f32) (x15 : Vec F S1x128x32 .f32) (x16 : Vec F S1x128x32 .f32) (x17 : Vec F S16x256 .bf16) (x18 : Vec F S4x128x256 .bf16) :
    { L : Pieces F //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L.w19) ∗ (∃ f, arg22.view.loc (c : Thread nD τ) ↦[arg22.view.set]{fullShare} arg22.view.writes (Elt F) f L.w20) ∗ (∃ f, arg23.view.loc (c : Thread nD τ) ↦[arg23.view.set]{fullShare} arg23.view.writes (Elt F) f L.w21) ∗ (∃ f, arg24.view.loc (c : Thread nD τ) ↦[arg24.view.set]{fullShare} arg24.view.writes (Elt F) f L.w22) ∗ (∃ f, arg25.view.loc (c : Thread nD τ) ↦[arg25.view.set]{fullShare} arg25.view.writes (Elt F) f L.w23) ∗ (∃ f, arg26.view.loc (c : Thread nD τ) ↦[arg26.view.set]{fullShare} arg26.view.writes (Elt F) f L.w24) ∗ (∃ f, arg27.view.loc (c : Thread nD τ) ↦[arg27.view.set]{fullShare} arg27.view.writes (Elt F) f L.w25) ∗ (∃ f, arg28.view.loc (c : Thread nD τ) ↦[arg28.view.set]{fullShare} arg28.view.writes (Elt F) f L.w26) ∗ (∃ f, arg29.view.loc (c : Thread nD τ) ↦[arg29.view.set]{fullShare} arg29.view.writes (Elt F) f L.w27) ∗ (∃ f, arg30.view.loc (c : Thread nD τ) ↦[arg30.view.set]{fullShare} arg30.view.writes (Elt F) f L.w28) ∗ (∃ f, arg31.view.loc (c : Thread nD τ) ↦[arg31.view.set]{fullShare} arg31.view.writes (Elt F) f L.w29) ∗ (∃ f, arg32.view.loc (c : Thread nD τ) ↦[arg32.view.set]{fullShare} arg32.view.writes (Elt F) f L.w30) ∗ (∃ f, arg33.view.loc (c : Thread nD τ) ↦[arg33.view.set]{fullShare} arg33.view.writes (Elt F) f L.w31) ∗ (∃ f, arg34.view.loc (c : Thread nD τ) ↦[arg34.view.set]{fullShare} arg34.view.writes (Elt F) f L.w32) ∗ (∃ f, arg35.view.loc (c : Thread nD τ) ↦[arg35.view.set]{fullShare} arg35.view.writes (Elt F) f L.w33) ∗ (∃ f, arg36.view.loc (c : Thread nD τ) ↦[arg36.view.set]{fullShare} arg36.view.writes (Elt F) f L.w34) ∗ (∃ f, arg37.view.loc (c : Thread nD τ) ↦[arg37.view.set]{fullShare} arg37.view.writes (Elt F) f L.w35)) -∗ K ⟨⟩))
          ⊢ wp frame (wpE (defs₀ (F := F)) Variants.none c none) E (cc0_input_projection i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37) K } := by
  refine ⟨⟨?_, ?_, ?_, ?_, ?_, ?_, ?_, ?_, ?_, ?_, ?_, ?_, ?_, ?_, ?_, ?_, ?_⟩, fun E K => ?run⟩
  case run =>
    simp only [cc0_input_projection_eq_skeleton]; unfold cc0_input_projection_skel
    simp only [k0_part159_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part160_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part161_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    iexists _; iexact H35

end Cert.Kernel2Ideal.Frame

end
-- ==== Proof.InFrame.lean ====
/-
  THE INPUT PROJECTION'S FRAME. Every output block is overwritten whole at every grid point, so the kernel runs to its end from any
  start, leaves the argument arrays as they were and every counter at zero.
-/
module

public import proofs.«01_k».proof.Proof.InRun

@[expose] public section

set_option maxRecDepth 16384

noncomputable section

namespace Cert.Kernel2Ideal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at a grid point. -/
abbrev runAt (c : Dev nD) (t : Fin cfg0.N) :=
  bodyRun (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (st0_18 t) (hstage0_18 ((cfg0.slots t 18).cast nbuf0_18)) (st0_19 t) (hstage0_19 ((cfg0.slots t 19).cast nbuf0_19)) (st0_20 t) (hstage0_20 ((cfg0.slots t 20).cast nbuf0_20)) (st0_21 t) (hstage0_21 ((cfg0.slots t 21).cast nbuf0_21)) (st0_22 t) (hstage0_22 ((cfg0.slots t 22).cast nbuf0_22)) (st0_23 t) (hstage0_23 ((cfg0.slots t 23).cast nbuf0_23)) (st0_24 t) (hstage0_24 ((cfg0.slots t 24).cast nbuf0_24)) (st0_25 t) (hstage0_25 ((cfg0.slots t 25).cast nbuf0_25)) (st0_26 t) (hstage0_26 ((cfg0.slots t 26).cast nbuf0_26)) (st0_27 t) (hstage0_27 ((cfg0.slots t 27).cast nbuf0_27)) (st0_28 t) (hstage0_28 ((cfg0.slots t 28).cast nbuf0_28)) (st0_29 t) (hstage0_29 ((cfg0.slots t 29).cast nbuf0_29)) (st0_30 t) (hstage0_30 ((cfg0.slots t 30).cast nbuf0_30)) (st0_31 t) (hstage0_31 ((cfg0.slots t 31).cast nbuf0_31)) (st0_32 t) (hstage0_32 ((cfg0.slots t 32).cast nbuf0_32)) (st0_33 t) (hstage0_33 ((cfg0.slots t 33).cast nbuf0_33)) (st0_34 t) (hstage0_34 ((cfg0.slots t 34).cast nbuf0_34)) (st0_35 t) (hstage0_35 ((cfg0.slots t 35).cast nbuf0_35)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

theorem cover19 (c : Dev nD) (t : Fin cfg0.N) (y : S1x4x1024x128.Idx) : ∃ pc ∈ (runAt m c t).1.w19, y ∈ pc.1.set :=
  View.cover_of_tiledL (runAt m c t).1.w19 S1x1x512x128.size (by sl_kernel_rfl) y
theorem cover20 (c : Dev nD) (t : Fin cfg0.N) (y : S1x4x512x256.Idx) : ∃ pc ∈ (runAt m c t).1.w20, y ∈ pc.1.set :=
  View.cover_of_tiledL (runAt m c t).1.w20 S1x1x128x256.size (by sl_kernel_rfl) y
theorem cover21 (c : Dev nD) (t : Fin cfg0.N) (y : S1x4x1024x128.Idx) : ∃ pc ∈ (runAt m c t).1.w21, y ∈ pc.1.set :=
  View.cover_of_tiledL (runAt m c t).1.w21 S1x1x512x128.size (by sl_kernel_rfl) y
theorem cover22 (c : Dev nD) (t : Fin cfg0.N) (y : S1x1024x512.Idx) : ∃ pc ∈ (runAt m c t).1.w22, y ∈ pc.1.set :=
  View.cover_of_tiledL (runAt m c t).1.w22 S1x512x512.size (by sl_kernel_rfl) y
theorem cover23 (c : Dev nD) (t : Fin cfg0.N) (y : S32x1x64x256.Idx) : ∃ pc ∈ (runAt m c t).1.w23, y ∈ pc.1.set :=
  View.cover_of_tiledL (runAt m c t).1.w23 S1x1x16x128.size (by sl_kernel_rfl) y
theorem cover24 (c : Dev nD) (t : Fin cfg0.N) (y : S1x1024x1024.Idx) : ∃ pc ∈ (runAt m c t).1.w24, y ∈ pc.1.set :=
  View.cover_of_tiledL (runAt m c t).1.w24 S1x512x1024.size (by sl_kernel_rfl) y
theorem cover25 (c : Dev nD) (t : Fin cfg0.N) (y : S1x1024x1024.Idx) : ∃ pc ∈ (runAt m c t).1.w25, y ∈ pc.1.set :=
  View.cover_of_tiledL (runAt m c t).1.w25 S1x512x1024.size (by sl_kernel_rfl) y
theorem cover26 (c : Dev nD) (t : Fin cfg0.N) (y : S16x1024.Idx) : ∃ pc ∈ (runAt m c t).1.w26, y ∈ pc.1.set :=
  View.cover_of_tiledL (runAt m c t).1.w26 S16x1024.size (by sl_kernel_rfl) y
theorem cover27 (c : Dev nD) (t : Fin cfg0.N) (y : S16x1024.Idx) : ∃ pc ∈ (runAt m c t).1.w27, y ∈ pc.1.set :=
  View.cover_of_tiledL (runAt m c t).1.w27 S16x1024.size (by sl_kernel_rfl) y
theorem cover28 (c : Dev nD) (t : Fin cfg0.N) (y : S16x1024.Idx) : ∃ pc ∈ (runAt m c t).1.w28, y ∈ pc.1.set :=
  View.cover_of_tiledL (runAt m c t).1.w28 S16x1024.size (by sl_kernel_rfl) y
theorem cover29 (c : Dev nD) (t : Fin cfg0.N) (y : S32x1024.Idx) : ∃ pc ∈ (runAt m c t).1.w29, y ∈ pc.1.set :=
  View.cover_of_tiledL (runAt m c t).1.w29 S32x1024.size (by sl_kernel_rfl) y
theorem cover30 (c : Dev nD) (t : Fin cfg0.N) (y : S32x5632.Idx) : ∃ pc ∈ (runAt m c t).1.w30, y ∈ pc.1.set :=
  View.cover_of_tiledL (runAt m c t).1.w30 S32x5632.size (by sl_kernel_rfl) y
theorem cover31 (c : Dev nD) (t : Fin cfg0.N) (y : S176x1024.Idx) : ∃ pc ∈ (runAt m c t).1.w31, y ∈ pc.1.set :=
  View.cover_of_tiledL (runAt m c t).1.w31 S176x1024.size (by sl_kernel_rfl) y
theorem cover32 (c : Dev nD) (t : Fin cfg0.N) (y : S1x256x256.Idx) : ∃ pc ∈ (runAt m c t).1.w32, y ∈ pc.1.set :=
  View.cover_of_tiledL (runAt m c t).1.w32 S1x16x128.size (by sl_kernel_rfl) y
theorem cover33 (c : Dev nD) (t : Fin cfg0.N) (y : S1x256x256.Idx) : ∃ pc ∈ (runAt m c t).1.w33, y ∈ pc.1.set :=
  View.cover_of_tiledL (runAt m c t).1.w33 S1x256x256.size (by sl_kernel_rfl) y
theorem cover34 (c : Dev nD) (t : Fin cfg0.N) (y : S1x256x256.Idx) : ∃ pc ∈ (runAt m c t).1.w34, y ∈ pc.1.set :=
  View.cover_of_tiledL (runAt m c t).1.w34 S1x256x256.size (by sl_kernel_rfl) y
theorem cover35 (c : Dev nD) (t : Fin cfg0.N) (y : S1x8x256.Idx) : ∃ pc ∈ (runAt m c t).1.w35, y ∈ pc.1.set :=
  View.cover_of_tiledL (runAt m c t).1.w35 S1x8x256.size (by sl_kernel_rfl) y

/-- What a list of pieces that covers a buffer leaves in it. -/
def left {s : Shape} {e : EltTy} (L : List (View.Piece (Elt F) s e)) : Vec F s e := View.canon L

/-- The pipeline's proof data: the inputs' buffers keep their blocks, the outputs' hold what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => left (runAt m c t).1.w19
    | ⟨20, _⟩ => left (runAt m c t).1.w20
    | ⟨21, _⟩ => left (runAt m c t).1.w21
    | ⟨22, _⟩ => left (runAt m c t).1.w22
    | ⟨23, _⟩ => left (runAt m c t).1.w23
    | ⟨24, _⟩ => left (runAt m c t).1.w24
    | ⟨25, _⟩ => left (runAt m c t).1.w25
    | ⟨26, _⟩ => left (runAt m c t).1.w26
    | ⟨27, _⟩ => left (runAt m c t).1.w27
    | ⟨28, _⟩ => left (runAt m c t).1.w28
    | ⟨29, _⟩ => left (runAt m c t).1.w29
    | ⟨30, _⟩ => left (runAt m c t).1.w30
    | ⟨31, _⟩ => left (runAt m c t).1.w31
    | ⟨32, _⟩ => left (runAt m c t).1.w32
    | ⟨33, _⟩ => left (runAt m c t).1.w33
    | ⟨34, _⟩ => left (runAt m c t).1.w34
    | ⟨35, _⟩ => left (runAt m c t).1.w35
    | ⟨_ + 36, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = left (runAt m c t).1.w19 := by dsimp only [dats]
theorem after20 (c : Dev nD) (t : Fin cfg0.N) : (dats m 0 c).after 20 t = left (runAt m c t).1.w20 := by dsimp only [dats]
theorem after21 (c : Dev nD) (t : Fin cfg0.N) : (dats m 0 c).after 21 t = left (runAt m c t).1.w21 := by dsimp only [dats]
theorem after22 (c : Dev nD) (t : Fin cfg0.N) : (dats m 0 c).after 22 t = left (runAt m c t).1.w22 := by dsimp only [dats]
theorem after23 (c : Dev nD) (t : Fin cfg0.N) : (dats m 0 c).after 23 t = left (runAt m c t).1.w23 := by dsimp only [dats]
theorem after24 (c : Dev nD) (t : Fin cfg0.N) : (dats m 0 c).after 24 t = left (runAt m c t).1.w24 := by dsimp only [dats]
theorem after25 (c : Dev nD) (t : Fin cfg0.N) : (dats m 0 c).after 25 t = left (runAt m c t).1.w25 := by dsimp only [dats]
theorem after26 (c : Dev nD) (t : Fin cfg0.N) : (dats m 0 c).after 26 t = left (runAt m c t).1.w26 := by dsimp only [dats]
theorem after27 (c : Dev nD) (t : Fin cfg0.N) : (dats m 0 c).after 27 t = left (runAt m c t).1.w27 := by dsimp only [dats]
theorem after28 (c : Dev nD) (t : Fin cfg0.N) : (dats m 0 c).after 28 t = left (runAt m c t).1.w28 := by dsimp only [dats]
theorem after29 (c : Dev nD) (t : Fin cfg0.N) : (dats m 0 c).after 29 t = left (runAt m c t).1.w29 := by dsimp only [dats]
theorem after30 (c : Dev nD) (t : Fin cfg0.N) : (dats m 0 c).after 30 t = left (runAt m c t).1.w30 := by dsimp only [dats]
theorem after31 (c : Dev nD) (t : Fin cfg0.N) : (dats m 0 c).after 31 t = left (runAt m c t).1.w31 := by dsimp only [dats]
theorem after32 (c : Dev nD) (t : Fin cfg0.N) : (dats m 0 c).after 32 t = left (runAt m c t).1.w32 := by dsimp only [dats]
theorem after33 (c : Dev nD) (t : Fin cfg0.N) : (dats m 0 c).after 33 t = left (runAt m c t).1.w33 := by dsimp only [dats]
theorem after34 (c : Dev nD) (t : Fin cfg0.N) : (dats m 0 c).after 34 t = left (runAt m c t).1.w34 := by dsimp only [dats]
theorem after35 (c : Dev nD) (t : Fin cfg0.N) : (dats m 0 c).after 35 t = left (runAt m c t).1.w35 := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]; try rfl) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]; try rfl) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]; try rfl) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]; try rfl) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]; try rfl) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]; try rfl) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]; try rfl) t d).trans
    (by unfold Dat.fetched Dat.blockOf iblk; rw [A_eq]; try rfl)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t))

set_option maxHeartbeats 8000000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14, after15, after16, after17, after18, after19, after20, after21, after22, after23, after24, after25, after26, after27, after28, after29, after30, after31, after32, after33, after34, after35]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((runAt m c t).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩, ⟨%e35, H35⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_eq_canon _ _ _ (cover19 m c t)
  isplitl [H20]
  · unfold owns; iexists _; isplitr
    swap; · iexact H20
    ipureintro; exact View.read_writes_eq_canon _ _ _ (cover20 m c t)
  isplitl [H21]
  · unfold owns; iexists _; isplitr
    swap; · iexact H21
    ipureintro; exact View.read_writes_eq_canon _ _ _ (cover21 m c t)
  isplitl [H22]
  · unfold owns; iexists _; isplitr
    swap; · iexact H22
    ipureintro; exact View.read_writes_eq_canon _ _ _ (cover22 m c t)
  isplitl [H23]
  · unfold owns; iexists _; isplitr
    swap; · iexact H23
    ipureintro; exact View.read_writes_eq_canon _ _ _ (cover23 m c t)
  isplitl [H24]
  · unfold owns; iexists _; isplitr
    swap; · iexact H24
    ipureintro; exact View.read_writes_eq_canon _ _ _ (cover24 m c t)
  isplitl [H25]
  · unfold owns; iexists _; isplitr
    swap; · iexact H25
    ipureintro; exact View.read_writes_eq_canon _ _ _ (cover25 m c t)
  isplitl [H26]
  · unfold owns; iexists _; isplitr
    swap; · iexact H26
    ipureintro; exact View.read_writes_eq_canon _ _ _ (cover26 m c t)
  isplitl [H27]
  · unfold owns; iexists _; isplitr
    swap; · iexact H27
    ipureintro; exact View.read_writes_eq_canon _ _ _ (cover27 m c t)
  isplitl [H28]
  · unfold owns; iexists _; isplitr
    swap; · iexact H28
    ipureintro; exact View.read_writes_eq_canon _ _ _ (cover28 m c t)
  isplitl [H29]
  · unfold owns; iexists _; isplitr
    swap; · iexact H29
    ipureintro; exact View.read_writes_eq_canon _ _ _ (cover29 m c t)
  isplitl [H30]
  · unfold owns; iexists _; isplitr
    swap; · iexact H30
    ipureintro; exact View.read_writes_eq_canon _ _ _ (cover30 m c t)
  isplitl [H31]
  · unfold owns; iexists _; isplitr
    swap; · iexact H31
    ipureintro; exact View.read_writes_eq_canon _ _ _ (cover31 m c t)
  isplitl [H32]
  · unfold owns; iexists _; isplitr
    swap; · iexact H32
    ipureintro; exact View.read_writes_eq_canon _ _ _ (cover32 m c t)
  isplitl [H33]
  · unfold owns; iexists _; isplitr
    swap; · iexact H33
    ipureintro; exact View.read_writes_eq_canon _ _ _ (cover33 m c t)
  isplitl [H34]
  · unfold owns; iexists _; isplitr
    swap; · iexact H34
    ipureintro; exact View.read_writes_eq_canon _ _ _ (cover34 m c t)
  unfold owns; iexists _; isplitr
  swap; · iexact H35
  ipureintro; exact View.read_writes_eq_canon _ _ _ (cover35 m c t)

/-- The body table's row at a point is the body there. -/
theorem row_eq (t : Fin cfg0.N) : defs₀ (F := F) .tc cfg0.body (cfg0.bodyArgs t (cfg0.slots t)) = bodyAt0 t := by
  unfold defs₀; rw [Defs.onTc_tc]

set_option maxHeartbeats 4000000 in
/-- The body does at every point what the pipeline asks of it. -/
theorem obligation (c : Dev nD) : BodyObligation (dats (F := F) m 0 c) (defs₀ (F := F)) Variants.none () Set.univ := fun t => by
  rw [bigSep_W0, bigSep_W0, row_eq]
  exact triple_restated (body_at m c t) rfl .rfl fun _ => .rfl

set_option backward.isDefEq.respectTransparency.types false in
set_option maxHeartbeats 800000 in
/-- Every run of the program ends with the kernel's arrays as the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_arrays : θ_run defs (onTc (τ := τ) (main (F := F))) (s₀ m ρ) (Pipeline.FramePost cfgs (dats m) 0 (V m)) :=
  (θ_run defs _ _).mono (fun _ h => h.1) (run_quiescent m ρ)

/-- The frame: the argument arrays end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (frame_of m ρ (dats m) (A_eq m) (run_arrays m ρ)) ((θ_run defs _ _).mono (fun _ h => h.2) (run_quiescent m ρ))

end Cert.Kernel2Ideal.Frame

end
-- ==== Proof.InBody.lean ====
/-
  THE INPUT PROJECTION'S BLOCKS. A grid point handles 1024 positions of a sample in two halves of 512. The halves' steps, read at a row,
  are the row functions of Proof/InRow.lean, so each of the four blocks written holds the projected rows of its positions.
-/
module

public import proofs.«01_k».proof.Proof.InRow
public import proofs.«01_k».proof.Proof.InFrame
public import Idealize.ShloMosaic.Lib.WholeRead

@[expose] public section

set_option maxRecDepth 16384
set_option maxHeartbeats 1000000

noncomputable section

namespace Cert.Kernel2Ideal.Project

open Idealize.ShloMosaic Idealize.ShloMosaic.TcCoe Idealize.ShloMosaic.Pointwise
open Cert.Kernel2Ideal Cert.Kernel2Ideal.Gen Cert.Kernel2Ideal.Frame Cert.Tail

/-- The input blocks of a grid point. -/
structure Blocks where
  x0 : Vec Ideal S1x1024x1024 .f32
  x1 : Vec Ideal S1x1x6144 .f32
  x2 : Vec Ideal S1x1024 .f32
  x3 : Vec Ideal S1024x4096 .bf16

variable (B : Blocks)

/-- The modulated norm of a block's row. -/
def Blocks.row (R : Fin 1024) : Row 1024 :=
  modulated (fun n => B.x2 (ix2 0 n)) (fun n => B.x1 (ix3 0 0 ⟨1024 + n.val, by omega⟩)) (fun n => B.x1 (ix3 0 0 ⟨n.val, by omega⟩)) (fun n => B.x0 (ix3 0 R n))
/-- The projected row of a block. -/
def Blocks.proj (R : Fin 1024) : Row 4096 := mv (B.row R) B.x3

theorem pay284_apply (sh sc : FVec Ideal S1x1024 .f32) (x : FVec Ideal S512x1024 .f32) (g : FVec Ideal S1x1024 .f32) (r : Fin 512) (X G SC SH : Row 1024)
    (hx : ∀ n, x (ix2 r n) = X n) (hg : ∀ n, g (ix2 0 n) = G n) (hc : ∀ n, sc (ix2 0 n) = SC n) (hs : ∀ n, sh (ix2 0 n) = SH n) (n : Fin 1024) :
    k0_pay284 sh sc x g (mulf x x) (ix2 r n) = modulated G SC SH X n := by
  unfold modulated Tail.norm
  pointwise [k0_pay284]
  simp only [hx, hg, hc, hs]

theorem shift_apply (v : Vec Ideal S1x1x1024 .f32) (n : Fin 1024) : k0_pay279 v (ix2 0 n) = v (ix3 0 0 n) := by
  pointwise [k0_pay279]
theorem pay280_eq (v : Vec Ideal S1x1x1024 .f32) : k0_pay280 v = k0_pay279 v := rfl
theorem gain_eq (v : Vec Ideal S1x1024 .f32) : k0_pay282 v = v := shapeCast_id v _
theorem half_apply (v : Vec Ideal S1x512x1024 .f32) (r : Fin 512) (n : Fin 1024) : k0_pay281 v (ix2 r n) = v (ix3 0 r n) := by
  pointwise [k0_pay281]

/-- Loads of the input blocks, read at an index. -/
theorem ld3 {e : EltTy} {M N P : ℕ} (b : Memref sig .tc .vmem ⟨3, ![1, M, N]⟩ e) (hb : b.IsWhole) (X : Vec Ideal ⟨3, ![1, M, N]⟩ e) (p o K : ℕ) (hp : p + P ≤ M) (ho : o + K ≤ N)
    (inb : ∀ a, (![0, p, o] : Fin 3 → ℕ) a + (⟨3, ![1, P, K]⟩ : Shape).size a ≤ (⟨3, ![1, M, N]⟩ : Shape).size a) (r : Fin P) (n : Fin K) :
    View.readAt (Elt Ideal) b.view (Rect.unit (s := ⟨3, ![1, M, N]⟩) ![0, p, o] (⟨3, ![1, P, K]⟩ : Shape).size inb).toLoadRect (hb.unread X) (ix3 0 r n)
      = X (ix3 0 ⟨p + r.val, by omega⟩ ⟨o + n.val, by omega⟩) := by
  refine (Memref.IsWhole.readAt_unread hb X _ _).trans (congrArg X (funext fun a => Fin.ext ?_))
  match a with
  | 0 => rfl
  | 1 => show p + 1 * r.val = p + r.val; omega
  | 2 => show o + 1 * n.val = o + n.val; omega
theorem ld2 {e : EltTy} {M N : ℕ} (b : Memref sig .tc .vmem ⟨2, ![M, N]⟩ e) (hb : b.IsWhole) (X : Vec Ideal ⟨2, ![M, N]⟩ e) (o K : ℕ) (ho : o + K ≤ N)
    (inb : ∀ a, (![0, o] : Fin 2 → ℕ) a + (⟨2, ![M, K]⟩ : Shape).size a ≤ (⟨2, ![M, N]⟩ : Shape).size a) (i : Fin M) (n : Fin K) :
    View.readAt (Elt Ideal) b.view (Rect.unit (s := ⟨2, ![M, N]⟩) ![0, o] (⟨2, ![M, K]⟩ : Shape).size inb).toLoadRect (hb.unread X) (ix2 i n) = X (ix2 i ⟨o + n.val, by omega⟩) := by
  refine (Memref.IsWhole.readAt_unread hb X _ _).trans (congrArg X (funext fun a => Fin.ext ?_))
  match a with
  | 0 => show 0 + 1 * i.val = i.val; omega
  | 1 => show o + 1 * n.val = o + n.val; omega

/-- A half's rows after the modulated norm, from what is loaded. -/
theorem half_row (p : ℕ) (hp : p + 512 ≤ 1024) (sh sc : Vec Ideal S1x1x1024 .f32) (x : Vec Ideal S1x512x1024 .f32) (g : Vec Ideal S1x1024 .f32)
    (hsh : ∀ n, sh (ix3 0 0 n) = B.x1 (ix3 0 0 ⟨0 + n.val, by omega⟩)) (hsc : ∀ n, sc (ix3 0 0 n) = B.x1 (ix3 0 0 ⟨1024 + n.val, by omega⟩))
    (hx : ∀ (r : Fin 512) n, x (ix3 0 r n) = B.x0 (ix3 0 ⟨p + r.val, by omega⟩ ⟨0 + n.val, by omega⟩)) (hg : ∀ n, g (ix2 0 n) = B.x2 (ix2 0 ⟨0 + n.val, by omega⟩)) (r : Fin 512) (n : Fin 1024) :
    k0_pay284 (k0_pay279 sh) (k0_pay280 sc) (k0_pay281 x) (k0_pay282 g) (mulf (k0_pay281 x) (k0_pay281 x)) (ix2 r n) = B.row ⟨p + r.val, by omega⟩ n := by
  unfold Blocks.row
  refine pay284_apply _ _ _ _ r _ _ _ _ (fun n => (half_apply _ r n).trans ((hx r n).trans ?_)) (fun n => ?_) (fun n => ?_) (fun n => (shift_apply _ n).trans ((hsh n).trans ?_)) n
  · exact congrArg (fun k => B.x0 (ix3 0 _ k)) (Fin.ext (Nat.zero_add _))
  · rw [gain_eq, hg]
    exact congrArg (fun k => B.x2 (ix2 0 k)) (Fin.ext (Nat.zero_add _))
  · rw [pay280_eq, shift_apply, hsc]
  · exact congrArg (fun k => B.x1 (ix3 0 0 k)) (Fin.ext (Nat.zero_add _))

/-- A half's rows times 512 columns of the matrix, and times 1024. -/
theorem narrow_apply (a : FVec Ideal S512x1024 .bf16) (W : Vec Ideal S1024x512 .bf16) (r : Fin 512) (k : Fin 512) :
    k0_pay310 a W (ix2 r k) = ∑ i : Fin 1024, a (ix2 r i) * W (ix2 i k) := by
  pointwise [k0_pay310]
theorem gate_apply (a : FVec Ideal S512x1024 .bf16) (W : Vec Ideal S1024x1024 .bf16) (r : Fin 512) (k : Fin 1024) :
    k0_pay1039 a W (ix3 0 r k) = Tail.sig (∑ i : Fin 1024, a (ix2 r i) * W (ix2 i k)) := by
  pointwise [k0_pay1039]

/-- 128 columns of a half, as the block of one head pair. -/
theorem pair_apply (X : FVec Ideal S512x512 .bf16) (o : ℕ) (ho : o + 128 ≤ 512) (h) (r : Fin 512) (k : Fin 128) :
    shapeCast S1x1x512x128 (extractStridedSlice S512x128 ![0, o] X h) shapeCasts_S512x128_S1x1x512x128 (ix4 0 0 r k) = X (ix2 r ⟨o + k.val, by omega⟩) := by
  refine (shapeCast_apply (s := S512x128) (t := S1x1x512x128) _ _ _ (ix2 r k) ?_).trans ?_
  · rw [Shape.rowMajor_val_two, Shape.rowMajor_val_four]
    show r.val * 128 + k.val = ((0 * 1 + 0) * 512 + r.val) * 128 + k.val
    omega
  · refine congrArg X (funext fun a => Fin.ext ?_)
    match a with
    | 0 => show 0 + r.val = r.val; omega
    | 1 => rfl

/-- A half's product with the columns from `o` on is that part of the projected rows. -/
theorem proj_part {K : ℕ} (a : FVec Ideal S512x1024 .bf16) (W : Vec Ideal ⟨2, ![1024, K]⟩ .bf16) (p o : ℕ) (hp : p + 512 ≤ 1024) (ho : o + K ≤ 4096)
    (ha : ∀ (r : Fin 512) (n : Fin 1024), a (ix2 r n) = B.row ⟨p + r.val, by omega⟩ n) (hW : ∀ (i : Fin 1024) (k : Fin K), W (ix2 i k) = B.x3 (ix2 i ⟨o + k.val, by omega⟩)) (r : Fin 512) (k : Fin K) :
    (∑ i : Fin 1024, a (ix2 r i) * W (ix2 i k)) = B.proj ⟨p + r.val, by omega⟩ ⟨o + k.val, by omega⟩ := by
  unfold Blocks.proj mv
  exact Finset.sum_congr rfl fun i _ => congrArg₂ (· * ·) (ha r i) (hW i k)

/-- The blocks written. -/
def Blocks.outV : Vec Ideal S1x4x1024x128 .bf16 := fun y => B.proj (y 2) ⟨1024 + 128 * (y 1).val + (y 3).val, by
  have h1 : (y 1).val < 4 := (y 1).isLt
  have h3 : (y 3).val < 128 := (y 3).isLt
  omega⟩
def Blocks.outU : Vec Ideal S1x1024x512 .bf16 := fun y => B.proj (y 1) ⟨1536 + (y 2).val, by
  have h2 : (y 2).val < 512 := (y 2).isLt
  omega⟩
def Blocks.outG (o : ℕ) (ho : o + 1024 ≤ 4096) : Vec Ideal S1x1024x1024 .bf16 := fun y => Tail.sig (B.proj (y 1) ⟨o + (y 2).val, by
  have h2 : (y 2).val < 1024 := (y 2).isLt
  omega⟩)

theorem v_piece (a : FVec Ideal S512x1024 .bf16) (W : Vec Ideal S1024x512 .bf16) (hW : ∀ (i : Fin 1024) (k : Fin 512), W (ix2 i k) = B.x3 (ix2 i ⟨1024 + k.val, by omega⟩)) (p q : ℕ) (hp : p + 512 ≤ 1024) (hq : q < 4) (ha : ∀ (r : Fin 512) (n : Fin 1024), a (ix2 r n) = B.row ⟨p + r.val, by omega⟩ n) (h)
    (inb : ∀ a, (![0, q, p, 0] : Fin 4 → ℕ) a + S1x1x512x128.size a ≤ S1x4x1024x128.size a) (y : S1x1x512x128.Idx) :
    shapeCast S1x1x512x128 (extractStridedSlice S512x128 ![0, 128 * q] (k0_pay310 a W) h) shapeCasts_S512x128_S1x1x512x128 y
      = B.outV ((Rect.unit (s := S1x4x1024x128) ![0, q, p, 0] S1x1x512x128.size inb).emb y) := by
  have h2 : (y 2).val < 512 := (y 2).isLt
  have h3 : (y 3).val < 128 := (y 3).isLt
  have e : y = ix4 0 0 ⟨(y 2).val, h2⟩ ⟨(y 3).val, h3⟩ := by
    funext a; match a with
    | 0 => exact Fin.ext (by have : (y 0).val < 1 := (y 0).isLt; show (y 0).val = 0; omega)
    | 1 => exact Fin.ext (by have : (y 1).val < 1 := (y 1).isLt; show (y 1).val = 0; omega)
    | 2 => rfl
    | 3 => rfl
  rw [e]
  refine (pair_apply _ (128 * q) (by omega) h _ _).trans ((narrow_apply a W _ _).trans ((proj_part B a W p 1024 hp (by decide) ha hW _ _).trans ?_))
  show B.proj _ _ = B.proj _ _
  congr 1
  · exact Fin.ext (show p + (y 2).val = p + 1 * (y 2).val by omega)
  · refine Fin.ext ?_
    have e1 : (y 1).val = 0 := by have : (y 1).val < 1 := (y 1).isLt; omega
    show 1024 + (128 * q + (y 3).val) = 1024 + 128 * (q + 1 * 0) + (0 + 1 * (y 3).val)
    omega

theorem u_piece (a : FVec Ideal S512x1024 .bf16) (W : Vec Ideal S1024x512 .bf16) (hW : ∀ (i : Fin 1024) (k : Fin 512), W (ix2 i k) = B.x3 (ix2 i ⟨1536 + k.val, by omega⟩)) (p : ℕ) (hp : p + 512 ≤ 1024) (ha : ∀ (r : Fin 512) (n : Fin 1024), a (ix2 r n) = B.row ⟨p + r.val, by omega⟩ n)
    (inb : ∀ a, (![0, p, 0] : Fin 3 → ℕ) a + S1x512x512.size a ≤ S1x1024x512.size a) (y : S1x512x512.Idx) :
    k0_pay316 a W y = B.outU ((Rect.unit (s := S1x1024x512) ![0, p, 0] S1x512x512.size inb).emb y) := by
  have h1 : (y 1).val < 512 := (y 1).isLt
  have h2 : (y 2).val < 512 := (y 2).isLt
  have e : y = ix3 0 ⟨(y 1).val, h1⟩ ⟨(y 2).val, h2⟩ := by
    funext a; match a with
    | 0 => exact Fin.ext (by have : (y 0).val < 1 := (y 0).isLt; show (y 0).val = 0; omega)
    | 1 => rfl
    | 2 => rfl
  rw [e]
  refine Eq.trans (b := k0_pay310 a W (ix2 ⟨(y 1).val, h1⟩ ⟨(y 2).val, h2⟩)) ?_
    ((narrow_apply a W _ _).trans ((proj_part B a W p 1536 hp (by decide) ha hW _ _).trans ?_))
  · show shapeCast S1x512x512 (k0_pay310 a W) shapeCasts_S512x512_S1x512x512 _ = _
    generalize k0_pay310 a W = Q
    pointwise []
  · show B.proj _ _ = B.proj _ _
    congr 1
    · exact Fin.ext (show p + (y 1).val = p + 1 * (y 1).val by omega)
    · exact Fin.ext (show 1536 + (y 2).val = 1536 + (0 + 1 * (y 2).val) by omega)

theorem g_piece (a : FVec Ideal S512x1024 .bf16) (W : Vec Ideal S1024x1024 .bf16) (p o : ℕ) (hp : p + 512 ≤ 1024) (ho : o + 1024 ≤ 4096) (ha : ∀ (r : Fin 512) (n : Fin 1024), a (ix2 r n) = B.row ⟨p + r.val, by omega⟩ n)
    (hW : ∀ (i : Fin 1024) (k : Fin 1024), W (ix2 i k) = B.x3 (ix2 i ⟨o + k.val, by omega⟩))
    (inb : ∀ a, (![0, p, 0] : Fin 3 → ℕ) a + S1x512x1024.size a ≤ S1x1024x1024.size a) (y : S1x512x1024.Idx) :
    k0_pay1039 a W y = B.outG o ho ((Rect.unit (s := S1x1024x1024) ![0, p, 0] S1x512x1024.size inb).emb y) := by
  have h1 : (y 1).val < 512 := (y 1).isLt
  have h2 : (y 2).val < 1024 := (y 2).isLt
  have e : y = ix3 0 ⟨(y 1).val, h1⟩ ⟨(y 2).val, h2⟩ := by
    funext a; match a with
    | 0 => exact Fin.ext (by have : (y 0).val < 1 := (y 0).isLt; show (y 0).val = 0; omega)
    | 1 => rfl
    | 2 => rfl
  rw [e, gate_apply, proj_part B a W p o hp ho ha hW]
  show Tail.sig (B.proj _ _) = Tail.sig (B.proj _ _)
  congr 2
  · exact Fin.ext (show p + (y 1).val = p + 1 * (y 1).val by omega)
  · exact Fin.ext (show o + (y 2).val = o + (0 + 1 * (y 2).val) by omega)

variable (m : (ℓ : Loc nD τ sig) → Buf (Elt Ideal) ℓ) (c : Dev nD) (t : Fin cfg0.N)

/-- The input blocks of a point. -/
def blks : Blocks := ⟨iblk m c 0 t, iblk m c 1 t, iblk m c 2 t, iblk m c 3 t⟩

/-- The input buffers are whole. -/
abbrev hw0 (t : Fin cfg0.N) : (st0_0 t).IsWhole := hstage0_0 ((cfg0.slots t 0).cast nbuf0_0)
abbrev hw1 (t : Fin cfg0.N) : (st0_1 t).IsWhole := hstage0_1 ((cfg0.slots t 1).cast nbuf0_1)
abbrev hw2 (t : Fin cfg0.N) : (st0_2 t).IsWhole := hstage0_2 ((cfg0.slots t 2).cast nbuf0_2)
abbrev hw3 (t : Fin cfg0.N) : (st0_3 t).IsWhole := hstage0_3 ((cfg0.slots t 3).cast nbuf0_3)

/-- The rows the body computes of the half that starts at position `p`. -/
abbrev halfRows (p : ℕ) (inb : ∀ a, (![0, p, 0] : Fin 3 → ℕ) a + S1x512x1024.size a ≤ S1x1024x1024.size a) : FVec Ideal S512x1024 .bf16 :=
  k0_pay284
    (k0_pay279 (View.readAt (Elt Ideal) (st0_1 t).view (Rect.unit (s := S1x1x6144) ![0, 0, 0] S1x1x1024.size inb_S1x1x6144_S1x1x1024_0_0_0).toLoadRect ((hw1 t).unread (iblk m c 1 t))))
    (k0_pay280 (View.readAt (Elt Ideal) (st0_1 t).view (Rect.unit (s := S1x1x6144) ![0, 0, 1024] S1x1x1024.size inb_S1x1x6144_S1x1x1024_0_0_1024).toLoadRect ((hw1 t).unread (iblk m c 1 t))))
    (k0_pay281 (View.readAt (Elt Ideal) (st0_0 t).view (Rect.unit (s := S1x1024x1024) ![0, p, 0] S1x512x1024.size inb).toLoadRect ((hw0 t).unread (iblk m c 0 t))))
    (k0_pay282 (View.readAt (Elt Ideal) (st0_2 t).view (Rect.unit (s := S1x1024) ![0, 0] S1x1024.size inb_S1x1024_S1x1024_0_0).toLoadRect ((hw2 t).unread (iblk m c 2 t))))
    (mulf (k0_pay281 (View.readAt (Elt Ideal) (st0_0 t).view (Rect.unit (s := S1x1024x1024) ![0, p, 0] S1x512x1024.size inb).toLoadRect ((hw0 t).unread (iblk m c 0 t))))
      (k0_pay281 (View.readAt (Elt Ideal) (st0_0 t).view (Rect.unit (s := S1x1024x1024) ![0, p, 0] S1x512x1024.size inb).toLoadRect ((hw0 t).unread (iblk m c 0 t)))))

theorem lo_row (r : Fin 512) (n : Fin 1024) : halfRows m c t 0 inb_S1x1024x1024_S1x512x1024_0_0_0 (ix2 r n) = (blks m c t).row ⟨0 + r.val, by omega⟩ n :=
  half_row (blks m c t) 0 (by decide) _ _ _ _ (fun n => ld3 (st0_1 t) (hw1 t) (iblk m c 1 t) 0 0 1024 (by decide) (by decide) inb_S1x1x6144_S1x1x1024_0_0_0 0 n)
    (fun n => ld3 (st0_1 t) (hw1 t) (iblk m c 1 t) 0 1024 1024 (by decide) (by decide) inb_S1x1x6144_S1x1x1024_0_0_1024 0 n)
    (fun r n => ld3 (st0_0 t) (hw0 t) (iblk m c 0 t) 0 0 1024 (by decide) (by decide) inb_S1x1024x1024_S1x512x1024_0_0_0 r n)
    (fun n => ld2 (st0_2 t) (hw2 t) (iblk m c 2 t) 0 1024 (by decide) inb_S1x1024_S1x1024_0_0 0 n) r n
theorem hi_row (r : Fin 512) (n : Fin 1024) : halfRows m c t 512 inb_S1x1024x1024_S1x512x1024_0_512_0 (ix2 r n) = (blks m c t).row ⟨512 + r.val, by omega⟩ n :=
  half_row (blks m c t) 512 (by decide) _ _ _ _ (fun n => ld3 (st0_1 t) (hw1 t) (iblk m c 1 t) 0 0 1024 (by decide) (by decide) inb_S1x1x6144_S1x1x1024_0_0_0 0 n)
    (fun n => ld3 (st0_1 t) (hw1 t) (iblk m c 1 t) 0 1024 1024 (by decide) (by decide) inb_S1x1x6144_S1x1x1024_0_0_1024 0 n)
    (fun r n => ld3 (st0_0 t) (hw0 t) (iblk m c 0 t) 512 0 1024 (by decide) (by decide) inb_S1x1024x1024_S1x512x1024_0_512_0 r n)
    (fun n => ld2 (st0_2 t) (hw2 t) (iblk m c 2 t) 0 1024 (by decide) inb_S1x1024_S1x1024_0_0 0 n) r n

set_option maxHeartbeats 16000000 in
theorem v_block : left (runAt m c t).1.w21 = (blks m c t).outV := by
  unfold left
  funext y
  refine View.canon_apply_of_pieces ((blks m c t).outV) _ ?_ y (cover21 m c t y)
  unfold runAt bodyRun
  dsimp only
  refine List.forall_mem_cons.2 ⟨v_piece (blks m c t) _ _ (fun i k => ld2 (st0_3 t) (hw3 t) (iblk m c 3 t) 1024 512 (by decide) inb_S1024x4096_S1024x512_0_1024 i k) 512 3 (by decide) (by decide) (hi_row m c t) slices_S512x512_o0_384_S512x128 inb_S1x4x1024x128_S1x1x512x128_0_3_512_0, ?_⟩
  refine List.forall_mem_cons.2 ⟨v_piece (blks m c t) _ _ (fun i k => ld2 (st0_3 t) (hw3 t) (iblk m c 3 t) 1024 512 (by decide) inb_S1024x4096_S1024x512_0_1024 i k) 512 2 (by decide) (by decide) (hi_row m c t) slices_S512x512_o0_256_S512x128 inb_S1x4x1024x128_S1x1x512x128_0_2_512_0, ?_⟩
  refine List.forall_mem_cons.2 ⟨v_piece (blks m c t) _ _ (fun i k => ld2 (st0_3 t) (hw3 t) (iblk m c 3 t) 1024 512 (by decide) inb_S1024x4096_S1024x512_0_1024 i k) 512 1 (by decide) (by decide) (hi_row m c t) slices_S512x512_o0_128_S512x128 inb_S1x4x1024x128_S1x1x512x128_0_1_512_0, ?_⟩
  refine List.forall_mem_cons.2 ⟨v_piece (blks m c t) _ _ (fun i k => ld2 (st0_3 t) (hw3 t) (iblk m c 3 t) 1024 512 (by decide) inb_S1024x4096_S1024x512_0_1024 i k) 512 0 (by decide) (by decide) (hi_row m c t) slices_S512x512_o0_0_S512x128 inb_S1x4x1024x128_S1x1x512x128_0_0_512_0, ?_⟩
  refine List.forall_mem_cons.2 ⟨v_piece (blks m c t) _ _ (fun i k => ld2 (st0_3 t) (hw3 t) (iblk m c 3 t) 1024 512 (by decide) inb_S1024x4096_S1024x512_0_1024 i k) 0 3 (by decide) (by decide) (lo_row m c t) slices_S512x512_o0_384_S512x128 inb_S1x4x1024x128_S1x1x512x128_0_3_0_0, ?_⟩
  refine List.forall_mem_cons.2 ⟨v_piece (blks m c t) _ _ (fun i k => ld2 (st0_3 t) (hw3 t) (iblk m c 3 t) 1024 512 (by decide) inb_S1024x4096_S1024x512_0_1024 i k) 0 2 (by decide) (by decide) (lo_row m c t) slices_S512x512_o0_256_S512x128 inb_S1x4x1024x128_S1x1x512x128_0_2_0_0, ?_⟩
  refine List.forall_mem_cons.2 ⟨v_piece (blks m c t) _ _ (fun i k => ld2 (st0_3 t) (hw3 t) (iblk m c 3 t) 1024 512 (by decide) inb_S1024x4096_S1024x512_0_1024 i k) 0 1 (by decide) (by decide) (lo_row m c t) slices_S512x512_o0_128_S512x128 inb_S1x4x1024x128_S1x1x512x128_0_1_0_0, ?_⟩
  refine List.forall_mem_cons.2 ⟨v_piece (blks m c t) _ _ (fun i k => ld2 (st0_3 t) (hw3 t) (iblk m c 3 t) 1024 512 (by decide) inb_S1024x4096_S1024x512_0_1024 i k) 0 0 (by decide) (by decide) (lo_row m c t) slices_S512x512_o0_0_S512x128 inb_S1x4x1024x128_S1x1x512x128_0_0_0_0, ?_⟩
  exact fun p hp => absurd hp List.not_mem_nil

theorem u_block : left (runAt m c t).1.w22 = (blks m c t).outU := by
  unfold left
  funext y
  refine View.canon_apply_of_pieces ((blks m c t).outU) _ ?_ y (cover22 m c t y)
  unfold runAt bodyRun
  dsimp only
  refine List.forall_mem_cons.2 ⟨u_piece (blks m c t) _ _ (fun i k => ld2 (st0_3 t) (hw3 t) (iblk m c 3 t) 1536 512 (by decide) inb_S1024x4096_S1024x512_0_1536 i k) 512 (by decide) (hi_row m c t) inb_S1x1024x512_S1x512x512_0_512_0, ?_⟩
  refine List.forall_mem_cons.2 ⟨u_piece (blks m c t) _ _ (fun i k => ld2 (st0_3 t) (hw3 t) (iblk m c 3 t) 1536 512 (by decide) inb_S1024x4096_S1024x512_0_1536 i k) 0 (by decide) (lo_row m c t) inb_S1x1024x512_S1x512x512_0_0_0, ?_⟩
  exact fun p hp => absurd hp List.not_mem_nil

theorem ga_block : left (runAt m c t).1.w24 = (blks m c t).outG 2048 (by decide) := by
  unfold left
  funext y
  refine View.canon_apply_of_pieces ((blks m c t).outG 2048 (by decide)) _ ?_ y (cover24 m c t y)
  unfold runAt bodyRun
  dsimp only
  refine List.forall_mem_cons.2 ⟨g_piece (blks m c t) _ _ 512 2048 (by decide) (by decide) (hi_row m c t) (fun i k => ld2 (st0_3 t) (hw3 t) (iblk m c 3 t) 2048 1024 (by decide) inb_S1024x4096_S1024x1024_0_2048 i k) inb_S1x1024x1024_S1x512x1024_0_512_0, ?_⟩
  refine List.forall_mem_cons.2 ⟨g_piece (blks m c t) _ _ 0 2048 (by decide) (by decide) (lo_row m c t) (fun i k => ld2 (st0_3 t) (hw3 t) (iblk m c 3 t) 2048 1024 (by decide) inb_S1024x4096_S1024x1024_0_2048 i k) inb_S1x1024x1024_S1x512x1024_0_0_0, ?_⟩
  exact fun p hp => absurd hp List.not_mem_nil

theorem gs_block : left (runAt m c t).1.w25 = (blks m c t).outG 3072 (by decide) := by
  unfold left
  funext y
  refine View.canon_apply_of_pieces ((blks m c t).outG 3072 (by decide)) _ ?_ y (cover25 m c t y)
  unfold runAt bodyRun
  dsimp only
  refine List.forall_mem_cons.2 ⟨g_piece (blks m c t) _ _ 512 3072 (by decide) (by decide) (hi_row m c t) (fun i k => ld2 (st0_3 t) (hw3 t) (iblk m c 3 t) 3072 1024 (by decide) inb_S1024x4096_S1024x1024_0_3072 i k) inb_S1x1024x1024_S1x512x1024_0_512_0, ?_⟩
  refine List.forall_mem_cons.2 ⟨g_piece (blks m c t) _ _ 0 3072 (by decide) (by decide) (lo_row m c t) (fun i k => ld2 (st0_3 t) (hw3 t) (iblk m c 3 t) 3072 1024 (by decide) inb_S1024x4096_S1024x1024_0_3072 i k) inb_S1x1024x1024_S1x512x1024_0_0_0, ?_⟩
  exact fun p hp => absurd hp List.not_mem_nil

end Cert.Kernel2Ideal.Project

end
-- ==== Proof.InArray.lean ====
/-
  THE PROJECTION'S RESULT ARRAYS. At grid point `8 i + b` the block of `x` is rows `1024 i …` of sample `b`, and the matrix is the
  argument with its first 512 columns scaled, so the blocks written for the four results are parts of the arrays of Proof/InRow.lean;
  the 32 blocks of each cover it.
-/
module

public import proofs.«01_k».proof.Proof.InBody
public import Idealize.ShloMosaic.Lib.Pipeline.Value

@[expose] public section

set_option maxRecDepth 16384
set_option maxHeartbeats 1000000

noncomputable section

namespace Cert.Kernel2Ideal.Project

open Idealize.ShloMosaic Idealize.ShloMosaic.TcCoe Idealize.ShloMosaic.Pointwise Idealize.SL.Sem
open Idealize.ShloMosaic.Pipeline (Dat)
open Cert.Kernel2Ideal Cert.Kernel2Ideal.Gen Cert.Kernel2Ideal.Frame Cert.Tail

variable (m : (ℓ : Loc nD τ sig) → Buf (Elt Ideal) ℓ) (c : Dev nD)

/-- The argument arrays of a device the four results depend on. -/
def argsOf : Cert.Project.Arrays :=
  ⟨m ((c.tc : Thread nD τ).loc main_arg0), m ((c.tc : Thread nD τ).loc main_arg1), m ((c.tc : Thread nD τ).loc main_arg2), m ((c.tc : Thread nD τ).loc main_arg3)⟩

set_option maxHeartbeats 4000000 in
theorem V_mod : V m c main_v88 = shapeCast S16x1x6144 (m ((c.tc : Thread nD τ).loc main_arg1)) shapeCasts_S16x6144_S16x1x6144 := by
  show StableHlo.after (hostOps0 (F := Ideal)) _ (Proc.devRef .tc main_v88) = _
  after_results
  rfl
set_option maxHeartbeats 4000000 in
theorem V_gain : V m c main_v9 = m ((c.tc : Thread nD τ).loc main_arg2) := by
  show StableHlo.after (hostOps0 (F := Ideal)) _ (Proc.devRef .tc main_v9) = _
  after_results
  show shapeCast S1x1024 (shapeCast S1024 (m ((c.tc : Thread nD τ).loc main_arg2)) shapeCasts_S1x1024_S1024) shapeCasts_S1024_S1x1024 = _
  rw [shapeCast_comp]
  exact shapeCast_id _ _
/-- The column scales: a constant at the first 512 columns, one at the others. -/
def scales : FVec Ideal S4096 .f32 :=
  concatenate S4096 0 [⟨S512, broadcastInDim S512 ![] bcast_S_S512 (constant S_ .f32 0x3E38AA3B#32)⟩, ⟨S3584, broadcastInDim S3584 ![] bcast_S_S3584 (constant S_ .f32 0x3F800000#32)⟩] concatenates_S512_S3584_S4096_d0
set_option maxHeartbeats 4000000 in
theorem V_mat : V m c main_v7 = truncf .bf16 (mulf (shapeCast S1024x4096 (m ((c.tc : Thread nD τ).loc main_arg3)) shapeCasts_S1x1024x4096_S1024x4096)
    (broadcastInDim S1024x4096 ![0, 1] bcast_S1x4096_S1024x4096_0_1 (broadcastInDim S1x4096 ![1] bcast_S4096_S1x4096_1 scales))) bitsLt_bf16_f32 := by
  show StableHlo.after (hostOps0 (F := Ideal)) _ (Proc.devRef .tc main_v7) = _
  after_results
  rfl

theorem scale_apply (n : Fin 4096) (hn : 512 ≤ n.val) : scales (ix1 n) = 1 := by
  have h : ¬ n.val < 512 := by omega
  pointwise [scales]
  simp [h]

theorem index0 : ∀ t : Fin cfg0.N, win0_0.index t 0 = t.val % 8 ∧ win0_0.index t 1 = t.val / 8 ∧ win0_0.index t 2 = 0 :=
  (by decide +kernel : ∀ t : Fin grid0.N, win0_0.index t 0 = t.val % 8 ∧ win0_0.index t 1 = t.val / 8 ∧ win0_0.index t 2 = 0)
theorem index1 : ∀ t : Fin cfg0.N, win0_1.index t 0 = t.val % 8 ∧ win0_1.index t 1 = 0 ∧ win0_1.index t 2 = 0 :=
  (by decide +kernel : ∀ t : Fin grid0.N, win0_1.index t 0 = t.val % 8 ∧ win0_1.index t 1 = 0 ∧ win0_1.index t 2 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index21 : ∀ t : Fin cfg0.N, win0_21.index t 0 = t.val % 8 ∧ win0_21.index t 1 = 0 ∧ win0_21.index t 2 = t.val / 8 ∧ win0_21.index t 3 = 0 :=
  (by decide +kernel : ∀ t : Fin grid0.N, win0_21.index t 0 = t.val % 8 ∧ win0_21.index t 1 = 0 ∧ win0_21.index t 2 = t.val / 8 ∧ win0_21.index t 3 = 0)
theorem index22 : ∀ t : Fin cfg0.N, win0_22.index t 0 = t.val % 8 ∧ win0_22.index t 1 = t.val / 8 ∧ win0_22.index t 2 = 0 :=
  (by decide +kernel : ∀ t : Fin grid0.N, win0_22.index t 0 = t.val % 8 ∧ win0_22.index t 1 = t.val / 8 ∧ win0_22.index t 2 = 0)
theorem index24 : ∀ t : Fin cfg0.N, win0_24.index t 0 = t.val % 8 ∧ win0_24.index t 1 = t.val / 8 ∧ win0_24.index t 2 = 0 :=
  (by decide +kernel : ∀ t : Fin grid0.N, win0_24.index t 0 = t.val % 8 ∧ win0_24.index t 1 = t.val / 8 ∧ win0_24.index t 2 = 0)
theorem index25 : ∀ t : Fin cfg0.N, win0_25.index t 0 = t.val % 8 ∧ win0_25.index t 1 = t.val / 8 ∧ win0_25.index t 2 = 0 :=
  (by decide +kernel : ∀ t : Fin grid0.N, win0_25.index t 0 = t.val % 8 ∧ win0_25.index t 1 = t.val / 8 ∧ win0_25.index t 2 = 0)

theorem t32 (t : Fin cfg0.N) : t.val < 32 := lt_of_lt_of_eq t.isLt Gen.N_0

/-- The sample and the positions of a grid point, and the grid point of a position. -/
abbrev smp (t : Fin cfg0.N) : Fin 8 := ⟨t.val % 8, by omega⟩
abbrev pos (t : Fin cfg0.N) (R : Fin 1024) : Fin 4096 := ⟨1024 * (t.val / 8) + R.val, by have := t32 t; omega⟩
abbrev point (b s : ℕ) (hb : b < 8) (hs : s < 4096) : Fin cfg0.N := ⟨8 * (s / 1024) + b, by have hN : cfg0.N = 32 := Gen.N_0; omega⟩

theorem blk0 (t : Fin cfg0.N) (R : Fin 1024) (n : Fin 1024) : (blks m c t).x0 (ix3 0 R n) = m ((c.tc : Thread nD τ).loc main_arg0) (ix3 (smp t) (pos t R) n) := by
  obtain ⟨h0, h1, h2⟩ := index0 t
  refine Eq.trans (b := V m c main_arg0 ((win0_0.rect t).emb (ix3 0 R n))) rfl ?_
  rw [(V_args m c).1]
  refine congrArg (m ((c.tc : Thread nD τ).loc main_arg0)) (funext fun a => Fin.ext ?_)
  match a with
  | 0 => show win0_0.index t 0 * 1 + 1 * 0 = t.val % 8; omega
  | 1 => show win0_0.index t 1 * 1024 + 1 * R.val = 1024 * (t.val / 8) + R.val; omega
  | 2 => show win0_0.index t 2 * 1024 + 1 * n.val = n.val; omega
theorem blk1 (t : Fin cfg0.N) (n : Fin 6144) : (blks m c t).x1 (ix3 0 0 n) = m ((c.tc : Thread nD τ).loc main_arg1) (ix2 ⟨t.val % 8, by omega⟩ n) := by
  obtain ⟨h0, h1, h2⟩ := index1 t
  refine Eq.trans (b := V m c main_v88 ((win0_1.rect t).emb (ix3 0 0 n))) rfl ?_
  rw [V_mod]
  have e : (win0_1.rect t).emb (ix3 0 0 n) = (ix3 ⟨t.val % 8, by omega⟩ 0 n : S16x1x6144.Idx) := by
    refine funext fun a => Fin.ext ?_
    match a with
    | 0 => show win0_1.index t 0 * 1 + 1 * 0 = t.val % 8; omega
    | 1 => show win0_1.index t 1 * 1 + 1 * 0 = 0; omega
    | 2 => show win0_1.index t 2 * 6144 + 1 * n.val = n.val; omega
  rw [e]
  refine shapeCast_apply (s := S16x6144) (t := S16x1x6144) _ _ _ (ix2 ⟨t.val % 8, by omega⟩ n) ?_
  rw [Shape.rowMajor_val_two, Shape.rowMajor_val_three]
  show t.val % 8 * 6144 + n.val = (t.val % 8 * 1 + 0) * 6144 + n.val
  omega
theorem blk2 (t : Fin cfg0.N) : (blks m c t).x2 = m ((c.tc : Thread nD τ).loc main_arg2) := by
  obtain ⟨h0, h1⟩ := index2 t
  rw [← V_gain m c]
  funext y
  refine Eq.trans (b := V m c main_v9 ((win0_2.rect t).emb y)) rfl ?_
  refine congrArg (V m c main_v9) (funext fun a => Fin.ext ?_)
  match a with
  | 0 => show win0_2.index t 0 * 1 + 1 * (y 0).val = (y 0).val; omega
  | 1 => show win0_2.index t 1 * 1024 + 1 * (y 1).val = (y 1).val; omega
theorem blk3 (t : Fin cfg0.N) : (blks m c t).x3 = V m c main_v7 := by
  obtain ⟨h0, h1⟩ := index3 t
  funext y
  refine Eq.trans (b := V m c main_v7 ((win0_3.rect t).emb y)) rfl ?_
  refine congrArg (V m c main_v7) (funext fun a => Fin.ext ?_)
  match a with
  | 0 => show win0_3.index t 0 * 1024 + 1 * (y 0).val = (y 0).val; omega
  | 1 => show win0_3.index t 1 * 4096 + 1 * (y 1).val = (y 1).val; omega
theorem mat_apply (t : Fin cfg0.N) (i : Fin 1024) (n : Fin 4096) (hn : 512 ≤ n.val) : (blks m c t).x3 (ix2 i n) = (argsOf m c).mat (ix2 i n) := by
  rw [blk3, V_mat]
  have h := scale_apply n hn
  generalize scales = S at h ⊢
  pointwise []
  rw [h, mul_one]
  rfl

theorem blks_row (t : Fin cfg0.N) (R : Fin 1024) : (blks m c t).row R = (argsOf m c).row (smp t) (pos t R) := by
  unfold Blocks.row Cert.Project.Arrays.row
  congr 1
  · rw [blk2]; rfl
  · funext n; exact blk1 m c t _
  · funext n
    refine (blk1 m c t _).trans (congrArg (fun k => m ((c.tc : Thread nD τ).loc main_arg1) (ix2 ⟨t.val % 8, _⟩ k)) (Fin.ext ?_))
    show n.val = 1024 * 0 + n.val
    omega
  · funext n; exact blk0 m c t R n

theorem blks_proj (t : Fin cfg0.N) (R : Fin 1024) (n : Fin 4096) (hn : 512 ≤ n.val) : (blks m c t).proj R n = (argsOf m c).proj (smp t) (pos t R) n := by
  unfold Blocks.proj Cert.Project.Arrays.proj Tail.mv
  rw [blks_row]
  exact Finset.sum_congr rfl fun i _ => congrArg _ (mat_apply m c t i n hn)

/-- What a grid point writes for each result is its part of the result's array, and the blocks cover it. -/
theorem flushed_v (t : Fin cfg0.N) : (dats m 0 c).flushed 21 t = ((cfg0.win 21).blk t).view.read (Elt Ideal) (argsOf m c).v := by
  show (cfg0.win 21).cut (grid0.coords t) ((dats m 0 c).after 21 t) = _
  rw [after21, v_block]
  obtain ⟨h0, h1, h2, h3⟩ := index21 t
  funext y
  have hy0 : (y 0).val < 1 := (y 0).isLt
  have hy1 : (y 1).val < 4 := (y 1).isLt
  have hy2 : (y 2).val < 1024 := (y 2).isLt
  have hy3 : (y 3).val < 128 := (y 3).isLt
  have e : (win0_21.rect t).emb y = (ix4 (smp t) ⟨(y 1).val, hy1⟩ (pos t ⟨(y 2).val, hy2⟩) ⟨(y 3).val, hy3⟩ : S8x4x4096x128.Idx) := by
    refine funext fun a => Fin.ext ?_
    match a with
    | 0 => show win0_21.index t 0 * 1 + 1 * (y 0).val = t.val % 8; omega
    | 1 => show win0_21.index t 1 * 4 + 1 * (y 1).val = (y 1).val; omega
    | 2 => show win0_21.index t 2 * 1024 + 1 * (y 2).val = 1024 * (t.val / 8) + (y 2).val; omega
    | 3 => show win0_21.index t 3 * 128 + 1 * (y 3).val = (y 3).val; omega
  refine Eq.trans (b := (blks m c t).proj ⟨(y 2).val, hy2⟩ ⟨1024 + 128 * (y 1).val + (y 3).val, by omega⟩) rfl ?_
  rw [blks_proj m c t _ _ (by dsimp only; omega)]
  exact (congrArg (argsOf m c).v e).symm
theorem cover_v (i : S8x4x4096x128.Idx) : ∃ t : Fin cfg0.N, (cfg0.win 21).flush t = true ∧ i ∈ ((cfg0.win 21).blk t).view.set := by
  have h0 : (i 0 : Nat) < 8 := (i 0).isLt
  have h1 : (i 1 : Nat) < 4 := (i 1).isLt
  have h2 : (i 2 : Nat) < 4096 := (i 2).isLt
  have h3 : (i 3 : Nat) < 128 := (i 3).isLt
  refine ⟨point (i 0 : Nat) (i 2 : Nat) h0 h2, flush0_21 _, ?_⟩
  obtain ⟨e0, e1, e2, e3⟩ := index21 (point (i 0 : Nat) (i 2 : Nat) h0 h2)
  show i ∈ ((View.whole main_v118_2).slice (win0_21.rect (point (i 0 : Nat) (i 2 : Nat) h0 h2))).set
  rw [View.set_slice_whole, Rect.mem_set_unit]
  intro a
  match a with
  | 0 => show win0_21.index _ 0 * 1 ≤ (i 0 : Nat) ∧ (i 0 : Nat) < win0_21.index _ 0 * 1 + 1; rw [e0]; dsimp only [point]; omega
  | 1 => show win0_21.index _ 1 * 4 ≤ (i 1 : Nat) ∧ (i 1 : Nat) < win0_21.index _ 1 * 4 + 4; rw [e1]; omega
  | 2 => show win0_21.index _ 2 * 1024 ≤ (i 2 : Nat) ∧ (i 2 : Nat) < win0_21.index _ 2 * 1024 + 1024; rw [e2]; dsimp only [point]; omega
  | 3 => show win0_21.index _ 3 * 128 ≤ (i 3 : Nat) ∧ (i 3 : Nat) < win0_21.index _ 3 * 128 + 128; rw [e3]; omega
theorem final_v : (dats m 0 c).arrAt 21 cfg0.N = (argsOf m c).v :=
  (dats m 0 c).arrAt_eq_of_cover 21 (argsOf m c).v (fun t _ => flushed_v m c t) cover_v

theorem flushed_u (t : Fin cfg0.N) : (dats m 0 c).flushed 22 t = ((cfg0.win 22).blk t).view.read (Elt Ideal) (argsOf m c).u := by
  show (cfg0.win 22).cut (grid0.coords t) ((dats m 0 c).after 22 t) = _
  rw [after22, u_block]
  obtain ⟨h0, h1, h2⟩ := index22 t
  funext y
  have hy0 : (y 0).val < 1 := (y 0).isLt
  have hy1 : (y 1).val < 1024 := (y 1).isLt
  have hy2 : (y 2).val < 512 := (y 2).isLt
  have e : (win0_22.rect t).emb y = (ix3 (smp t) (pos t ⟨(y 1).val, hy1⟩) ⟨(y 2).val, hy2⟩ : S8x4096x512.Idx) := by
    refine funext fun a => Fin.ext ?_
    match a with
    | 0 => show win0_22.index t 0 * 1 + 1 * (y 0).val = t.val % 8; omega
    | 1 => show win0_22.index t 1 * 1024 + 1 * (y 1).val = 1024 * (t.val / 8) + (y 1).val; omega
    | 2 => show win0_22.index t 2 * 512 + 1 * (y 2).val = (y 2).val; omega
  refine Eq.trans (b := (blks m c t).proj ⟨(y 1).val, hy1⟩ ⟨1536 + (y 2).val, by omega⟩) rfl ?_
  rw [blks_proj m c t _ _ (by dsimp only; omega)]
  exact (congrArg (argsOf m c).u e).symm
theorem cover_u (i : S8x4096x512.Idx) : ∃ t : Fin cfg0.N, (cfg0.win 22).flush t = true ∧ i ∈ ((cfg0.win 22).blk t).view.set := by
  have h0 : (i 0 : Nat) < 8 := (i 0).isLt
  have h1 : (i 1 : Nat) < 4096 := (i 1).isLt
  have h2 : (i 2 : Nat) < 512 := (i 2).isLt
  refine ⟨point (i 0 : Nat) (i 1 : Nat) h0 h1, flush0_22 _, ?_⟩
  obtain ⟨e0, e1, e2⟩ := index22 (point (i 0 : Nat) (i 1 : Nat) h0 h1)
  show i ∈ ((View.whole main_v118_3).slice (win0_22.rect (point (i 0 : Nat) (i 1 : Nat) h0 h1))).set
  rw [View.set_slice_whole, Rect.mem_set_unit]
  intro a
  match a with
  | 0 => show win0_22.index _ 0 * 1 ≤ (i 0 : Nat) ∧ (i 0 : Nat) < win0_22.index _ 0 * 1 + 1; rw [e0]; dsimp only [point]; omega
  | 1 => show win0_22.index _ 1 * 1024 ≤ (i 1 : Nat) ∧ (i 1 : Nat) < win0_22.index _ 1 * 1024 + 1024; rw [e1]; dsimp only [point]; omega
  | 2 => show win0_22.index _ 2 * 512 ≤ (i 2 : Nat) ∧ (i 2 : Nat) < win0_22.index _ 2 * 512 + 512; rw [e2]; omega
theorem final_u : (dats m 0 c).arrAt 22 cfg0.N = (argsOf m c).u :=
  (dats m 0 c).arrAt_eq_of_cover 22 (argsOf m c).u (fun t _ => flushed_u m c t) cover_u

theorem flushed_ga (t : Fin cfg0.N) : (dats m 0 c).flushed 24 t = ((cfg0.win 24).blk t).view.read (Elt Ideal) (argsOf m c).ga := by
  show (cfg0.win 24).cut (grid0.coords t) ((dats m 0 c).after 24 t) = _
  rw [after24, ga_block]
  obtain ⟨h0, h1, h2⟩ := index24 t
  funext y
  have hy0 : (y 0).val < 1 := (y 0).isLt
  have hy1 : (y 1).val < 1024 := (y 1).isLt
  have hy2 : (y 2).val < 1024 := (y 2).isLt
  have e : (win0_24.rect t).emb y = (ix3 (smp t) (pos t ⟨(y 1).val, hy1⟩) ⟨(y 2).val, hy2⟩ : S8x4096x1024.Idx) := by
    refine funext fun a => Fin.ext ?_
    match a with
    | 0 => show win0_24.index t 0 * 1 + 1 * (y 0).val = t.val % 8; omega
    | 1 => show win0_24.index t 1 * 1024 + 1 * (y 1).val = 1024 * (t.val / 8) + (y 1).val; omega
    | 2 => show win0_24.index t 2 * 1024 + 1 * (y 2).val = (y 2).val; omega
  refine Eq.trans (b := Tail.sig ((blks m c t).proj ⟨(y 1).val, hy1⟩ ⟨2048 + (y 2).val, by omega⟩)) rfl ?_
  rw [blks_proj m c t _ _ (by dsimp only; omega)]
  exact (congrArg (argsOf m c).ga e).symm
theorem cover_ga (i : S8x4096x1024.Idx) : ∃ t : Fin cfg0.N, (cfg0.win 24).flush t = true ∧ i ∈ ((cfg0.win 24).blk t).view.set := by
  have h0 : (i 0 : Nat) < 8 := (i 0).isLt
  have h1 : (i 1 : Nat) < 4096 := (i 1).isLt
  have h2 : (i 2 : Nat) < 1024 := (i 2).isLt
  refine ⟨point (i 0 : Nat) (i 1 : Nat) h0 h1, flush0_24 _, ?_⟩
  obtain ⟨e0, e1, e2⟩ := index24 (point (i 0 : Nat) (i 1 : Nat) h0 h1)
  show i ∈ ((View.whole main_v118_5).slice (win0_24.rect (point (i 0 : Nat) (i 1 : Nat) h0 h1))).set
  rw [View.set_slice_whole, Rect.mem_set_unit]
  intro a
  match a with
  | 0 => show win0_24.index _ 0 * 1 ≤ (i 0 : Nat) ∧ (i 0 : Nat) < win0_24.index _ 0 * 1 + 1; rw [e0]; dsimp only [point]; omega
  | 1 => show win0_24.index _ 1 * 1024 ≤ (i 1 : Nat) ∧ (i 1 : Nat) < win0_24.index _ 1 * 1024 + 1024; rw [e1]; dsimp only [point]; omega
  | 2 => show win0_24.index _ 2 * 1024 ≤ (i 2 : Nat) ∧ (i 2 : Nat) < win0_24.index _ 2 * 1024 + 1024; rw [e2]; omega
theorem final_ga : (dats m 0 c).arrAt 24 cfg0.N = (argsOf m c).ga :=
  (dats m 0 c).arrAt_eq_of_cover 24 (argsOf m c).ga (fun t _ => flushed_ga m c t) cover_ga

theorem flushed_gs (t : Fin cfg0.N) : (dats m 0 c).flushed 25 t = ((cfg0.win 25).blk t).view.read (Elt Ideal) (argsOf m c).gs := by
  show (cfg0.win 25).cut (grid0.coords t) ((dats m 0 c).after 25 t) = _
  rw [after25, gs_block]
  obtain ⟨h0, h1, h2⟩ := index25 t
  funext y
  have hy0 : (y 0).val < 1 := (y 0).isLt
  have hy1 : (y 1).val < 1024 := (y 1).isLt
  have hy2 : (y 2).val < 1024 := (y 2).isLt
  have e : (win0_25.rect t).emb y = (ix3 (smp t) (pos t ⟨(y 1).val, hy1⟩) ⟨(y 2).val, hy2⟩ : S8x4096x1024.Idx) := by
    refine funext fun a => Fin.ext ?_
    match a with
    | 0 => show win0_25.index t 0 * 1 + 1 * (y 0).val = t.val % 8; omega
    | 1 => show win0_25.index t 1 * 1024 + 1 * (y 1).val = 1024 * (t.val / 8) + (y 1).val; omega
    | 2 => show win0_25.index t 2 * 1024 + 1 * (y 2).val = (y 2).val; omega
  refine Eq.trans (b := Tail.sig ((blks m c t).proj ⟨(y 1).val, hy1⟩ ⟨3072 + (y 2).val, by omega⟩)) rfl ?_
  rw [blks_proj m c t _ _ (by dsimp only; omega)]
  exact (congrArg (argsOf m c).gs e).symm
theorem cover_gs (i : S8x4096x1024.Idx) : ∃ t : Fin cfg0.N, (cfg0.win 25).flush t = true ∧ i ∈ ((cfg0.win 25).blk t).view.set := by
  have h0 : (i 0 : Nat) < 8 := (i 0).isLt
  have h1 : (i 1 : Nat) < 4096 := (i 1).isLt
  have h2 : (i 2 : Nat) < 1024 := (i 2).isLt
  refine ⟨point (i 0 : Nat) (i 1 : Nat) h0 h1, flush0_25 _, ?_⟩
  obtain ⟨e0, e1, e2⟩ := index25 (point (i 0 : Nat) (i 1 : Nat) h0 h1)
  show i ∈ ((View.whole main_v118_6).slice (win0_25.rect (point (i 0 : Nat) (i 1 : Nat) h0 h1))).set
  rw [View.set_slice_whole, Rect.mem_set_unit]
  intro a
  match a with
  | 0 => show win0_25.index _ 0 * 1 ≤ (i 0 : Nat) ∧ (i 0 : Nat) < win0_25.index _ 0 * 1 + 1; rw [e0]; dsimp only [point]; omega
  | 1 => show win0_25.index _ 1 * 1024 ≤ (i 1 : Nat) ∧ (i 1 : Nat) < win0_25.index _ 1 * 1024 + 1024; rw [e1]; dsimp only [point]; omega
  | 2 => show win0_25.index _ 2 * 1024 ≤ (i 2 : Nat) ∧ (i 2 : Nat) < win0_25.index _ 2 * 1024 + 1024; rw [e2]; omega
theorem final_gs : (dats m 0 c).arrAt 25 cfg0.N = (argsOf m c).gs :=
  (dats m 0 c).arrAt_eq_of_cover 25 (argsOf m c).gs (fun t _ => flushed_gs m c t) cover_gs

end Cert.Kernel2Ideal.Project

end
-- ==== Proof.InTurn.lean ====
/-
  THE ROTARY EMBEDDING OF A ROW. Channels come in pairs 16 apart; each pair is turned by an angle, the position's grid row or column
  times a frequency. Stated with the sines beside the pairs, and as three tables with zeros where a neighbour is not of the pair.
-/
module

public import proofs.«01_k».proof.Proof.InRow

@[expose] public section

noncomputable section

namespace Cert.Project

open Idealize.ShloMosaic Idealize.ShloMosaic.Pointwise Cert.Tail

/-- The grid coordinate a channel is turned by: the row in the first half of a head, the column in the second. -/
def coord (s : Fin 4096) (c : Fin 512) : ℕ := if c.val / 32 % 2 = 1 then s.val % 64 else s.val / 64
/-- The angle at a position and channel. -/
def angle (f : Fin 16 → EReal) (s : Fin 4096) (c : Fin 512) : EReal :=
  (((BitVec.ofNat 32 (coord s c)).toInt : ℝ) : EReal) * f ⟨c.val % 16, by omega⟩
/-- A row of 512 channels, turned. -/
def turned (f : Fin 16 → EReal) (s : Fin 4096) (z : Row 512) : Row 512 := fun c =>
  if h : c.val % 32 < 16 then z c * Ideal.cos (angle f s c) - z ⟨c.val + 16, by omega⟩ * Ideal.sin (angle f s c)
  else z c * Ideal.cos (angle f s c) + z ⟨c.val - 16, by omega⟩ * Ideal.sin (angle f s c)

/-- The same from three tables: the channel itself, the one 16 above and the one 16 below, around the 128 of a head pair. -/
def spun (C A S : Row 128) (z : Row 512) : Row 512 := fun c =>
  z c * C ⟨c.val % 128, by omega⟩ + z ⟨c.val / 128 * 128 + (c.val + 16) % 128, by omega⟩ * A ⟨c.val % 128, by omega⟩
    + z ⟨c.val / 128 * 128 + (c.val + 112) % 128, by omega⟩ * S ⟨c.val % 128, by omega⟩

theorem spun_eq (f : Fin 16 → EReal) (s : Fin 4096) (C A S : Row 128) (z : Row 512) (c : Fin 512)
    (hC : C ⟨c.val % 128, by omega⟩ = Ideal.cos (angle f s c))
    (hA : A ⟨c.val % 128, by omega⟩ = if c.val % 32 < 16 then -Ideal.sin (angle f s c) else 0)
    (hS : S ⟨c.val % 128, by omega⟩ = if c.val % 32 < 16 then 0 else Ideal.sin (angle f s c)) :
    spun C A S z c = turned f s z c := by
  have hc := c.isLt
  unfold spun turned
  rw [hC, hA, hS]
  by_cases h : c.val % 32 < 16
  · rw [dif_pos h, if_pos h, if_pos h, mul_zero, add_zero, mul_neg, ← sub_eq_add_neg]
    refine congrArg (fun k => z c * _ - z k * _) (Fin.ext ?_)
    show c.val / 128 * 128 + (c.val + 16) % 128 = c.val + 16
    omega
  · rw [dif_neg h, if_neg h, if_neg h, mul_zero, add_zero]
    refine congrArg (fun k => z c * _ + z k * _) (Fin.ext ?_)
    show c.val / 128 * 128 + (c.val + 112) % 128 = c.val - 16
    omega

/-- A factor that is neither negative nor infinite comes out of a row's turn, and out of a product with a matrix. -/
theorem turned_scale (f : Fin 16 → EReal) (s : Fin 4096) (z : Row 512) (k : EReal) (h0 : 0 ≤ k) (h1 : k ≠ ⊤) (c : Fin 512) :
    turned f s (fun n => z n * k) c = turned f s z c * k := by
  have e : ∀ a b : EReal, a * k * b = a * b * k := fun a b => mul_right_comm a k b
  unfold turned
  split
  · rw [e, e, sub_eq_add_neg, sub_eq_add_neg, EReal.right_distrib_of_nonneg_of_ne_top h0 h1, EReal.neg_mul]
  · rw [e, e, EReal.right_distrib_of_nonneg_of_ne_top h0 h1]
theorem sum_scale {n : ℕ} (g : Fin n → EReal) (k : EReal) (h0 : 0 ≤ k) (h1 : k ≠ ⊤) : ∑ i, g i * k = (∑ i, g i) * k := by
  generalize (Finset.univ : Finset (Fin n)) = T
  induction T using Finset.induction_on with
  | empty => simp
  | insert a T ha ih => rw [Finset.sum_insert ha, Finset.sum_insert ha, ih, EReal.right_distrib_of_nonneg_of_ne_top h0 h1]

variable (A : Arrays)

/-- Position `p` of a group of 256. -/
def group (g : Fin 16) (p : Fin 256) : Fin 4096 := ⟨256 * g.val + p.val, by omega⟩

/-- The queries by head pairs, scaled, and the keys by groups of 256 positions. -/
def Arrays.q (f : Fin 16 → EReal) (k : EReal) : (⟨4, ![8, 4, 4096, 128]⟩ : Shape).Idx → EReal := fun i =>
  turned f (i 2) (fun n => A.proj (i 0) (i 2) ⟨n.val, by omega⟩) ⟨128 * (i 1).val + (i 3).val, by
    have h1 : (i 1).val < 4 := (i 1).isLt
    have h3 : (i 3).val < 128 := (i 3).isLt
    omega⟩ * k
def Arrays.k (f : Fin 16 → EReal) : (⟨4, ![8, 16, 512, 256]⟩ : Shape).Idx → EReal := fun i =>
  turned f (group (i 1) (i 3)) (fun n => A.proj (i 0) (group (i 1) (i 3)) ⟨512 + n.val, by omega⟩) (i 2)

end Cert.Project
end
-- ==== Proof.InRope.lean ====
/-
  THE PIECES OF THE QUERIES AND KEYS. A half's product with 512 columns is cut into head pairs of 128 channels; each is turned by three
  tables and stored, the queries as they are and the keys transposed in two runs of 256 positions. Each piece is read at an index.
-/
module

public import proofs.«01_k».proof.Proof.InTurn
public import proofs.«01_k».proof.Proof.Gen.Kernel2Ideal.Skeleton
public import Idealize.ShloMosaic.Lib.KernelVsHost

@[expose] public section

set_option maxRecDepth 16384
set_option maxHeartbeats 1000000

noncomputable section

namespace Cert.Kernel2Ideal.Project

open Idealize.ShloMosaic Idealize.ShloMosaic.TcCoe Idealize.ShloMosaic.Pointwise
open Cert.Kernel2Ideal Cert.Kernel2Ideal.Gen Cert.Tail Cert.Project

/-- A half's rows times 512 columns, before any rounding. -/
abbrev cols (a : FVec Ideal S512x1024 .bf16) (W : Vec Ideal S1024x512 .bf16) : FVec Ideal S512x512 .f32 := k0_pay295 a (k0_pay294 W)
theorem cols_apply (a : FVec Ideal S512x1024 .bf16) (W : Vec Ideal S1024x512 .bf16) (r : Fin 512) (k : Fin 512) :
    cols a W (ix2 r k) = ∑ i : Fin 1024, a (ix2 r i) * W (ix2 i k) := by
  pointwise [cols, k0_pay295, k0_pay294]

variable (D : FVec Ideal S512x512 .f32) (C A S : FVec Ideal S512x128 .f32)

/-- The head pair that starts at column `o`, turned by the tables. -/
abbrev roped (o : ℕ) (h : Shape.Slices S512x512 ![0, o] S512x128) : FVec Ideal S512x128 .f32 :=
  addf (addf (mulf (extractStridedSlice S512x128 ![0, o] D h) C)
      (mulf (dynamicRotate 1 112#32 none (extractStridedSlice S512x128 ![0, o] D h) rotates_S512x128_d1) A))
    (mulf (dynamicRotate 1 16#32 none (extractStridedSlice S512x128 ![0, o] D h) rotates_S512x128_d1) S)

theorem cut_apply (o : ℕ) (ho : o + 128 ≤ 512) (h) (r : Fin 512) (k : Fin 128) :
    extractStridedSlice S512x128 ![0, o] D h (ix2 r k) = D (ix2 r ⟨o + k.val, by omega⟩) := by
  refine congrArg D (funext fun a => Fin.ext ?_)
  match a with
  | 0 => show 0 + r.val = r.val; omega
  | 1 => rfl
theorem rotated_apply (x : FVec Ideal S512x128 .f32) (n : BitVec 32) (r : Fin 512) (k : Fin 128) :
    dynamicRotate 1 n none x rotates_S512x128_d1 (ix2 r k) = x (ix2 r ⟨(k.val + 128 - n.toNat % 128) % 128, by omega⟩) :=
  Idealize.ShloMosaic.dynamicRotate_apply (s := S512x128) 1 n x _ _ _ fun b => by
    match b with
    | 0 => rfl
    | 1 => rfl

theorem roped_apply (q : ℕ) (hq : q < 4) (h) (r : Fin 512) (k : Fin 128) :
    roped D C A S (128 * q) h (ix2 r k)
      = spun (fun n => C (ix2 r n)) (fun n => A (ix2 r n)) (fun n => S (ix2 r n)) (fun n => D (ix2 r n)) ⟨128 * q + k.val, by omega⟩ := by
  have hk : (⟨(128 * q + k.val) % 128, by omega⟩ : Fin 128) = k := Fin.ext (show (128 * q + k.val) % 128 = k.val by omega)
  have e : ∀ (j : Fin 128) (n : Fin 512), 128 * q + j.val = n.val → extractStridedSlice S512x128 ![0, 128 * q] D h (ix2 r j) = D (ix2 r n) := fun j n hn =>
    (cut_apply D _ (by omega) h r j).trans (congrArg (fun i => D (ix2 r i)) (Fin.ext hn))
  unfold spun
  rw [hk]
  show extractStridedSlice S512x128 ![0, 128 * q] D h (ix2 r k) * C (ix2 r k) + dynamicRotate 1 112#32 none _ rotates_S512x128_d1 (ix2 r k) * A (ix2 r k)
    + dynamicRotate 1 16#32 none _ rotates_S512x128_d1 (ix2 r k) * S (ix2 r k) = _
  rw [rotated_apply, rotated_apply]
  refine congrArg₂ (· + ·) (congrArg₂ (· + ·) (congrArg (· * _) (e _ _ rfl)) (congrArg (· * _) (e _ _ ?_))) (congrArg (· * _) (e _ _ ?_))
  · show 128 * q + (k.val + 128 - 112 % 128) % 128 = (128 * q + k.val) / 128 * 128 + (128 * q + k.val + 16) % 128
    omega
  · show 128 * q + (k.val + 128 - 16 % 128) % 128 = (128 * q + k.val) / 128 * 128 + (128 * q + k.val + 112) % 128
    omega

/-- A piece of the queries, and one of the keys: 256 positions from `g` on. -/
abbrev qPart (o : ℕ) (h : Shape.Slices S512x512 ![0, o] S512x128) : FVec Ideal S1x1x512x128 .bf16 :=
  shapeCast S1x1x512x128 (truncf .bf16 (roped D C A S o h) bitsLt_bf16_f32) shapeCasts_S512x128_S1x1x512x128
abbrev kPart (o g : ℕ) (h : Shape.Slices S512x512 ![0, o] S512x128) (h' : Shape.Slices S128x512 ![0, g] S128x256) : FVec Ideal S1x1x128x256 .bf16 :=
  shapeCast S1x1x128x256 (extractStridedSlice S128x256 ![0, g]
    (truncf .bf16 (transpose S128x512 [1, 0] (roped D C A S o h) transposes_S512x128_p1_0_S128x512) bitsLt_bf16_f32) h') shapeCasts_S128x256_S1x1x128x256

theorem qPart_apply (o : ℕ) (h) (r : Fin 512) (k : Fin 128) : qPart D C A S o h (ix4 0 0 r k) = roped D C A S o h (ix2 r k) := by
  refine (shapeCast_apply (s := S512x128) (t := S1x1x512x128) _ _ _ (ix2 r k) ?_).trans rfl
  rw [Shape.rowMajor_val_two, Shape.rowMajor_val_four]
  show r.val * 128 + k.val = ((0 * 1 + 0) * 512 + r.val) * 128 + k.val
  omega
theorem kPart_apply (o g : ℕ) (hg : g + 256 ≤ 512) (h h') (d : Fin 128) (j : Fin 256) :
    kPart D C A S o g h h' (ix4 0 0 d j) = roped D C A S o h (ix2 ⟨g + j.val, by omega⟩ d) := by
  refine (shapeCast_apply (s := S128x256) (t := S1x1x128x256) _ _ _ (ix2 d j) ?_).trans ?_
  · rw [Shape.rowMajor_val_two, Shape.rowMajor_val_four]
    show d.val * 256 + j.val = ((0 * 1 + 0) * 128 + d.val) * 256 + j.val
    omega
  · show roped D C A S o h _ = _
    refine congrArg _ (funext fun a => Fin.ext ?_)
    match a with
    | 0 => rfl
    | 1 => show 0 + d.val = d.val; omega

end Cert.Kernel2Ideal.Project
end
-- ==== Proof.InPair.lean ====
/-
  THE BLOCKS OF THE QUERIES AND KEYS. Each piece stored holds, of its positions and channels, the projected rows turned by the tables.
-/
module

public import proofs.«01_k».proof.Proof.InBody
public import proofs.«01_k».proof.Proof.InRope

@[expose] public section

set_option maxRecDepth 16384
set_option maxHeartbeats 1000000

noncomputable section

namespace Cert.Kernel2Ideal.Project

open Idealize.ShloMosaic Idealize.ShloMosaic.TcCoe Idealize.ShloMosaic.Pointwise
open Cert.Kernel2Ideal Cert.Kernel2Ideal.Gen Cert.Kernel2Ideal.Frame Cert.Tail Cert.Project

/-- The three tables' blocks. -/
structure Tables where
  C : Vec Ideal S1024x128 .f32
  A : Vec Ideal S1024x128 .f32
  S : Vec Ideal S1024x128 .f32

variable (B : Blocks) (T : Tables)

/-- A block's projected columns from `o` on, turned by the tables. -/
def Blocks.spun (o : ℕ) (ho : o + 512 ≤ 4096) (R : Fin 1024) : Row 512 :=
  Project.spun (fun n => T.C (ix2 R n)) (fun n => T.A (ix2 R n)) (fun n => T.S (ix2 R n)) (fun n => B.proj R ⟨o + n.val, by omega⟩)
def Blocks.outQ : Vec Ideal S1x4x1024x128 .bf16 := fun y => B.spun T 0 (by decide) (y 2) ⟨128 * (y 1).val + (y 3).val, by
  have h1 : (y 1).val < 4 := (y 1).isLt
  have h3 : (y 3).val < 128 := (y 3).isLt
  omega⟩
def Blocks.outK : Vec Ideal S1x4x512x256 .bf16 := fun y => B.spun T 512 (by decide) ⟨256 * (y 1).val + (y 3).val, by
  have h1 : (y 1).val < 4 := (y 1).isLt
  have h3 : (y 3).val < 256 := (y 3).isLt
  omega⟩ (y 2)

/-- What a half that starts at position `p` works with: its rows, 512 columns of the matrix from `o` on, and its rows of the tables. -/
structure Half (p o : ℕ) where
  hp : p + 512 ≤ 1024
  ho : o + 512 ≤ 4096
  a : FVec Ideal S512x1024 .bf16
  W : Vec Ideal S1024x512 .bf16
  C : FVec Ideal S512x128 .f32
  A : FVec Ideal S512x128 .f32
  S : FVec Ideal S512x128 .f32
  ha : ∀ (r : Fin 512) (n : Fin 1024), a (ix2 r n) = B.row ⟨p + r.val, by omega⟩ n
  hW : ∀ (i : Fin 1024) (k : Fin 512), W (ix2 i k) = B.x3 (ix2 i ⟨o + k.val, by omega⟩)
  hC : ∀ (r : Fin 512) (n : Fin 128), C (ix2 r n) = T.C (ix2 ⟨p + r.val, by omega⟩ n)
  hA : ∀ (r : Fin 512) (n : Fin 128), A (ix2 r n) = T.A (ix2 ⟨p + r.val, by omega⟩ n)
  hS : ∀ (r : Fin 512) (n : Fin 128), S (ix2 r n) = T.S (ix2 ⟨p + r.val, by omega⟩ n)

variable {B T} {p o : ℕ} (H : Half B T p o)

theorem half_apply' (q : ℕ) (hq : q < 4) (h) (r : Fin 512) (k : Fin 128) :
    roped (cols H.a H.W) H.C H.A H.S (128 * q) h (ix2 r k) = B.spun T o H.ho ⟨p + r.val, by have := H.hp; omega⟩ ⟨128 * q + k.val, by omega⟩ := by
  rw [roped_apply _ _ _ _ q hq h r k]
  unfold Blocks.spun
  congr 1
  · exact funext (H.hC r)
  · exact funext (H.hA r)
  · exact funext (H.hS r)
  · exact funext fun n => (cols_apply _ _ r n).trans (proj_part B H.a H.W p o H.hp H.ho H.ha H.hW r n)

theorem q_piece (H : Half B T p 0) (q : ℕ) (hq : q < 4) (h) (inb : ∀ a, (![0, q, p, 0] : Fin 4 → ℕ) a + S1x1x512x128.size a ≤ S1x4x1024x128.size a) (y : S1x1x512x128.Idx) :
    qPart (cols H.a H.W) H.C H.A H.S (128 * q) h y = B.outQ T ((Rect.unit (s := S1x4x1024x128) ![0, q, p, 0] S1x1x512x128.size inb).emb y) := by
  have h2 : (y 2).val < 512 := (y 2).isLt
  have h3 : (y 3).val < 128 := (y 3).isLt
  have e1 : (y 1).val = 0 := by have : (y 1).val < 1 := (y 1).isLt; omega
  have e : y = ix4 0 0 ⟨(y 2).val, h2⟩ ⟨(y 3).val, h3⟩ := by
    funext a; match a with
    | 0 => exact Fin.ext (by have : (y 0).val < 1 := (y 0).isLt; show (y 0).val = 0; omega)
    | 1 => exact Fin.ext e1
    | 2 => rfl
    | 3 => rfl
  rw [e]
  refine (qPart_apply _ _ _ _ _ h _ _).trans ((half_apply' H q hq h _ _).trans ?_)
  show B.spun T 0 _ _ _ = B.spun T 0 _ _ _
  congr 1
  · exact Fin.ext (show p + (y 2).val = p + 1 * (y 2).val by omega)
  · refine Fin.ext ?_
    show 128 * q + (y 3).val = 128 * (q + 1 * 0) + (0 + 1 * (y 3).val)
    omega

theorem k_piece (H : Half B T p 512) (q g G : ℕ) (hq : q < 4) (hg : g + 256 ≤ 512) (hG : 256 * G = p + g) (h h') (inb : ∀ a, (![0, G, 128 * q, 0] : Fin 4 → ℕ) a + S1x1x128x256.size a ≤ S1x4x512x256.size a) (y : S1x1x128x256.Idx) :
    kPart (cols H.a H.W) H.C H.A H.S (128 * q) g h h' y = B.outK T ((Rect.unit (s := S1x4x512x256) ![0, G, 128 * q, 0] S1x1x128x256.size inb).emb y) := by
  have h2 : (y 2).val < 128 := (y 2).isLt
  have h3 : (y 3).val < 256 := (y 3).isLt
  have e1 : (y 1).val = 0 := by have : (y 1).val < 1 := (y 1).isLt; omega
  have e : y = ix4 0 0 ⟨(y 2).val, h2⟩ ⟨(y 3).val, h3⟩ := by
    funext a; match a with
    | 0 => exact Fin.ext (by have : (y 0).val < 1 := (y 0).isLt; show (y 0).val = 0; omega)
    | 1 => exact Fin.ext e1
    | 2 => rfl
    | 3 => rfl
  rw [e]
  refine (kPart_apply _ _ _ _ _ g hg h h' _ _).trans ((half_apply' H q hq h _ _).trans ?_)
  show B.spun T 512 _ _ _ = B.spun T 512 _ _ _
  congr 1
  · refine Fin.ext ?_
    show p + (g + (y 3).val) = 256 * (G + 1 * 0) + (0 + 1 * (y 3).val)
    omega
  · exact Fin.ext (show 128 * q + (y 2).val = 128 * q + 1 * (y 2).val by omega)

variable (m : (ℓ : Loc nD τ sig) → Buf (Elt Ideal) ℓ) (c : Dev nD) (t : Fin cfg0.N)

/-- The tables of a point. -/
def tabs : Tables := ⟨iblk m c 4 t, iblk m c 5 t, iblk m c 6 t⟩
abbrev hw4 (t : Fin cfg0.N) : (st0_4 t).IsWhole := hstage0_4 ((cfg0.slots t 4).cast nbuf0_4)
abbrev hw5 (t : Fin cfg0.N) : (st0_5 t).IsWhole := hstage0_5 ((cfg0.slots t 5).cast nbuf0_5)
abbrev hw6 (t : Fin cfg0.N) : (st0_6 t).IsWhole := hstage0_6 ((cfg0.slots t 6).cast nbuf0_6)

/-- A load of 512 rows of a table's block. -/
abbrev tab (b : Memref sig .tc .vmem S1024x128 .f32) (hb : b.IsWhole) (X : Vec Ideal S1024x128 .f32) (p : ℕ) (inb : ∀ a, (![p, 0] : Fin 2 → ℕ) a + S512x128.size a ≤ S1024x128.size a) : Vec Ideal S512x128 .f32 :=
  View.readAt (Elt Ideal) b.view (Rect.unit (s := S1024x128) ![p, 0] S512x128.size inb).toLoadRect (hb.unread X)
theorem tab_apply (b : Memref sig .tc .vmem S1024x128 .f32) (hb : b.IsWhole) (X : Vec Ideal S1024x128 .f32) (p : ℕ) (hp : p + 512 ≤ 1024) (inb) (r : Fin 512) (n : Fin 128) :
    shapeCast S512x128 (tab b hb X p inb) shapeCasts_S512x128_S512x128 (ix2 r n) = X (ix2 ⟨p + r.val, by omega⟩ n) := by
  rw [shapeCast_id]
  refine (Memref.IsWhole.readAt_unread hb X _ _).trans (congrArg X (funext fun a => Fin.ext ?_))
  match a with
  | 0 => show p + 1 * r.val = p + r.val; omega
  | 1 => show 0 + 1 * n.val = n.val; omega

/-- The columns of the matrix a half is multiplied with. -/
abbrev wcols (o : ℕ) (inb : ∀ a, (![0, o] : Fin 2 → ℕ) a + S1024x512.size a ≤ S1024x4096.size a) : Vec Ideal S1024x512 .bf16 :=
  View.readAt (Elt Ideal) (st0_3 t).view (Rect.unit (s := S1024x4096) ![0, o] S1024x512.size inb).toLoadRect ((hw3 t).unread (iblk m c 3 t))

/-- A point's half. -/
abbrev halfAt (p o : ℕ) (hp : p + 512 ≤ 1024) (ho : o + 512 ≤ 4096) (a : FVec Ideal S512x1024 .bf16) (ha : ∀ (r : Fin 512) (n : Fin 1024), a (ix2 r n) = (blks m c t).row ⟨p + r.val, by omega⟩ n)
    (inb : ∀ a, (![p, 0] : Fin 2 → ℕ) a + S512x128.size a ≤ S1024x128.size a) (inb' : ∀ a, (![0, o] : Fin 2 → ℕ) a + S1024x512.size a ≤ S1024x4096.size a) : Half (blks m c t) (tabs m c t) p o where
  hp := hp
  ho := ho
  a := a
  W := wcols m c t o inb'
  C := shapeCast S512x128 (tab (st0_4 t) (hw4 t) (iblk m c 4 t) p inb) shapeCasts_S512x128_S512x128
  A := shapeCast S512x128 (tab (st0_5 t) (hw5 t) (iblk m c 5 t) p inb) shapeCasts_S512x128_S512x128
  S := shapeCast S512x128 (tab (st0_6 t) (hw6 t) (iblk m c 6 t) p inb) shapeCasts_S512x128_S512x128
  ha := ha
  hW := fun i k => ld2 (st0_3 t) (hw3 t) (iblk m c 3 t) o 512 (by omega) inb' i k
  hC := tab_apply _ _ _ p hp inb
  hA := tab_apply _ _ _ p hp inb
  hS := tab_apply _ _ _ p hp inb
/-- The two halves, with the columns from `o` on. -/
abbrev lo (o : ℕ) (ho : o + 512 ≤ 4096) (inb') := halfAt m c t 0 o (by decide) ho _ (lo_row m c t) inb_S1024x128_S512x128_0_0 inb'
abbrev hi (o : ℕ) (ho : o + 512 ≤ 4096) (inb') := halfAt m c t 512 o (by decide) ho _ (hi_row m c t) inb_S1024x128_S512x128_512_0 inb'

end Cert.Kernel2Ideal.Project
end
-- ==== Proof.InQueries.lean ====
/-
  THE QUERIES' BLOCK: its eight pieces are the turned rows.
-/
module

public import proofs.«01_k».proof.Proof.InPair

@[expose] public section

set_option maxRecDepth 16384
set_option maxHeartbeats 1000000

noncomputable section

namespace Cert.Kernel2Ideal.Project

open Idealize.ShloMosaic Idealize.ShloMosaic.TcCoe Idealize.ShloMosaic.Pointwise
open Cert.Kernel2Ideal Cert.Kernel2Ideal.Gen Cert.Kernel2Ideal.Frame Cert.Tail Cert.Project

variable (m : (ℓ : Loc nD τ sig) → Buf (Elt Ideal) ℓ) (c : Dev nD) (t : Fin cfg0.N)

set_option maxHeartbeats 16000000 in
theorem q_block : left (runAt m c t).1.w19 = (blks m c t).outQ (tabs m c t) := by
  unfold left
  funext y
  refine View.canon_apply_of_pieces ((blks m c t).outQ (tabs m c t)) _ ?_ y (cover19 m c t y)
  unfold runAt bodyRun
  dsimp only
  refine List.forall_mem_cons.2 ⟨q_piece (hi m c t 0 (by decide) inb_S1024x4096_S1024x512_0_0) 3 (by decide) slices_S512x512_o0_384_S512x128 inb_S1x4x1024x128_S1x1x512x128_0_3_512_0, ?_⟩
  refine List.forall_mem_cons.2 ⟨q_piece (hi m c t 0 (by decide) inb_S1024x4096_S1024x512_0_0) 2 (by decide) slices_S512x512_o0_256_S512x128 inb_S1x4x1024x128_S1x1x512x128_0_2_512_0, ?_⟩
  refine List.forall_mem_cons.2 ⟨q_piece (hi m c t 0 (by decide) inb_S1024x4096_S1024x512_0_0) 1 (by decide) slices_S512x512_o0_128_S512x128 inb_S1x4x1024x128_S1x1x512x128_0_1_512_0, ?_⟩
  refine List.forall_mem_cons.2 ⟨q_piece (hi m c t 0 (by decide) inb_S1024x4096_S1024x512_0_0) 0 (by decide) slices_S512x512_o0_0_S512x128 inb_S1x4x1024x128_S1x1x512x128_0_0_512_0, ?_⟩
  refine List.forall_mem_cons.2 ⟨q_piece (lo m c t 0 (by decide) inb_S1024x4096_S1024x512_0_0) 3 (by decide) slices_S512x512_o0_384_S512x128 inb_S1x4x1024x128_S1x1x512x128_0_3_0_0, ?_⟩
  refine List.forall_mem_cons.2 ⟨q_piece (lo m c t 0 (by decide) inb_S1024x4096_S1024x512_0_0) 2 (by decide) slices_S512x512_o0_256_S512x128 inb_S1x4x1024x128_S1x1x512x128_0_2_0_0, ?_⟩
  refine List.forall_mem_cons.2 ⟨q_piece (lo m c t 0 (by decide) inb_S1024x4096_S1024x512_0_0) 1 (by decide) slices_S512x512_o0_128_S512x128 inb_S1x4x1024x128_S1x1x512x128_0_1_0_0, ?_⟩
  refine List.forall_mem_cons.2 ⟨q_piece (lo m c t 0 (by decide) inb_S1024x4096_S1024x512_0_0) 0 (by decide) slices_S512x512_o0_0_S512x128 inb_S1x4x1024x128_S1x1x512x128_0_0_0_0, ?_⟩
  exact fun p hp => absurd hp List.not_mem_nil

end Cert.Kernel2Ideal.Project
end
-- ==== Proof.InKeys.lean ====
/-
  THE KEYS' BLOCK: its sixteen pieces are the turned rows, transposed.
-/
module

public import proofs.«01_k».proof.Proof.InPair

@[expose] public section

set_option maxRecDepth 16384
set_option maxHeartbeats 1000000

noncomputable section

namespace Cert.Kernel2Ideal.Project

open Idealize.ShloMosaic Idealize.ShloMosaic.TcCoe Idealize.ShloMosaic.Pointwise
open Cert.Kernel2Ideal Cert.Kernel2Ideal.Gen Cert.Kernel2Ideal.Frame Cert.Tail Cert.Project

variable (m : (ℓ : Loc nD τ sig) → Buf (Elt Ideal) ℓ) (c : Dev nD) (t : Fin cfg0.N)

set_option maxHeartbeats 16000000 in
theorem k_block : left (runAt m c t).1.w20 = (blks m c t).outK (tabs m c t) := by
  unfold left
  funext y
  refine View.canon_apply_of_pieces ((blks m c t).outK (tabs m c t)) _ ?_ y (cover20 m c t y)
  unfold runAt bodyRun
  dsimp only
  refine List.forall_mem_cons.2 ⟨k_piece (hi m c t 512 (by decide) inb_S1024x4096_S1024x512_0_512) 3 256 3 (by decide) (by decide) rfl slices_S512x512_o0_384_S512x128 slices_S128x512_o0_256_S128x256 inb_S1x4x512x256_S1x1x128x256_0_3_384_0, ?_⟩
  refine List.forall_mem_cons.2 ⟨k_piece (hi m c t 512 (by decide) inb_S1024x4096_S1024x512_0_512) 3 0 2 (by decide) (by decide) rfl slices_S512x512_o0_384_S512x128 slices_S128x512_o0_0_S128x256 inb_S1x4x512x256_S1x1x128x256_0_2_384_0, ?_⟩
  refine List.forall_mem_cons.2 ⟨k_piece (hi m c t 512 (by decide) inb_S1024x4096_S1024x512_0_512) 2 256 3 (by decide) (by decide) rfl slices_S512x512_o0_256_S512x128 slices_S128x512_o0_256_S128x256 inb_S1x4x512x256_S1x1x128x256_0_3_256_0, ?_⟩
  refine List.forall_mem_cons.2 ⟨k_piece (hi m c t 512 (by decide) inb_S1024x4096_S1024x512_0_512) 2 0 2 (by decide) (by decide) rfl slices_S512x512_o0_256_S512x128 slices_S128x512_o0_0_S128x256 inb_S1x4x512x256_S1x1x128x256_0_2_256_0, ?_⟩
  refine List.forall_mem_cons.2 ⟨k_piece (hi m c t 512 (by decide) inb_S1024x4096_S1024x512_0_512) 1 256 3 (by decide) (by decide) rfl slices_S512x512_o0_128_S512x128 slices_S128x512_o0_256_S128x256 inb_S1x4x512x256_S1x1x128x256_0_3_128_0, ?_⟩
  refine List.forall_mem_cons.2 ⟨k_piece (hi m c t 512 (by decide) inb_S1024x4096_S1024x512_0_512) 1 0 2 (by decide) (by decide) rfl slices_S512x512_o0_128_S512x128 slices_S128x512_o0_0_S128x256 inb_S1x4x512x256_S1x1x128x256_0_2_128_0, ?_⟩
  refine List.forall_mem_cons.2 ⟨k_piece (hi m c t 512 (by decide) inb_S1024x4096_S1024x512_0_512) 0 256 3 (by decide) (by decide) rfl slices_S512x512_o0_0_S512x128 slices_S128x512_o0_256_S128x256 inb_S1x4x512x256_S1x1x128x256_0_3_0_0, ?_⟩
  refine List.forall_mem_cons.2 ⟨k_piece (hi m c t 512 (by decide) inb_S1024x4096_S1024x512_0_512) 0 0 2 (by decide) (by decide) rfl slices_S512x512_o0_0_S512x128 slices_S128x512_o0_0_S128x256 inb_S1x4x512x256_S1x1x128x256_0_2_0_0, ?_⟩
  refine List.forall_mem_cons.2 ⟨k_piece (lo m c t 512 (by decide) inb_S1024x4096_S1024x512_0_512) 3 256 1 (by decide) (by decide) rfl slices_S512x512_o0_384_S512x128 slices_S128x512_o0_256_S128x256 inb_S1x4x512x256_S1x1x128x256_0_1_384_0, ?_⟩
  refine List.forall_mem_cons.2 ⟨k_piece (lo m c t 512 (by decide) inb_S1024x4096_S1024x512_0_512) 3 0 0 (by decide) (by decide) rfl slices_S512x512_o0_384_S512x128 slices_S128x512_o0_0_S128x256 inb_S1x4x512x256_S1x1x128x256_0_0_384_0, ?_⟩
  refine List.forall_mem_cons.2 ⟨k_piece (lo m c t 512 (by decide) inb_S1024x4096_S1024x512_0_512) 2 256 1 (by decide) (by decide) rfl slices_S512x512_o0_256_S512x128 slices_S128x512_o0_256_S128x256 inb_S1x4x512x256_S1x1x128x256_0_1_256_0, ?_⟩
  refine List.forall_mem_cons.2 ⟨k_piece (lo m c t 512 (by decide) inb_S1024x4096_S1024x512_0_512) 2 0 0 (by decide) (by decide) rfl slices_S512x512_o0_256_S512x128 slices_S128x512_o0_0_S128x256 inb_S1x4x512x256_S1x1x128x256_0_0_256_0, ?_⟩
  refine List.forall_mem_cons.2 ⟨k_piece (lo m c t 512 (by decide) inb_S1024x4096_S1024x512_0_512) 1 256 1 (by decide) (by decide) rfl slices_S512x512_o0_128_S512x128 slices_S128x512_o0_256_S128x256 inb_S1x4x512x256_S1x1x128x256_0_1_128_0, ?_⟩
  refine List.forall_mem_cons.2 ⟨k_piece (lo m c t 512 (by decide) inb_S1024x4096_S1024x512_0_512) 1 0 0 (by decide) (by decide) rfl slices_S512x512_o0_128_S512x128 slices_S128x512_o0_0_S128x256 inb_S1x4x512x256_S1x1x128x256_0_0_128_0, ?_⟩
  refine List.forall_mem_cons.2 ⟨k_piece (lo m c t 512 (by decide) inb_S1024x4096_S1024x512_0_512) 0 256 1 (by decide) (by decide) rfl slices_S512x512_o0_0_S512x128 slices_S128x512_o0_256_S128x256 inb_S1x4x512x256_S1x1x128x256_0_1_0_0, ?_⟩
  refine List.forall_mem_cons.2 ⟨k_piece (lo m c t 512 (by decide) inb_S1024x4096_S1024x512_0_512) 0 0 0 (by decide) (by decide) rfl slices_S512x512_o0_0_S512x128 slices_S128x512_o0_0_S128x256 inb_S1x4x512x256_S1x1x128x256_0_0_0_0, ?_⟩
  exact fun p hp => absurd hp List.not_mem_nil

end Cert.Kernel2Ideal.Project
end
-- ==== Proof.InTable.lean ====
/-
  THE ROTARY TABLES. The three arrays the projection's program builds before its kernel, of cosines and of sines with zeros where a
  neighbour is not of the pair, read at a position and a channel of a head pair; and what a row turned by them is.
-/
module

public import proofs.«01_k».proof.Proof.InStart
public import proofs.«01_k».proof.Proof.InTurn
public import Idealize.ShloMosaic.Lib.Pipeline.Value
public import Idealize.ShloMosaic.Lib.Pointwise

@[expose] public section

set_option maxRecDepth 16384
set_option maxHeartbeats 1000000

noncomputable section

namespace Cert.Kernel2Ideal.Project

open Idealize.ShloMosaic Idealize.ShloMosaic.TcCoe Idealize.ShloMosaic.Pointwise Idealize.SL.Sem
open Cert.Kernel2Ideal Cert.Kernel2Ideal.Gen Cert.Kernel2Ideal.Frame Cert.Tail Cert.Project

variable (m : (ℓ : Loc nD τ sig) → Buf (Elt Ideal) ℓ) (c : Dev nD)

/-- The sixteen frequencies, as an array and one by one. -/
abbrev freqs : FVec Ideal S16 .f32 := fun i => FloatOps.ofBits .f32 (lit0 (S16.rowMajor i))
def freq : Fin 16 → EReal := fun j => freqs (ix1 j)

/-- Whether a channel is turned by the grid's column, and whether it is the first of its pair. -/
abbrev byCol : IVec S128 1 := cmpi .eq (shapeCast S128 (iotaInDim S2x2x32 32 1) shapeCasts_S2x2x32_S128) (broadcastInDim S128 ![] bcast_S_S128 (constantI S_ 32 1#32))
abbrev isFirst : IVec S128 1 := cmpi .eq (shapeCast S128 (iotaInDim S4x2x16 32 1) shapeCasts_S4x2x16_S128) (broadcastInDim S128 ![] bcast_S_S128 (constantI S_ 32 0#32))
/-- The angles, and the three tables. -/
abbrev anglesT : FVec Ideal S4096x128 .f32 :=
  mulf (sitofp .f32 (select (broadcastInDim S4096x128 ![0, 1] bcast_S1x128_S4096x128_0_1 (broadcastInDim S1x128 ![1] bcast_S128_S1x128_1 byCol))
      (broadcastInDim S4096x128 ![0, 1] bcast_S4096x1_S4096x128_0_1 (broadcastInDim S4096x1 ![0] bcast_S4096_S4096x1_0 (shapeCast S4096 (iotaInDim S64x64 32 1) shapeCasts_S64x64_S4096)))
      (broadcastInDim S4096x128 ![0, 1] bcast_S4096x1_S4096x128_0_1 (broadcastInDim S4096x1 ![0] bcast_S4096_S4096x1_0 (shapeCast S4096 (iotaInDim S64x64 32 0) shapeCasts_S64x64_S4096)))))
    (broadcastInDim S4096x128 ![0, 1] bcast_S1x128_S4096x128_0_1 (broadcastInDim S1x128 ![1] bcast_S128_S1x128_1 (shapeCast S128 (broadcastInDim S8x16 ![1] bcast_S16_S8x16_1 freqs) shapeCasts_S8x16_S128)))
abbrev zerosT : FVec Ideal S4096x128 .f32 := broadcastInDim S4096x128 ![] bcast_S_S4096x128 (constant S_ .f32 0x00000000#32)
abbrev firstT : IVec S4096x128 1 := broadcastInDim S4096x128 ![0, 1] bcast_S1x128_S4096x128_0_1 (broadcastInDim S1x128 ![1] bcast_S128_S1x128_1 isFirst)

set_option maxHeartbeats 4000000 in
theorem V_cos : V m c main_v111 = Host.cos anglesT := by
  show StableHlo.after (hostOps0 (F := Ideal)) _ (Proc.devRef .tc main_v111) = _
  after_results
  rfl
set_option maxHeartbeats 4000000 in
theorem V_above : V m c main_v115 = select firstT (Host.negf (Host.sin anglesT)) zerosT := by
  show StableHlo.after (hostOps0 (F := Ideal)) _ (Proc.devRef .tc main_v115) = _
  after_results
  rfl
set_option maxHeartbeats 4000000 in
theorem V_below : V m c main_v117 = select firstT zerosT (Host.sin anglesT) := by
  show StableHlo.after (hostOps0 (F := Ideal)) _ (Proc.devRef .tc main_v117) = _
  after_results
  rfl

theorem byCol_apply (l : Fin 128) : byCol (ix1 l) = if l.val / 32 % 2 = 1 then 1#1 else 0#1 := by
  have e : shapeCast S128 (iotaInDim S2x2x32 32 1) shapeCasts_S2x2x32_S128 (ix1 l) = BitVec.ofNat 32 (l.val / 32 % 2) := by
    refine (shapeCast_apply (s := S2x2x32) (t := S128) _ _ _ (ix3 ⟨l.val / 64, by omega⟩ ⟨l.val / 32 % 2, by omega⟩ ⟨l.val % 32, by omega⟩) ?_).trans rfl
    rw [Shape.rowMajor_val_three, Shape.rowMajor_val_one]
    show (l.val / 64 * 2 + l.val / 32 % 2) * 32 + l.val % 32 = l.val
    omega
  unfold byCol
  generalize shapeCast S128 (iotaInDim S2x2x32 32 1) shapeCasts_S2x2x32_S128 = w at e ⊢
  pointwise []
  rw [e]
  rcases (by omega : l.val / 32 % 2 = 0 ∨ l.val / 32 % 2 = 1) with h | h <;> rw [h] <;> rfl
theorem isFirst_apply (l : Fin 128) : isFirst (ix1 l) = if l.val % 32 < 16 then 1#1 else 0#1 := by
  have e : shapeCast S128 (iotaInDim S4x2x16 32 1) shapeCasts_S4x2x16_S128 (ix1 l) = BitVec.ofNat 32 (l.val / 16 % 2) := by
    refine (shapeCast_apply (s := S4x2x16) (t := S128) _ _ _ (ix3 ⟨l.val / 32, by omega⟩ ⟨l.val / 16 % 2, by omega⟩ ⟨l.val % 16, by omega⟩) ?_).trans rfl
    rw [Shape.rowMajor_val_three, Shape.rowMajor_val_one]
    show (l.val / 32 * 2 + l.val / 16 % 2) * 16 + l.val % 16 = l.val
    omega
  unfold isFirst
  generalize shapeCast S128 (iotaInDim S4x2x16 32 1) shapeCasts_S4x2x16_S128 = w at e ⊢
  pointwise []
  rw [e]
  by_cases h : l.val % 32 < 16
  · rw [if_pos h, (by omega : l.val / 16 % 2 = 0)]; rfl
  · rw [if_neg h, (by omega : l.val / 16 % 2 = 1)]; rfl
theorem grid_word (a : Fin 2) (s : Fin 4096) : shapeCast S4096 (iotaInDim S64x64 32 a) shapeCasts_S64x64_S4096 (ix1 s) = BitVec.ofNat 32 (if a = 1 then s.val % 64 else s.val / 64) := by
  refine (shapeCast_apply (s := S64x64) (t := S4096) _ _ _ (ix2 ⟨s.val / 64, by omega⟩ ⟨s.val % 64, by omega⟩) ?_).trans ?_
  · rw [Shape.rowMajor_val_two, Shape.rowMajor_val_one]
    show s.val / 64 * 64 + s.val % 64 = s.val
    omega
  · match a with
    | 0 => rfl
    | 1 => rfl
theorem freqs_apply (l : Fin 128) : shapeCast S128 (broadcastInDim S8x16 ![1] bcast_S16_S8x16_1 freqs) shapeCasts_S8x16_S128 (ix1 l) = freq ⟨l.val % 16, by omega⟩ := by
  refine (shapeCast_apply (s := S8x16) (t := S128) _ _ _ (ix2 ⟨l.val / 16, by omega⟩ ⟨l.val % 16, by omega⟩) ?_).trans ?_
  · rw [Shape.rowMajor_val_two, Shape.rowMajor_val_one]
    show l.val / 16 * 16 + l.val % 16 = l.val
    omega
  · unfold freq
    generalize freqs = f
    pointwise []

theorem anglesT_apply (s : Fin 4096) (n : Fin 512) (l : Fin 128) (hl : l.val = n.val % 128) : anglesT (ix2 s l) = angle freq s n := by
  have h1 := byCol_apply l
  have h2 := grid_word 0 s
  have h3 := grid_word 1 s
  have h4 := freqs_apply l
  have h5 : (⟨l.val % 16, by omega⟩ : Fin 16) = ⟨n.val % 16, by omega⟩ := Fin.ext (show l.val % 16 = n.val % 16 by omega)
  have h6 : l.val / 32 % 2 = n.val / 32 % 2 := by omega
  rw [h5] at h4
  rw [h6] at h1
  unfold anglesT angle coord
  generalize byCol = u at h1 ⊢
  generalize shapeCast S4096 (iotaInDim S64x64 32 0) shapeCasts_S64x64_S4096 = w0 at h2 ⊢
  generalize shapeCast S4096 (iotaInDim S64x64 32 1) shapeCasts_S64x64_S4096 = w1 at h3 ⊢
  generalize shapeCast S128 (broadcastInDim S8x16 ![1] bcast_S16_S8x16_1 freqs) shapeCasts_S8x16_S128 = f at h4 ⊢
  pointwise []
  rw [h1, h2, h3, h4]
  by_cases h : n.val / 32 % 2 = 1
  · simp [h]; rfl
  · simp [h]; rfl

/-- The tables, read at a position and a channel. -/
theorem cos_apply (s : Fin 4096) (n : Fin 512) (l : Fin 128) (hl : l.val = n.val % 128) : V m c main_v111 (ix2 s l) = Ideal.cos (angle freq s n) := by
  rw [V_cos]
  exact congrArg Ideal.cos (anglesT_apply s n l hl)
theorem firstT_apply (s : Fin 4096) (l : Fin 128) : firstT (ix2 s l) = if l.val % 32 < 16 then 1#1 else 0#1 := by
  rw [← isFirst_apply]
  unfold firstT
  generalize isFirst = u
  pointwise []
theorem zerosT_apply (i : S4096x128.Idx) : zerosT i = 0 := Ideal.ofBits_zero_f32
theorem above_apply (s : Fin 4096) (n : Fin 512) (l : Fin 128) (hl : l.val = n.val % 128) :
    V m c main_v115 (ix2 s l) = if n.val % 32 < 16 then -Ideal.sin (angle freq s n) else 0 := by
  rw [V_above, ← anglesT_apply s n l hl]
  have h1 := firstT_apply s l
  have h2 := zerosT_apply (ix2 s l)
  rw [(by omega : l.val % 32 = n.val % 32)] at h1
  generalize firstT = u at h1 ⊢
  generalize zerosT = z at h2 ⊢
  generalize anglesT = g
  pointwise []
  rw [h1, h2]
  by_cases h : n.val % 32 < 16 <;> simp [h] <;> rfl
theorem below_apply (s : Fin 4096) (n : Fin 512) (l : Fin 128) (hl : l.val = n.val % 128) :
    V m c main_v117 (ix2 s l) = if n.val % 32 < 16 then 0 else Ideal.sin (angle freq s n) := by
  rw [V_below, ← anglesT_apply s n l hl]
  have h1 := firstT_apply s l
  have h2 := zerosT_apply (ix2 s l)
  rw [(by omega : l.val % 32 = n.val % 32)] at h1
  generalize firstT = u at h1 ⊢
  generalize zerosT = z at h2 ⊢
  generalize anglesT = g
  pointwise []
  rw [h1, h2]
  by_cases h : n.val % 32 < 16 <;> simp [h] <;> rfl

end Cert.Kernel2Ideal.Project
end
-- ==== Proof.InScale.lean ====
/-
  THE SOFTMAX'S SCALE is a positive number, so it comes out of sums and turns.
-/
module

public import proofs.«01_k».proof.Proof.InTurn

@[expose] public section

noncomputable section

namespace Cert.Project

open Idealize.ShloMosaic Idealize.ShloMosaic.Pointwise Cert.Tail

/-- The softmax's scale, in base 2. -/
def scale : EReal := Ideal.ofBits .f32 0x3E38AA3B#32
theorem scale_real : ∃ r : ℝ, 0 ≤ r ∧ scale = (r : EReal) := by
  refine ⟨(12102203 : ℝ) * 2 ^ (-26 : ℤ), by positivity, ?_⟩
  simp [scale, Ideal.ofBits, Ideal.ieee]
theorem scale_nonneg : 0 ≤ scale := by
  obtain ⟨r, h, e⟩ := scale_real
  rw [e]
  exact EReal.coe_nonneg.2 h
theorem scale_ne_top : scale ≠ ⊤ := by
  obtain ⟨r, -, e⟩ := scale_real
  rw [e]
  exact EReal.coe_ne_top r

/-- A matrix whose column is scaled gives a row whose entry is scaled. -/
theorem mv_scale {n p : ℕ} (v : Row n) (W W' : Arr n p) (k k' : Fin p) (h : ∀ i, W (ix2 i k) = W' (ix2 i k') * scale) : mv v W k = mv v W' k' * scale := by
  unfold mv
  rw [← sum_scale _ _ scale_nonneg scale_ne_top]
  exact Finset.sum_congr rfl fun i _ => (congrArg (v i * ·) (h i)).trans (mul_assoc _ _ _).symm

end Cert.Project
end
-- ==== Proof.InPlaces.lean ====
/-
  THE QUERIES' AND KEYS' ARRAYS. The tables' blocks are the rows of a grid point's positions, and the scale of the matrix's first
  columns comes out of the turned rows, so the blocks written are parts of the arrays of Proof/InTurn.lean and cover them.
-/
module

public import proofs.«01_k».proof.Proof.InArray
public import proofs.«01_k».proof.Proof.InQueries
public import proofs.«01_k».proof.Proof.InKeys
public import proofs.«01_k».proof.Proof.InTable
public import proofs.«01_k».proof.Proof.InScale

@[expose] public section

set_option maxRecDepth 16384
set_option maxHeartbeats 1000000

noncomputable section

namespace Cert.Kernel2Ideal.Project

open Idealize.ShloMosaic Idealize.ShloMosaic.TcCoe Idealize.ShloMosaic.Pointwise Idealize.SL.Sem
open Idealize.ShloMosaic.Pipeline (Dat)
open Cert.Kernel2Ideal Cert.Kernel2Ideal.Gen Cert.Kernel2Ideal.Frame Cert.Tail Cert.Project

variable (m : (ℓ : Loc nD τ sig) → Buf (Elt Ideal) ℓ) (c : Dev nD)

theorem index4 : ∀ t : Fin cfg0.N, win0_4.index t 0 = t.val / 8 ∧ win0_4.index t 1 = 0 :=
  (by decide +kernel : ∀ t : Fin grid0.N, win0_4.index t 0 = t.val / 8 ∧ win0_4.index t 1 = 0)
theorem index5 : ∀ t : Fin cfg0.N, win0_5.index t 0 = t.val / 8 ∧ win0_5.index t 1 = 0 :=
  (by decide +kernel : ∀ t : Fin grid0.N, win0_5.index t 0 = t.val / 8 ∧ win0_5.index t 1 = 0)
theorem index6 : ∀ t : Fin cfg0.N, win0_6.index t 0 = t.val / 8 ∧ win0_6.index t 1 = 0 :=
  (by decide +kernel : ∀ t : Fin grid0.N, win0_6.index t 0 = t.val / 8 ∧ win0_6.index t 1 = 0)
theorem index19 : ∀ t : Fin cfg0.N, win0_19.index t 0 = t.val % 8 ∧ win0_19.index t 1 = 0 ∧ win0_19.index t 2 = t.val / 8 ∧ win0_19.index t 3 = 0 :=
  (by decide +kernel : ∀ t : Fin grid0.N, win0_19.index t 0 = t.val % 8 ∧ win0_19.index t 1 = 0 ∧ win0_19.index t 2 = t.val / 8 ∧ win0_19.index t 3 = 0)
theorem index20 : ∀ t : Fin cfg0.N, win0_20.index t 0 = t.val % 8 ∧ win0_20.index t 1 = t.val / 8 ∧ win0_20.index t 2 = 0 ∧ win0_20.index t 3 = 0 :=
  (by decide +kernel : ∀ t : Fin grid0.N, win0_20.index t 0 = t.val % 8 ∧ win0_20.index t 1 = t.val / 8 ∧ win0_20.index t 2 = 0 ∧ win0_20.index t 3 = 0)

/-- The tables' blocks. -/
theorem tabC (t : Fin cfg0.N) (R : Fin 1024) (l : Fin 128) : (tabs m c t).C (ix2 R l) = V m c main_v111 (ix2 (pos t R) l) := by
  obtain ⟨h0, h1⟩ := index4 t
  refine Eq.trans (b := V m c main_v111 ((win0_4.rect t).emb (ix2 R l))) rfl (congrArg (V m c main_v111) (funext fun a => Fin.ext ?_))
  match a with
  | 0 => show win0_4.index t 0 * 1024 + 1 * R.val = 1024 * (t.val / 8) + R.val; omega
  | 1 => show win0_4.index t 1 * 128 + 1 * l.val = l.val; omega
theorem tabA (t : Fin cfg0.N) (R : Fin 1024) (l : Fin 128) : (tabs m c t).A (ix2 R l) = V m c main_v115 (ix2 (pos t R) l) := by
  obtain ⟨h0, h1⟩ := index5 t
  refine Eq.trans (b := V m c main_v115 ((win0_5.rect t).emb (ix2 R l))) rfl (congrArg (V m c main_v115) (funext fun a => Fin.ext ?_))
  match a with
  | 0 => show win0_5.index t 0 * 1024 + 1 * R.val = 1024 * (t.val / 8) + R.val; omega
  | 1 => show win0_5.index t 1 * 128 + 1 * l.val = l.val; omega
theorem tabS (t : Fin cfg0.N) (R : Fin 1024) (l : Fin 128) : (tabs m c t).S (ix2 R l) = V m c main_v117 (ix2 (pos t R) l) := by
  obtain ⟨h0, h1⟩ := index6 t
  refine Eq.trans (b := V m c main_v117 ((win0_6.rect t).emb (ix2 R l))) rfl (congrArg (V m c main_v117) (funext fun a => Fin.ext ?_))
  match a with
  | 0 => show win0_6.index t 0 * 1024 + 1 * R.val = 1024 * (t.val / 8) + R.val; omega
  | 1 => show win0_6.index t 1 * 128 + 1 * l.val = l.val; omega

/-- A block's columns turned by its tables are turned by their positions' angles. -/
theorem blks_spun (t : Fin cfg0.N) (o : ℕ) (ho : o + 512 ≤ 4096) (R : Fin 1024) (n : Fin 512) :
    (blks m c t).spun (tabs m c t) o ho R n = turned freq (pos t R) (fun n => (blks m c t).proj R ⟨o + n.val, by omega⟩) n :=
  spun_eq freq (pos t R) _ _ _ _ n ((tabC m c t R _).trans (cos_apply m c _ n _ rfl)) ((tabA m c t R _).trans (above_apply m c _ n _ rfl))
    ((tabS m c t R _).trans (below_apply m c _ n _ rfl))

/-- The first 512 columns carry the scale. -/
theorem scales_low (n : Fin 4096) (hn : n.val < 512) : scales (ix1 n) = scale := by
  pointwise [scales]
  simp [hn, scale]
theorem mat_low (t : Fin cfg0.N) (i : Fin 1024) (n : Fin 4096) (hn : n.val < 512) : (blks m c t).x3 (ix2 i n) = (argsOf m c).mat (ix2 i n) * scale := by
  rw [blk3, V_mat]
  have h := scales_low n hn
  generalize scales = S at h ⊢
  pointwise []
  rw [h]
  rfl
theorem proj_low (t : Fin cfg0.N) (R : Fin 1024) (n : Fin 4096) (hn : n.val < 512) : (blks m c t).proj R n = (argsOf m c).proj (smp t) (pos t R) n * scale := by
  unfold Blocks.proj Cert.Project.Arrays.proj
  rw [blks_row]
  exact mv_scale _ _ _ n n fun i => mat_low m c t i n hn

theorem spun_q (t : Fin cfg0.N) (R : Fin 1024) (n : Fin 512) :
    (blks m c t).spun (tabs m c t) 0 (by decide) R n = turned freq (pos t R) (fun n => (argsOf m c).proj (smp t) (pos t R) ⟨n.val, by omega⟩) n * scale := by
  rw [blks_spun, ← turned_scale _ _ _ _ scale_nonneg scale_ne_top]
  refine congrArg (fun z => turned freq (pos t R) z n) (funext fun k => ?_)
  have e : (⟨0 + k.val, by omega⟩ : Fin 4096) = ⟨k.val, by omega⟩ := Fin.ext (Nat.zero_add _)
  rw [e]
  exact proj_low m c t R _ k.isLt
theorem spun_k (t : Fin cfg0.N) (R : Fin 1024) (n : Fin 512) :
    (blks m c t).spun (tabs m c t) 512 (by decide) R n = turned freq (pos t R) (fun n => (argsOf m c).proj (smp t) (pos t R) ⟨512 + n.val, by omega⟩) n := by
  rw [blks_spun]
  refine congrArg (fun z => turned freq (pos t R) z n) (funext fun k => ?_)
  exact blks_proj m c t R _ (Nat.le_add_right _ _)

theorem flushed_q (t : Fin cfg0.N) : (dats m 0 c).flushed 19 t = ((cfg0.win 19).blk t).view.read (Elt Ideal) ((argsOf m c).q freq scale) := by
  show (cfg0.win 19).cut (grid0.coords t) ((dats m 0 c).after 19 t) = _
  rw [after19, q_block]
  obtain ⟨h0, h1, h2, h3⟩ := index19 t
  funext y
  have hy0 : (y 0).val < 1 := (y 0).isLt
  have hy1 : (y 1).val < 4 := (y 1).isLt
  have hy2 : (y 2).val < 1024 := (y 2).isLt
  have hy3 : (y 3).val < 128 := (y 3).isLt
  have e : (win0_19.rect t).emb y = (ix4 (smp t) ⟨(y 1).val, hy1⟩ (pos t ⟨(y 2).val, hy2⟩) ⟨(y 3).val, hy3⟩ : S8x4x4096x128.Idx) := by
    refine funext fun a => Fin.ext ?_
    match a with
    | 0 => show win0_19.index t 0 * 1 + 1 * (y 0).val = t.val % 8; omega
    | 1 => show win0_19.index t 1 * 4 + 1 * (y 1).val = (y 1).val; omega
    | 2 => show win0_19.index t 2 * 1024 + 1 * (y 2).val = 1024 * (t.val / 8) + (y 2).val; omega
    | 3 => show win0_19.index t 3 * 128 + 1 * (y 3).val = (y 3).val; omega
  refine Eq.trans (b := (blks m c t).spun (tabs m c t) 0 (by decide) ⟨(y 2).val, hy2⟩ ⟨128 * (y 1).val + (y 3).val, by omega⟩) rfl ?_
  rw [spun_q]
  exact (congrArg ((argsOf m c).q freq scale) e).symm
theorem cover_q (i : S8x4x4096x128.Idx) : ∃ t : Fin cfg0.N, (cfg0.win 19).flush t = true ∧ i ∈ ((cfg0.win 19).blk t).view.set := by
  have h0 : (i 0 : Nat) < 8 := (i 0).isLt
  have h1 : (i 1 : Nat) < 4 := (i 1).isLt
  have h2 : (i 2 : Nat) < 4096 := (i 2).isLt
  have h3 : (i 3 : Nat) < 128 := (i 3).isLt
  refine ⟨point (i 0 : Nat) (i 2 : Nat) h0 h2, flush0_19 _, ?_⟩
  obtain ⟨e0, e1, e2, e3⟩ := index19 (point (i 0 : Nat) (i 2 : Nat) h0 h2)
  show i ∈ ((View.whole main_v118_0).slice (win0_19.rect (point (i 0 : Nat) (i 2 : Nat) h0 h2))).set
  rw [View.set_slice_whole, Rect.mem_set_unit]
  intro a
  match a with
  | 0 => show win0_19.index _ 0 * 1 ≤ (i 0 : Nat) ∧ (i 0 : Nat) < win0_19.index _ 0 * 1 + 1; rw [e0]; dsimp only [point]; omega
  | 1 => show win0_19.index _ 1 * 4 ≤ (i 1 : Nat) ∧ (i 1 : Nat) < win0_19.index _ 1 * 4 + 4; rw [e1]; omega
  | 2 => show win0_19.index _ 2 * 1024 ≤ (i 2 : Nat) ∧ (i 2 : Nat) < win0_19.index _ 2 * 1024 + 1024; rw [e2]; dsimp only [point]; omega
  | 3 => show win0_19.index _ 3 * 128 ≤ (i 3 : Nat) ∧ (i 3 : Nat) < win0_19.index _ 3 * 128 + 128; rw [e3]; omega
theorem final_q : (dats m 0 c).arrAt 19 cfg0.N = (argsOf m c).q freq scale :=
  (dats m 0 c).arrAt_eq_of_cover 19 ((argsOf m c).q freq scale) (fun t _ => flushed_q m c t) cover_q

theorem flushed_k (t : Fin cfg0.N) : (dats m 0 c).flushed 20 t = ((cfg0.win 20).blk t).view.read (Elt Ideal) ((argsOf m c).k freq) := by
  show (cfg0.win 20).cut (grid0.coords t) ((dats m 0 c).after 20 t) = _
  rw [after20, k_block]
  obtain ⟨h0, h1, h2, h3⟩ := index20 t
  have ht := t32 t
  funext y
  have hy0 : (y 0).val < 1 := (y 0).isLt
  have hy1 : (y 1).val < 4 := (y 1).isLt
  have hy2 : (y 2).val < 512 := (y 2).isLt
  have hy3 : (y 3).val < 256 := (y 3).isLt
  have e : (win0_20.rect t).emb y = (ix4 (smp t) ⟨4 * (t.val / 8) + (y 1).val, by omega⟩ ⟨(y 2).val, hy2⟩ ⟨(y 3).val, hy3⟩ : S8x16x512x256.Idx) := by
    refine funext fun a => Fin.ext ?_
    match a with
    | 0 => show win0_20.index t 0 * 1 + 1 * (y 0).val = t.val % 8; omega
    | 1 => show win0_20.index t 1 * 4 + 1 * (y 1).val = 4 * (t.val / 8) + (y 1).val; omega
    | 2 => show win0_20.index t 2 * 512 + 1 * (y 2).val = (y 2).val; omega
    | 3 => show win0_20.index t 3 * 256 + 1 * (y 3).val = (y 3).val; omega
  have eg : group ⟨4 * (t.val / 8) + (y 1).val, by omega⟩ ⟨(y 3).val, hy3⟩ = pos t ⟨256 * (y 1).val + (y 3).val, by omega⟩ :=
    Fin.ext (show 256 * (4 * (t.val / 8) + (y 1).val) + (y 3).val = 1024 * (t.val / 8) + (256 * (y 1).val + (y 3).val) by omega)
  refine Eq.trans (b := (blks m c t).spun (tabs m c t) 512 (by decide) ⟨256 * (y 1).val + (y 3).val, by omega⟩ ⟨(y 2).val, hy2⟩) rfl ?_
  rw [spun_k, ← eg]
  exact (congrArg ((argsOf m c).k freq) e).symm
theorem cover_k (i : S8x16x512x256.Idx) : ∃ t : Fin cfg0.N, (cfg0.win 20).flush t = true ∧ i ∈ ((cfg0.win 20).blk t).view.set := by
  have h0 : (i 0 : Nat) < 8 := (i 0).isLt
  have h1 : (i 1 : Nat) < 16 := (i 1).isLt
  have h2 : (i 2 : Nat) < 512 := (i 2).isLt
  have h3 : (i 3 : Nat) < 256 := (i 3).isLt
  have hs : 256 * (i 1 : Nat) < 4096 := by omega
  refine ⟨point (i 0 : Nat) (256 * (i 1 : Nat)) h0 hs, flush0_20 _, ?_⟩
  obtain ⟨e0, e1, e2, e3⟩ := index20 (point (i 0 : Nat) (256 * (i 1 : Nat)) h0 hs)
  show i ∈ ((View.whole main_v118_1).slice (win0_20.rect (point (i 0 : Nat) (256 * (i 1 : Nat)) h0 hs))).set
  rw [View.set_slice_whole, Rect.mem_set_unit]
  intro a
  match a with
  | 0 => show win0_20.index _ 0 * 1 ≤ (i 0 : Nat) ∧ (i 0 : Nat) < win0_20.index _ 0 * 1 + 1; rw [e0]; dsimp only [point]; omega
  | 1 => show win0_20.index _ 1 * 4 ≤ (i 1 : Nat) ∧ (i 1 : Nat) < win0_20.index _ 1 * 4 + 4; rw [e1]; dsimp only [point]; omega
  | 2 => show win0_20.index _ 2 * 512 ≤ (i 2 : Nat) ∧ (i 2 : Nat) < win0_20.index _ 2 * 512 + 512; rw [e2]; omega
  | 3 => show win0_20.index _ 3 * 256 ≤ (i 3 : Nat) ∧ (i 3 : Nat) < win0_20.index _ 3 * 256 + 256; rw [e3]; omega
theorem final_k : (dats m 0 c).arrAt 20 cfg0.N = (argsOf m c).k freq :=
  (dats m 0 c).arrAt_eq_of_cover 20 ((argsOf m c).k freq) (fun t _ => flushed_k m c t) cover_k

/-- The kernel's run: the six result arrays hold the projected parts, the arguments are unchanged. -/
theorem run (ρ : Dev nD → PrngReg) : θ_run defs (onTc (τ := τ) (main (F := Ideal))) ⟨m, fun _ => 0, ρ⟩ fun r => ∀ c : Dev nD,
      (r.2.mem ((c.tc : Thread nD τ).loc main_v118_0) = (argsOf m c).q freq scale
      ∧ r.2.mem ((c.tc : Thread nD τ).loc main_v118_1) = (argsOf m c).k freq
      ∧ r.2.mem ((c.tc : Thread nD τ).loc main_v118_2) = (argsOf m c).v
      ∧ r.2.mem ((c.tc : Thread nD τ).loc main_v118_3) = (argsOf m c).u
      ∧ r.2.mem ((c.tc : Thread nD τ).loc main_v118_5) = (argsOf m c).ga
      ∧ r.2.mem ((c.tc : Thread nD τ).loc main_v118_6) = (argsOf m c).gs)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨⟨((h.1 c).1 19).trans (final_q m c), ((h.1 c).1 20).trans (final_k m c), ((h.1 c).1 21).trans (final_v m c), ((h.1 c).1 22).trans (final_u m c), ((h.1 c).1 24).trans (final_ga m c), ((h.1 c).1 25).trans (final_gs m c)⟩, h.2.1 c⟩)
    (θ_run_and (run_arrays m ρ) (Frame.frame m ρ))

end Cert.Kernel2Ideal.Project
end
-- ==== Proof.InRopePlain.lean ====
/-
  THE REFERENCE'S ROTARY EMBEDDING, read at an index: the two halves of every head, each a pair of runs of 16 channels turned by the
  angles of the grid's rows or columns, are the turned rows of Proof/InTurn.lean.
-/
module

public import proofs.«01_k».proof.Proof.InScale
public import proofs.«01_k».proof.Proof.Gen.Reference2Ideal.Run
public import Idealize.ShloMosaic.Lib.Pointwise
public import Idealize.ShloMosaic.Lib.IdealHost
public import Idealize.ShloMosaic.Lib.Pipeline.Value

@[expose] public section

set_option maxRecDepth 16384
set_option maxHeartbeats 1000000

noncomputable section

namespace Cert.Reference2Ideal.Plain

open Idealize.ShloMosaic Idealize.ShloMosaic.TcCoe Idealize.ShloMosaic.Pointwise Idealize.ShloMosaic.StableHlo Idealize.SL.Sem
open Cert.Reference2Ideal Cert.Reference2Ideal.Gen Cert.Reference2Ideal.Value Cert.Project

/-- The sixteen frequencies, as an array and one by one. -/
abbrev freqs : FVec Ideal S16 .f32 := fun i => FloatOps.ofBits .f32 (lit0 (S16.rowMajor i))
def freq : Fin 16 → EReal := fun j => freqs (ix1 j)

/-- The angles of all positions along a grid axis. -/
abbrev angles (a : Fin 2) : FVec Ideal S4096x16 .f32 :=
  mulf (broadcastInDim S4096x16 ![0, 1] bcast_S4096x1_S4096x16_0_1 (broadcastInDim S4096x1 ![0] bcast_S4096_S4096x1_0 (sitofp .f32 (shapeCast _ (iotaInDim S64x64 32 a) shapeCasts_S64x64_S4096))))
    (broadcastInDim S4096x16 ![0, 1] bcast_S1x16_S4096x16_0_1 (broadcastInDim S1x16 ![1] bcast_S16_S1x16_1 freqs))
/-- A position's coordinate along a grid axis. -/
def along (a : Fin 2) (s : Fin 4096) : ℕ := if a = 1 then s.val % 64 else s.val / 64

theorem coord_word (a : Fin 2) (s : Fin 4096) : shapeCast S4096 (iotaInDim S64x64 32 a) shapeCasts_S64x64_S4096 (ix1 s) = BitVec.ofNat 32 (along a s) := by
  refine (shapeCast_apply (s := S64x64) (t := S4096) _ _ _ (ix2 ⟨s.val / 64, by omega⟩ ⟨s.val % 64, by omega⟩) ?_).trans ?_
  · rw [Shape.rowMajor_val_two, Shape.rowMajor_val_one]
    show s.val / 64 * 64 + s.val % 64 = s.val
    omega
  · match a with
    | 0 => rfl
    | 1 => rfl
theorem angles_apply (a : Fin 2) (s : Fin 4096) (j : Fin 16) :
    angles a (ix2 s j) = (((BitVec.ofNat 32 (along a s)).toInt : ℝ) : EReal) * freq j := by
  rw [← coord_word]
  unfold angles freq
  generalize freqs = f
  generalize shapeCast S4096 (iotaInDim S64x64 32 a) shapeCasts_S64x64_S4096 = w
  pointwise []
  rfl

/-- Half of every head, turned by angles. -/
abbrev rotated (o : ℕ) (ho : S8x4096x8x64.Slices ![0, 0, 0, o] S8x4096x8x32) (H : FVec Ideal S8x4096x8x64 .f32) (G : FVec Ideal S4096x16 .f32) : FVec Ideal S8x4096x8x32 .f32 :=
  concatenate S8x4096x8x32 3
    [⟨S8x4096x8x16, (subf
      (mulf (extractStridedSlice S8x4096x8x16 ![0, 0, 0, 0] (extractStridedSlice S8x4096x8x32 ![0, 0, 0, o] H ho) slices_S8x4096x8x32_S8x4096x8x16_0_0_0_0) (broadcastInDim S8x4096x8x16 ![0, 1, 2, 3] bcast_S1x4096x1x16_S8x4096x8x16_0_1_2_3 (broadcastInDim S1x4096x1x16 ![1, 3] bcast_S4096x16_S1x4096x1x16_1_3 (Host.cos G))))
      (mulf (extractStridedSlice S8x4096x8x16 ![0, 0, 0, 16] (extractStridedSlice S8x4096x8x32 ![0, 0, 0, o] H ho) slices_S8x4096x8x32_S8x4096x8x16_0_0_0_16) (broadcastInDim S8x4096x8x16 ![0, 1, 2, 3] bcast_S1x4096x1x16_S8x4096x8x16_0_1_2_3 (broadcastInDim S1x4096x1x16 ![1, 3] bcast_S4096x16_S1x4096x1x16_1_3 (Host.sin G)))))⟩,
    ⟨S8x4096x8x16, (addf
      (mulf (extractStridedSlice S8x4096x8x16 ![0, 0, 0, 16] (extractStridedSlice S8x4096x8x32 ![0, 0, 0, o] H ho) slices_S8x4096x8x32_S8x4096x8x16_0_0_0_16) (broadcastInDim S8x4096x8x16 ![0, 1, 2, 3] bcast_S1x4096x1x16_S8x4096x8x16_0_1_2_3 (broadcastInDim S1x4096x1x16 ![1, 3] bcast_S4096x16_S1x4096x1x16_1_3 (Host.cos G))))
      (mulf (extractStridedSlice S8x4096x8x16 ![0, 0, 0, 0] (extractStridedSlice S8x4096x8x32 ![0, 0, 0, o] H ho) slices_S8x4096x8x32_S8x4096x8x16_0_0_0_0) (broadcastInDim S8x4096x8x16 ![0, 1, 2, 3] bcast_S1x4096x1x16_S8x4096x8x16_0_1_2_3 (broadcastInDim S1x4096x1x16 ![1, 3] bcast_S4096x16_S1x4096x1x16_1_3 (Host.sin G)))))⟩]
    concatenates_S8x4096x8x16_S8x4096x8x16_S8x4096x8x32_d3

theorem rotated_low (o : ℕ) (ho) (ho' : o + 32 ≤ 64) (H : FVec Ideal S8x4096x8x64 .f32) (G : FVec Ideal S4096x16 .f32) (b : Fin 8) (s : Fin 4096) (h : Fin 8) (j : Fin 32) (hj : j.val < 16) :
    rotated o ho H G (ix4 b s h j) = H (ix4 b s h ⟨o + j.val, by omega⟩) * Ideal.cos (G (ix2 s ⟨j.val, hj⟩)) - H (ix4 b s h ⟨o + (16 + j.val), by omega⟩) * Ideal.sin (G (ix2 s ⟨j.val, hj⟩)) := by
  pointwise [rotated]
  simp [hj]
theorem rotated_high (o : ℕ) (ho) (ho' : o + 32 ≤ 64) (H : FVec Ideal S8x4096x8x64 .f32) (G : FVec Ideal S4096x16 .f32) (b : Fin 8) (s : Fin 4096) (h : Fin 8) (j : Fin 32) (hj : ¬ j.val < 16) :
    rotated o ho H G (ix4 b s h j) = H (ix4 b s h ⟨o + (16 + (j.val - 16)), by omega⟩) * Ideal.cos (G (ix2 s ⟨j.val - 16, by omega⟩)) + H (ix4 b s h ⟨o + (j.val - 16), by omega⟩) * Ideal.sin (G (ix2 s ⟨j.val - 16, by omega⟩)) := by
  pointwise [rotated]
  simp [hj]

/-- The rotary embedding of 512 channels. -/
abbrev embedded (T : FVec Ideal S8x4096x512 .f32) : FVec Ideal S8x4096x512 .f32 :=
  shapeCast _ (concatenate S8x4096x8x64 3
    [⟨S8x4096x8x32, rotated 0 slices_S8x4096x8x64_S8x4096x8x32_0_0_0_0 (shapeCast _ T shapeCasts_S8x4096x512_S8x4096x8x64) (angles 0)⟩,
     ⟨S8x4096x8x32, rotated 32 slices_S8x4096x8x64_S8x4096x8x32_0_0_0_32 (shapeCast _ T shapeCasts_S8x4096x512_S8x4096x8x64) (angles 1)⟩]
    concatenates_S8x4096x8x32_S8x4096x8x32_S8x4096x8x64_d3) shapeCasts_S8x4096x8x64_S8x4096x512

/-- A head's channel in the flat row. -/
theorem heads_apply (T : FVec Ideal S8x4096x512 .f32) (b : Fin 8) (s : Fin 4096) (h : Fin 8) (r : Fin 64) (c : Fin 512) (hc : c.val = 64 * h.val + r.val) :
    shapeCast S8x4096x8x64 T shapeCasts_S8x4096x512_S8x4096x8x64 (ix4 b s h r) = T (ix3 b s c) := by
  refine shapeCast_apply (s := S8x4096x512) (t := S8x4096x8x64) _ _ _ _ ?_
  rw [Shape.rowMajor_val_three, Shape.rowMajor_val_four]
  show (b.val * 4096 + s.val) * 512 + c.val = ((b.val * 4096 + s.val) * 8 + h.val) * 64 + r.val
  omega
theorem flat_apply (H : FVec Ideal S8x4096x8x64 .f32) (b : Fin 8) (s : Fin 4096) (c : Fin 512) :
    shapeCast S8x4096x512 H shapeCasts_S8x4096x8x64_S8x4096x512 (ix3 b s c) = H (ix4 b s ⟨c.val / 64, by omega⟩ ⟨c.val % 64, by omega⟩) := by
  refine shapeCast_apply (s := S8x4096x8x64) (t := S8x4096x512) _ _ _ _ ?_
  rw [Shape.rowMajor_val_three, Shape.rowMajor_val_four]
  show ((b.val * 4096 + s.val) * 8 + c.val / 64) * 64 + c.val % 64 = (b.val * 4096 + s.val) * 512 + c.val
  omega

/-- A half read through the flat row: the half's angles are the channel's. -/
theorem rotated_apply (a : Fin 2) (ho) (T : FVec Ideal S8x4096x512 .f32) (b : Fin 8) (s : Fin 4096) (c : Fin 512) (j : Fin 32) (hj : j.val = c.val % 32) (ha : c.val / 32 % 2 = a.val) :
    rotated (32 * a.val) ho (shapeCast _ T shapeCasts_S8x4096x512_S8x4096x8x64) (angles a) (ix4 b s ⟨c.val / 64, by omega⟩ j) = turned freq s (fun n => T (ix3 b s n)) c := by
  have hc := c.isLt
  have hj' := j.isLt
  have hg : ∀ k : Fin 16, k.val = c.val % 16 → angles a (ix2 s k) = angle freq s c := fun k hk => by
    have e : along a s = coord s c := by
      unfold along coord
      rw [ha]
      match a with
      | 0 => rfl
      | 1 => rfl
    rw [angles_apply, e]
    exact congrArg (fun k => _ * freq k) (Fin.ext hk)
  unfold turned
  by_cases h : c.val % 32 < 16
  · rw [dif_pos h, rotated_low _ _ (by omega) _ _ _ _ _ _ (by omega), hg _ (show j.val = c.val % 16 by omega),
      heads_apply T b s _ _ c (show c.val = 64 * (c.val / 64) + (32 * a.val + j.val) by omega),
      heads_apply T b s _ _ ⟨c.val + 16, by omega⟩ (show c.val + 16 = 64 * (c.val / 64) + (32 * a.val + (16 + j.val)) by omega)]
  · rw [dif_neg h, rotated_high _ _ (by omega) _ _ _ _ _ _ (by omega), hg _ (show j.val - 16 = c.val % 16 by omega),
      heads_apply T b s _ _ c (show c.val = 64 * (c.val / 64) + (32 * a.val + (16 + (j.val - 16))) by omega),
      heads_apply T b s _ _ ⟨c.val - 16, by omega⟩ (show c.val - 16 = 64 * (c.val / 64) + (32 * a.val + (j.val - 16)) by omega)]

/-- Two halves of every head, put side by side. -/
theorem halves_apply (L R : FVec Ideal S8x4096x8x32 .f32) (b : Fin 8) (s : Fin 4096) (h : Fin 8) (r : Fin 64) :
    concatenate S8x4096x8x64 3 [⟨S8x4096x8x32, L⟩, ⟨S8x4096x8x32, R⟩] concatenates_S8x4096x8x32_S8x4096x8x32_S8x4096x8x64_d3 (ix4 b s h r)
      = if r.val < 32 then L (ix4 b s h ⟨r.val % 32, by omega⟩) else R (ix4 b s h ⟨r.val % 32, by omega⟩) := by
  by_cases hr : r.val < 32
  · have e : (⟨r.val % 32, by omega⟩ : Fin 32) = ⟨r.val, hr⟩ := Fin.ext (Nat.mod_eq_of_lt hr)
    rw [if_pos hr, e]
    pointwise []
    simp [hr]
  · have e : (⟨r.val % 32, by omega⟩ : Fin 32) = ⟨r.val - 32, by omega⟩ := Fin.ext (show r.val % 32 = r.val - 32 by omega)
    rw [if_neg hr, e]
    pointwise []
    simp [hr]

theorem embedded_apply (T : FVec Ideal S8x4096x512 .f32) (b : Fin 8) (s : Fin 4096) (c : Fin 512) :
    embedded T (ix3 b s c) = turned freq s (fun n => T (ix3 b s n)) c := by
  have hc := c.isLt
  unfold embedded
  rw [flat_apply, halves_apply]
  split
  · rename_i h
    exact rotated_apply 0 _ T b s c _ (show c.val % 64 % 32 = c.val % 32 by omega) (show c.val / 32 % 2 = 0 by have : c.val % 64 < 32 := h; omega)
  · rename_i h
    exact rotated_apply 1 _ T b s c _ (show c.val % 64 % 32 = c.val % 32 by omega) (show c.val / 32 % 2 = 1 by have : ¬ c.val % 64 < 32 := h; omega)

variable (A : Arrays) (P : FVec Ideal S8x4096x4096 .f32) (h : ∀ b s n, P (ix3 b s n) = A.proj b s n)

include h in
theorem q_eq : truncf .bf16 (transpose S8x4x4096x128 [0, 2, 1, 3] (shapeCast _ (mulf (embedded (extractStridedSlice S8x4096x512 ![0, 0, 0] P slices_S8x4096x4096_S8x4096x512_0_0_0)) (broadcastInDim S8x4096x512 ![] bcast_S_S8x4096x512 (constant S_ .f32 0x3E38AA3B#32))) shapeCasts_S8x4096x512_S8x4096x4x128) transposes_S8x4096x4x128_S8x4x4096x128_0_2_1_3) bitsLt_bf16_f32 = A.q freq scale := by
  funext i
  idx_vars i
  have h1 := i1.isLt
  have h2 := i2.isLt
  have h3 := i3.isLt
  have hk : 128 * i1.val + i3.val < 512 := by omega
  have hT : ∀ n : Fin 512, extractStridedSlice S8x4096x512 ![0, 0, 0] P slices_S8x4096x4096_S8x4096x512_0_0_0 (ix3 i0 i2 n) = A.proj i0 i2 ⟨n.val, by omega⟩ := fun n => by
    rw [← h]
    pointwise []
  have hE := embedded_apply (extractStridedSlice S8x4096x512 ![0, 0, 0] P slices_S8x4096x4096_S8x4096x512_0_0_0) i0 i2 ⟨128 * i1.val + i3.val, hk⟩
  simp only [hT] at hE
  refine Eq.trans ?_ (congrArg (· * scale) hE)
  generalize embedded (extractStridedSlice S8x4096x512 ![0, 0, 0] P slices_S8x4096x4096_S8x4096x512_0_0_0) = E
  have hS : ∀ E : FVec Ideal S8x4096x512 .f32, shapeCast S8x4096x4x128 E shapeCasts_S8x4096x512_S8x4096x4x128 (ix4 i0 i2 i1 i3) = E (ix3 i0 i2 ⟨128 * i1.val + i3.val, hk⟩) := fun E => by
    refine shapeCast_apply (s := S8x4096x512) (t := S8x4096x4x128) _ _ _ _ ?_
    rw [Shape.rowMajor_val_three, Shape.rowMajor_val_four]
    show (i0.val * 4096 + i2.val) * 512 + (128 * i1.val + i3.val) = ((i0.val * 4096 + i2.val) * 4 + i1.val) * 128 + i3.val
    omega
  refine Eq.trans ?_ (hS (mulf E (broadcastInDim S8x4096x512 ![] bcast_S_S8x4096x512 (constant S_ .f32 0x3E38AA3B#32))))
  generalize shapeCast S8x4096x4x128 (mulf E _) shapeCasts_S8x4096x512_S8x4096x4x128 = F
  pointwise []

/-- The keys' layout, read at an index. -/
theorem groups_apply (E : FVec Ideal S8x4096x512 .f32) (b : Fin 8) (g : Fin 16) (d : Fin 512) (p : Fin 256) :
    truncf .bf16 (transpose S8x16x512x256 [0, 1, 3, 2] (shapeCast _ E shapeCasts_S8x4096x512_S8x16x256x512) transposes_S8x16x256x512_S8x16x512x256_0_1_3_2) bitsLt_bf16_f32 (ix4 b g d p) = E (ix3 b (group g p) d) := by
  have hS : shapeCast S8x16x256x512 E shapeCasts_S8x4096x512_S8x16x256x512 (ix4 b g p d) = E (ix3 b (group g p) d) := by
    refine shapeCast_apply (s := S8x4096x512) (t := S8x16x256x512) _ _ _ _ ?_
    rw [Shape.rowMajor_val_three, Shape.rowMajor_val_four]
    show (b.val * 4096 + (256 * g.val + p.val)) * 512 + d.val = ((b.val * 16 + g.val) * 256 + p.val) * 512 + d.val
    omega
  rw [← hS]
  generalize shapeCast S8x16x256x512 E shapeCasts_S8x4096x512_S8x16x256x512 = F
  pointwise []

include h in
theorem k_eq : truncf .bf16 (transpose S8x16x512x256 [0, 1, 3, 2] (shapeCast _ (embedded (extractStridedSlice S8x4096x512 ![0, 0, 512] P slices_S8x4096x4096_S8x4096x512_0_0_512)) shapeCasts_S8x4096x512_S8x16x256x512) transposes_S8x16x256x512_S8x16x512x256_0_1_3_2) bitsLt_bf16_f32 = A.k freq := by
  funext i
  idx_vars i
  refine (groups_apply _ i0 i1 i2 i3).trans ((embedded_apply _ i0 (group i1 i3) i2).trans ?_)
  have hT : ∀ n : Fin 512, extractStridedSlice S8x4096x512 ![0, 0, 512] P slices_S8x4096x4096_S8x4096x512_0_0_512 (ix3 i0 (group i1 i3) n) = A.proj i0 (group i1 i3) ⟨512 + n.val, by omega⟩ := fun n => by
    rw [← h]
    generalize group i1 i3 = s
    pointwise []
  exact congrArg (fun z => turned freq (group i1 i3) z i2) (funext hT)

end Cert.Reference2Ideal.Plain
end
-- ==== Proof.InPlain.lean ====
/-
  THE PROJECTION'S REFERENCE, row by row: its composed terms are the row functions of Proof/InRow.lean of the argument arrays.
-/
module

public import proofs.«01_k».proof.Proof.InRopePlain
public import proofs.«01_k».proof.Proof.Gen.Reference2Ideal.Run
public import Idealize.ShloMosaic.Lib.Pointwise
public import Idealize.ShloMosaic.Lib.IdealHost
public import Idealize.ShloMosaic.Lib.Pipeline.Value

@[expose] public section

set_option maxRecDepth 16384
set_option maxHeartbeats 1000000

noncomputable section

namespace Cert.Reference2Ideal.Plain

open Idealize.ShloMosaic Idealize.ShloMosaic.TcCoe Idealize.ShloMosaic.Pointwise Idealize.ShloMosaic.StableHlo Idealize.SL.Sem
open Cert.Reference2Ideal Cert.Reference2Ideal.Gen Cert.Reference2Ideal.Value Cert.Project

/-- The modulated norm and the projection, as the reference computes them. -/
def normed (X : FVec Ideal S8x4096x1024 .f32) (MD : FVec Ideal S16x6144 .f32) (G : FVec Ideal S1x1024 .f32) : FVec Ideal S8x4096x1024 .f32 :=
  addf (mulf (mulf (mulf X
    (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf X X) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 (shapeCast _ G shapeCasts_S1x1024_S1024))))
    (broadcastInDim S8x4096x1024 ![0, 1, 2] bcast_S8x1x1024_S8x4096x1024_0_1_2 (addf (broadcastInDim S8x1x1024 ![] bcast_S_S8x1x1024 (constant S_ .f32 0x3F800000#32)) (extractStridedSlice S8x1x1024 ![0, 0, 1024] (broadcastInDim S8x1x6144 ![0, 2] bcast_S8x6144_S8x1x6144_0_2 (extractStridedSlice S8x6144 ![0, 0] MD slices_S16x6144_S8x6144_0_0)) slices_S8x1x6144_S8x1x1024_0_0_1024))))
    (broadcastInDim S8x4096x1024 ![0, 1, 2] bcast_S8x1x1024_S8x4096x1024_0_1_2 (extractStridedSlice S8x1x1024 ![0, 0, 0] (broadcastInDim S8x1x6144 ![0, 2] bcast_S8x6144_S8x1x6144_0_2 (extractStridedSlice S8x6144 ![0, 0] MD slices_S16x6144_S8x6144_0_0)) slices_S8x1x6144_S8x1x1024_0_0_0))
def projected (X : FVec Ideal S8x4096x1024 .f32) (MD : FVec Ideal S16x6144 .f32) (G : FVec Ideal S1x1024 .f32) (W : FVec Ideal S1x1024x4096 .f32) : FVec Ideal S8x4096x4096 .f32 :=
  Host.dotGeneral dot_S8x4096x1024_S1024x4096_S8x4096x4096_2_0_01_1_n_n none (normed X MD G) (shapeCast _ W shapeCasts_S1x1024x4096_S1024x4096)

variable (A : Arrays)

theorem normed_apply (b : Fin 8) (s : Fin 4096) (n : Fin 1024) : normed A.x A.md A.g (ix3 b s n) = A.row b s n := by
  unfold normed Arrays.row Arrays.part Arrays.gain Arrays.xrow Cert.Tail.modulated Cert.Tail.norm
  pointwise []

theorem projected_apply (b : Fin 8) (s : Fin 4096) (n : Fin 4096) : projected A.x A.md A.g A.win (ix3 b s n) = A.proj b s n := by
  unfold projected Arrays.proj Arrays.mat Cert.Tail.mv
  generalize hN : normed A.x A.md A.g = N
  have h : ∀ k, N (ix3 b s k) = A.row b s k := fun k => hN ▸ normed_apply A b s k
  pointwise []
  simp only [h]

/-- The unturned results from the projected rows. -/
theorem v_eq (P : FVec Ideal S8x4096x4096 .f32) (h : ∀ b s n, P (ix3 b s n) = A.proj b s n) :
    truncf .bf16 (transpose S8x4x4096x128 [0, 2, 1, 3] (shapeCast S8x4096x4x128 (extractStridedSlice S8x4096x512 ![0, 0, 1024] P slices_S8x4096x4096_S8x4096x512_0_0_1024) shapeCasts_S8x4096x512_S8x4096x4x128) transposes_S8x4096x4x128_S8x4x4096x128_0_2_1_3) bitsLt_bf16_f32 = A.v := by
  funext i
  idx_vars i
  have h1 := i1.isLt
  have h2 := i2.isLt
  have h3 := i3.isLt
  have hk : 128 * i1.val + i3.val < 512 := by omega
  refine Eq.trans (b := extractStridedSlice S8x4096x512 ![0, 0, 1024] P slices_S8x4096x4096_S8x4096x512_0_0_1024 (ix3 i0 i2 ⟨128 * i1.val + i3.val, hk⟩)) ?_ ?_
  · generalize extractStridedSlice S8x4096x512 ![0, 0, 1024] P slices_S8x4096x4096_S8x4096x512_0_0_1024 = E
    have hE : shapeCast S8x4096x4x128 E shapeCasts_S8x4096x512_S8x4096x4x128 (ix4 i0 i2 i1 i3) = E (ix3 i0 i2 ⟨128 * i1.val + i3.val, hk⟩) := by
      refine shapeCast_apply (s := S8x4096x512) (t := S8x4096x4x128) _ _ _ _ ?_
      rw [Shape.rowMajor_val_three, Shape.rowMajor_val_four]
      show (i0.val * 4096 + i2.val) * 512 + (128 * i1.val + i3.val) = ((i0.val * 4096 + i2.val) * 4 + i1.val) * 128 + i3.val
      omega
    rw [← hE]
    generalize shapeCast S8x4096x4x128 E shapeCasts_S8x4096x512_S8x4096x4x128 = F
    pointwise []
  · unfold Arrays.v
    pointwise []
    simp only [h]
    refine congrArg (A.proj i0 i2) (Fin.ext ?_)
    show 1024 + (128 * i1.val + i3.val) = 1024 + 128 * i1.val + i3.val
    omega

theorem u_eq (P : FVec Ideal S8x4096x4096 .f32) (h : ∀ b s n, P (ix3 b s n) = A.proj b s n) :
    truncf .bf16 (extractStridedSlice S8x4096x512 ![0, 0, 1536] P slices_S8x4096x4096_S8x4096x512_0_0_1536) bitsLt_bf16_f32 = A.u := by
  funext i
  idx_vars i
  unfold Arrays.u
  pointwise []
  simp only [h]

/-- The sigmoid written out. -/
theorem sig_eq (v : EReal) : Ideal.div (Ideal.ofBits .f32 0x3F800000#32) (Ideal.ofBits .f32 0x3F800000#32 + Ideal.exp (-v)) = Cert.Tail.sig v := by
  rw [Ideal.ofBits_one_f32]
  rfl

theorem gate_eq (o : ℕ) (ho : o + 1024 ≤ 4096) (hs : S8x4096x4096.Slices ![0, 0, o] S8x4096x1024) (P : FVec Ideal S8x4096x4096 .f32) (h : ∀ b s n, P (ix3 b s n) = A.proj b s n) :
    truncf .bf16 (Host.divf (broadcastInDim S8x4096x1024 ![] bcast_S_S8x4096x1024 (constant S_ .f32 0x3F800000#32)) (addf (broadcastInDim S8x4096x1024 ![] bcast_S_S8x4096x1024 (constant S_ .f32 0x3F800000#32)) (Host.exp (Host.negf (extractStridedSlice S8x4096x1024 ![0, 0, o] P hs))))) bitsLt_bf16_f32
      = fun i : S8x4096x1024.Idx => Cert.Tail.sig (A.proj (i 0) (i 1) ⟨o + (i 2).val, by have h2 : (i 2).val < 1024 := (i 2).isLt; omega⟩) := by
  funext i
  idx_vars i
  pointwise []
  simp only [h]
  rfl

/-- The argument arrays at launch. -/
def argsOf (m : (ℓ : Loc nD τ sig) → Buf (Elt Ideal) ℓ) (c : Dev nD) : Arrays :=
  ⟨m ((c.tc : Thread nD τ).loc main_arg0), m ((c.tc : Thread nD τ).loc main_arg1), m ((c.tc : Thread nD τ).loc main_arg2), m ((c.tc : Thread nD τ).loc main_arg3)⟩

/-- The projected rows of the arguments at launch. -/
theorem launched (m : (ℓ : Loc nD τ sig) → Buf (Elt Ideal) ℓ) (c : Dev nD) (b : Fin 8) (s n : Fin 4096) :
    res_main_v29 (launchContents m c) (ix3 b s n) = (argsOf m c).proj b s n :=
  projected_apply (argsOf m c) b s n

/-- The reference's run: the six results, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (r.2.mem ((c.tc : Thread nD τ).loc main_v95) = (argsOf m c).q freq scale
      ∧ r.2.mem ((c.tc : Thread nD τ).loc main_v153) = (argsOf m c).k freq
      ∧ r.2.mem ((c.tc : Thread nD τ).loc main_v156) = (argsOf m c).v
      ∧ r.2.mem ((c.tc : Thread nD τ).loc main_v157) = (argsOf m c).u
      ∧ r.2.mem ((c.tc : Thread nD τ).loc main_v164) = (argsOf m c).ga
      ∧ r.2.mem ((c.tc : Thread nD τ).loc main_v171) = (argsOf m c).gs)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run _ _ _).mono (fun _ h c => ⟨⟨(h c).1.trans (q_eq (argsOf m c) (res_main_v29 (launchContents m c)) (launched m c)), (h c).2.1.trans (k_eq (argsOf m c) (res_main_v29 (launchContents m c)) (launched m c)),
    (h c).2.2.1.trans (v_eq (argsOf m c) (res_main_v29 (launchContents m c)) (launched m c)), (h c).2.2.2.1.trans (u_eq (argsOf m c) (res_main_v29 (launchContents m c)) (launched m c)),
    (h c).2.2.2.2.1.trans (gate_eq (argsOf m c) 2048 (by decide) _ (res_main_v29 (launchContents m c)) (launched m c)), (h c).2.2.2.2.2.1.trans (gate_eq (argsOf m c) 3072 (by decide) _ (res_main_v29 (launchContents m c)) (launched m c))⟩,
    (h c).2.2.2.2.2.2⟩) (Cert.Reference2Ideal.Value.run m ρ)

end Cert.Reference2Ideal.Plain

end
-- ==== Proof.lean ====
/-
  THE CLAIM. The tail's values: kernel and reference both end with the array of `Cert.Tail` results (Proof/Row.lean) of the arguments they
  are started from, the kernel by Proof/Array.lean, the reference by Proof/Plain.lean. The input projection's values: the six arrays of
  `Cert.Project` (Proof/InRow.lean, Proof/InTurn.lean), the kernel by Proof/InPlaces.lean, the reference by Proof/InPlain.lean. Frames: the tail's are the
  generated ones, the projection's are Proof/InFrame.lean and Proof/BitFrame.lean.
-/
module

public import proofs.«01_k».proof.Defs
public import proofs.«01_k».proof.Proof.Gen.Kernel.Frame
public import proofs.«01_k».proof.Proof.Array
public import proofs.«01_k».proof.Proof.Plain
public import proofs.«01_k».proof.Proof.BitFrame
public import proofs.«01_k».proof.Proof.InPlaces
public import proofs.«01_k».proof.Proof.InPlain

@[expose] public section

noncomputable section

namespace Cert.Proof

open Idealize.ShloMosaic Idealize.SL.Sem Cert.Kernel

/-- The tail: kernel and reference compute the same array. -/
theorem values : Cert.algebraic_KernelIdeal_ReferenceIdeal := fun m ρ m' ρ' _ hag =>
  ⟨fun c => (Cert.KernelIdeal.Post.argsOf m c).out, Cert.KernelIdeal.Post.run m ρ,
    (θ_run _ _ _).mono (fun _ h c => ⟨(h c).1.trans (congrArg Cert.Tail.Arrays.out (by
      obtain ⟨h0, h1, h2, h3, h4, h5, h6, h7, h8, h9, h10, h11, h12, h13, h14, h15⟩ := hag c
      rw [Cert.ReferenceIdeal.Plain.launch_args, h0, h1, h2, h3, h4, h5, h6, h7, h8, h9, h10, h11, h12, h13, h14, h15]
      rfl)), (h c).2⟩) (Cert.ReferenceIdeal.Plain.run m' ρ')⟩

/-- The two programs' frequencies are the same sixteen numbers. -/
theorem freq_eq : Cert.Reference2Ideal.Plain.freq = Cert.Kernel2Ideal.Project.freq := rfl

/-- The input projection: kernel and reference compute the same six arrays. -/
theorem projection_values : Cert.algebraic_Kernel2Ideal_Reference2Ideal := fun m ρ m' ρ' _ hag =>
  ⟨fun c => (Cert.Kernel2Ideal.Project.argsOf m c).q Cert.Kernel2Ideal.Project.freq Cert.Project.scale, fun c => (Cert.Kernel2Ideal.Project.argsOf m c).k Cert.Kernel2Ideal.Project.freq,
    fun c => (Cert.Kernel2Ideal.Project.argsOf m c).v, fun c => (Cert.Kernel2Ideal.Project.argsOf m c).u,
    fun c => (Cert.Kernel2Ideal.Project.argsOf m c).ga, fun c => (Cert.Kernel2Ideal.Project.argsOf m c).gs,
    (θ_run _ _ _).mono (fun _ h c => ⟨(h c).1.1, (h c).1.2.1, (h c).1.2.2.1, (h c).1.2.2.2.1, (h c).1.2.2.2.2.1, (h c).1.2.2.2.2.2, (h c).2⟩) (Cert.Kernel2Ideal.Project.run m ρ),
    (θ_run _ _ _).mono (fun _ h c => by
      have e : Cert.Reference2Ideal.Plain.argsOf m' c = Cert.Kernel2Ideal.Project.argsOf m c := by
        obtain ⟨h0, h1, h2, h3, -⟩ := hag c
        unfold Cert.Reference2Ideal.Plain.argsOf
        rw [h0, h1, h2, h3]
        rfl
      have h' := h c
      rw [freq_eq] at h'
      exact ⟨h'.1.1.trans (congrArg (fun A => Cert.Project.Arrays.q A Cert.Kernel2Ideal.Project.freq Cert.Project.scale) e),
        h'.1.2.1.trans (congrArg (fun A => Cert.Project.Arrays.k A Cert.Kernel2Ideal.Project.freq) e),
        h'.1.2.2.1.trans (congrArg Cert.Project.Arrays.v e), h'.1.2.2.2.1.trans (congrArg Cert.Project.Arrays.u e),
        h'.1.2.2.2.2.1.trans (congrArg Cert.Project.Arrays.ga e), h'.1.2.2.2.2.2.trans (congrArg Cert.Project.Arrays.gs e), h'.2⟩) (Cert.Reference2Ideal.Plain.run m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  fun m ρ _ => Cert.Kernel.Gen.frame m ρ, fun m ρ _ => Cert.KernelIdeal.Gen.frame m ρ, fun m ρ _ =>
    (θ_run _ _ _).mono (fun r h => ⟨fun c => (h c).2, Idealize.ShloMosaic.sem_eq_zero_of_no_sems (by decide) r.2⟩) (Cert.ReferenceIdeal.Value.run m ρ),
  fun m ρ _ => Cert.Kernel2.Frame.frame m ρ, fun m ρ _ => Cert.Kernel2Ideal.Frame.frame m ρ, fun m ρ _ =>
    (θ_run _ _ _).mono (fun r h => ⟨fun c => (h c).2, Idealize.ShloMosaic.sem_eq_zero_of_no_sems (by decide) r.2⟩) (Cert.Reference2Ideal.Plain.run m ρ),
  trivial, values, trivial, projection_values⟩

end Cert.Proof

end
